-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_proj [hPre_finite_proj : Cert.Pre_finite_proj.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_proj.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_proj [hPre_finite_proj : Cert.Pre_finite_proj.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_proj.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite_proj [hKernel4Ideal : Cert.Kernel4Ideal.Facts] [hPre_finite_proj : Cert.Pre_finite_proj.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_proj m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite_proj [hReference4Ideal : Cert.Reference4Ideal.Facts] [hPre_finite_proj : Cert.Pre_finite_proj.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_proj m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite_proj [hKernel4Ideal : Cert.Kernel4Ideal.Facts] [hReference4Ideal : Cert.Reference4Ideal.Facts] [hPre_finite_proj : Cert.Pre_finite_proj.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_proj m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v34_0)) (v1 : (c : Dev Cert.Kernel4Ideal.nD) → Buf (Elt Ideal) ((c.tc : Thread Cert.Kernel4Ideal.nD Cert.Kernel4Ideal.τ).loc Cert.Kernel4Ideal.main_v34_1)) (v2 : (c : Dev Cert.Kernel4Ideal.nD) → Buf (Elt Ideal) ((c.tc : Thread Cert.Kernel4Ideal.nD Cert.Kernel4Ideal.τ).loc Cert.Kernel4Ideal.main_v34_2)) (v3 : (c : Dev Cert.Kernel4Ideal.nD) → Buf (Elt Ideal) ((c.tc : Thread Cert.Kernel4Ideal.nD Cert.Kernel4Ideal.τ).loc Cert.Kernel4Ideal.main_v34_3)) (v4 : (c : Dev Cert.Kernel4Ideal.nD) → Buf (Elt Ideal) ((c.tc : Thread Cert.Kernel4Ideal.nD Cert.Kernel4Ideal.τ).loc Cert.Kernel4Ideal.main_v34_4)) (v5 : (c : Dev Cert.Kernel4Ideal.nD) → Buf (Elt Ideal) ((c.tc : Thread Cert.Kernel4Ideal.nD Cert.Kernel4Ideal.τ).loc Cert.Kernel4Ideal.main_v34_5)) (v6 : (c : Dev Cert.Kernel4Ideal.nD) → Buf (Elt Ideal) ((c.tc : Thread Cert.Kernel4Ideal.nD Cert.Kernel4Ideal.τ).loc Cert.Kernel4Ideal.main_v34_6)) (v7 : (c : Dev Cert.Kernel4Ideal.nD) → Buf (Elt Ideal) ((c.tc : Thread Cert.Kernel4Ideal.nD Cert.Kernel4Ideal.τ).loc Cert.Kernel4Ideal.main_v34_7)) (v8 : (c : Dev Cert.Kernel4Ideal.nD) → Buf (Elt Ideal) ((c.tc : Thread Cert.Kernel4Ideal.nD Cert.Kernel4Ideal.τ).loc Cert.Kernel4Ideal.main_v34_8)) (v9 : (c : Dev Cert.Kernel4Ideal.nD) → Buf (Elt Ideal) ((c.tc : Thread Cert.Kernel4Ideal.nD Cert.Kernel4Ideal.τ).loc Cert.Kernel4Ideal.main_v34_9)) (v10 : (c : Dev Cert.Kernel4Ideal.nD) → Buf (Elt Ideal) ((c.tc : Thread Cert.Kernel4Ideal.nD Cert.Kernel4Ideal.τ).loc Cert.Kernel4Ideal.main_v34_10)) (v11 : (c : Dev Cert.Kernel4Ideal.nD) → Buf (Elt Ideal) ((c.tc : Thread Cert.Kernel4Ideal.nD Cert.Kernel4Ideal.τ).loc Cert.Kernel4Ideal.main_v34_11)) (v12 : (c : Dev Cert.Kernel4Ideal.nD) → Buf (Elt Ideal) ((c.tc : Thread Cert.Kernel4Ideal.nD Cert.Kernel4Ideal.τ).loc Cert.Kernel4Ideal.main_v34_12)) (v13 : (c : Dev Cert.Kernel4Ideal.nD) → Buf (Elt Ideal) ((c.tc : Thread Cert.Kernel4Ideal.nD Cert.Kernel4Ideal.τ).loc Cert.Kernel4Ideal.main_v34_13)) (v14 : (c : Dev Cert.Kernel4Ideal.nD) → Buf (Elt Ideal) ((c.tc : Thread Cert.Kernel4Ideal.nD Cert.Kernel4Ideal.τ).loc Cert.Kernel4Ideal.main_v34_14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v34_0) = v0 c
          ∧ r.2.mem ((c.tc : Thread Cert.Kernel4Ideal.nD Cert.Kernel4Ideal.τ).loc Cert.Kernel4Ideal.main_v34_1) = v1 c
          ∧ r.2.mem ((c.tc : Thread Cert.Kernel4Ideal.nD Cert.Kernel4Ideal.τ).loc Cert.Kernel4Ideal.main_v34_2) = v2 c
          ∧ r.2.mem ((c.tc : Thread Cert.Kernel4Ideal.nD Cert.Kernel4Ideal.τ).loc Cert.Kernel4Ideal.main_v34_3) = v3 c
          ∧ r.2.mem ((c.tc : Thread Cert.Kernel4Ideal.nD Cert.Kernel4Ideal.τ).loc Cert.Kernel4Ideal.main_v34_4) = v4 c
          ∧ r.2.mem ((c.tc : Thread Cert.Kernel4Ideal.nD Cert.Kernel4Ideal.τ).loc Cert.Kernel4Ideal.main_v34_5) = v5 c
          ∧ r.2.mem ((c.tc : Thread Cert.Kernel4Ideal.nD Cert.Kernel4Ideal.τ).loc Cert.Kernel4Ideal.main_v34_6) = v6 c
          ∧ r.2.mem ((c.tc : Thread Cert.Kernel4Ideal.nD Cert.Kernel4Ideal.τ).loc Cert.Kernel4Ideal.main_v34_7) = v7 c
          ∧ r.2.mem ((c.tc : Thread Cert.Kernel4Ideal.nD Cert.Kernel4Ideal.τ).loc Cert.Kernel4Ideal.main_v34_8) = v8 c
          ∧ r.2.mem ((c.tc : Thread Cert.Kernel4Ideal.nD Cert.Kernel4Ideal.τ).loc Cert.Kernel4Ideal.main_v34_9) = v9 c
          ∧ r.2.mem ((c.tc : Thread Cert.Kernel4Ideal.nD Cert.Kernel4Ideal.τ).loc Cert.Kernel4Ideal.main_v34_10) = v10 c
          ∧ r.2.mem ((c.tc : Thread Cert.Kernel4Ideal.nD Cert.Kernel4Ideal.τ).loc Cert.Kernel4Ideal.main_v34_11) = v11 c
          ∧ r.2.mem ((c.tc : Thread Cert.Kernel4Ideal.nD Cert.Kernel4Ideal.τ).loc Cert.Kernel4Ideal.main_v34_12) = v12 c
          ∧ r.2.mem ((c.tc : Thread Cert.Kernel4Ideal.nD Cert.Kernel4Ideal.τ).loc Cert.Kernel4Ideal.main_v34_13) = v13 c
          ∧ r.2.mem ((c.tc : Thread Cert.Kernel4Ideal.nD Cert.Kernel4Ideal.τ).loc Cert.Kernel4Ideal.main_v34_14) = v14 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_v129) = v2 c
          ∧ r.2.mem ((c.tc : Thread Cert.Reference4Ideal.nD Cert.Reference4Ideal.τ).loc Cert.Reference4Ideal.main_v143) = v3 c
          ∧ r.2.mem ((c.tc : Thread Cert.Reference4Ideal.nD Cert.Reference4Ideal.τ).loc Cert.Reference4Ideal.main_v21) = v4 c
          ∧ r.2.mem ((c.tc : Thread Cert.Reference4Ideal.nD Cert.Reference4Ideal.τ).loc Cert.Reference4Ideal.main_v95) = v5 c
          ∧ r.2.mem ((c.tc : Thread Cert.Reference4Ideal.nD Cert.Reference4Ideal.τ).loc Cert.Reference4Ideal.main_v128) = v6 c
          ∧ r.2.mem ((c.tc : Thread Cert.Reference4Ideal.nD Cert.Reference4Ideal.τ).loc Cert.Reference4Ideal.main_v149) = v7 c
          ∧ r.2.mem ((c.tc : Thread Cert.Reference4Ideal.nD Cert.Reference4Ideal.τ).loc Cert.Reference4Ideal.main_v25) = v8 c
          ∧ r.2.mem ((c.tc : Thread Cert.Reference4Ideal.nD Cert.Reference4Ideal.τ).loc Cert.Reference4Ideal.main_v150) = v9 c
          ∧ r.2.mem ((c.tc : Thread Cert.Reference4Ideal.nD Cert.Reference4Ideal.τ).loc Cert.Reference4Ideal.main_v157) = v10 c
          ∧ r.2.mem ((c.tc : Thread Cert.Reference4Ideal.nD Cert.Reference4Ideal.τ).loc Cert.Reference4Ideal.main_v161) = v11 c
          ∧ r.2.mem ((c.tc : Thread Cert.Reference4Ideal.nD Cert.Reference4Ideal.τ).loc Cert.Reference4Ideal.main_v165) = v12 c
          ∧ r.2.mem ((c.tc : Thread Cert.Reference4Ideal.nD Cert.Reference4Ideal.τ).loc Cert.Reference4Ideal.main_v169) = v13 c
          ∧ r.2.mem ((c.tc : Thread Cert.Reference4Ideal.nD Cert.Reference4Ideal.τ).loc Cert.Reference4Ideal.main_v174) = v14 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_inputs : Cert.Pre_finite_inputs.Facts) (hPre_finite_proj : Cert.Pre_finite_proj.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_proj (hKernel4Ideal := hKernel4Ideal) (hPre_finite_proj := hPre_finite_proj)
    ∧ quiescent_Reference4Ideal (hReference4Ideal := hReference4Ideal)
    ∧ quiescent_Reference4Ideal_pre_finite_proj (hReference4Ideal := hReference4Ideal) (hPre_finite_proj := hPre_finite_proj)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_proj (hKernel4Ideal := hKernel4Ideal) (hReference4Ideal := hReference4Ideal) (hPre_finite_proj := hPre_finite_proj)
-- ==== Pre_finite_inputs.lean ====
abbrev S8x2048x256 : Shape := ⟨3, ![8, 2048, 256]⟩
abbrev S8x2048x512 : Shape := ⟨3, ![8, 2048, 512]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  slices_S8x2048x512_S8x2048x256_0_0_0 : S8x2048x512.Slices ![0, 0, 0] S8x2048x256

variable [Facts]

def fn {F : FTy → Type} [FloatOps F] (main_arg0 : FVec F S8x2048x256 .f32) (main_arg1 : FVec F S8x2048x512 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x256 .f32 := (extractStridedSlice S8x2048x256 ![0, 0, 0] · slices_S8x2048x512_S8x2048x256_0_0_0) main_arg1
  let main_v5 : FVec F S8x2048x256 .f32 := Host.absf main_v4
  let main_cst_0 : FVec F S_ .f32 := constant S_ .f32 0x7F800000#32
  let main_v6 : FVec F S8x2048x256 .f32 := broadcastInDim S8x2048x256 ![] bcast_S_S8x2048x256 main_cst_0
  let main_v7 : IVec S8x2048x256 1 := cmpf .olt main_v5 main_v6
  let main_c_1 : IVec S_ 1 := constantI S_ 1 1#1
  let main_v8 : IVec S_ 1 := (fun x v => Host.reduce IntOp.andi x v reducesTo_S8x2048x256_S_d0_1_2 h_S_) main_v7 main_c_1
  let main_v9 : IVec S_ 1 := andi main_v3 main_v8
  main_v9
-- ==== Pre_finite_proj.lean ====
abbrev S16384x1024 : Shape := ⟨2, ![16384, 1024]⟩
abbrev S4x1024 : Shape := ⟨2, ![4, 1024]⟩
abbrev S4x1024x3840 : Shape := ⟨3, ![4, 1024, 3840]⟩
abbrev S4x64 : Shape := ⟨2, ![4, 64]⟩
abbrev S4x8x512x2048 : Shape := ⟨4, ![4, 8, 512, 2048]⟩
abbrev S4x8x256x2048 : Shape := ⟨4, ![4, 8, 256, 2048]⟩
abbrev S4x8x256x512 : Shape := ⟨4, ![4, 8, 256, 512]⟩
abbrev S1x1024 : Shape := ⟨2, ![1, 1024]⟩
abbrev S_ : Shape := ⟨0, ![]⟩
abbrev S1x1024x256 : Shape := ⟨3, ![1, 1024, 256]⟩
abbrev S1x1024x128 : Shape := ⟨3, ![1, 1024, 128]⟩

class Facts : Prop where
  slices_S4x1024_S1x1024_0_0 : S4x1024.Slices ![0, 0] S1x1024
  bcast_S_S1x1024 : S_.BroadcastsInDim S1x1024 (![] : Fin 0 → Fin S1x1024.rank)
  reducesTo_S1x1024_S_d0_1 : S1x1024.ReducesTo [0, 1] S_
  h_S_ : 0 < S_.numel
  slices_S4x1024x3840_S1x1024x256_0_0_768 : S4x1024x3840.Slices ![0, 0, 768] S1x1024x256
  bcast_S_S1x1024x256 : S_.BroadcastsInDim S1x1024x256 (![] : Fin 0 → Fin S1x1024x256.rank)
  reducesTo_S1x1024x256_S_d0_1_2 : S1x1024x256.ReducesTo [0, 1, 2] S_
  slices_S4x1024x3840_S1x1024x128_0_0_1280 : S4x1024x3840.Slices ![0, 0, 1280] S1x1024x128
  bcast_S_S1x1024x128 : S_.BroadcastsInDim S1x1024x128 (![] : Fin 0 → Fin S1x1024x128.rank)
  reducesTo_S1x1024x128_S_d0_1_2 : S1x1024x128.ReducesTo [0, 1, 2] S_
  slices_S4x1024x3840_S1x1024x128_0_0_1536 : S4x1024x3840.Slices ![0, 0, 1536] S1x1024x128

variable [Facts]

def fn_part1 {F : FTy → Type} [FloatOps F] (main_v16 : IVec S_ 1) (main_v17 : FVec F S1x1024x128 .f32) : IVec S_ 1 :=
  let main_v18 : FVec F S1x1024x128 .f32 := Host.absf main_v17
  let main_cst_4 : FVec F S_ .f32 := constant S_ .f32 0x7F800000#32
  let main_v19 : FVec F S1x1024x128 .f32 := broadcastInDim S1x1024x128 ![] bcast_S_S1x1024x128 main_cst_4
  let main_v20 : IVec S1x1024x128 1 := cmpf .olt main_v18 main_v19
  let main_c_5 : IVec S_ 1 := constantI S_ 1 1#1
  let main_v21 : IVec S_ 1 := (fun x v => Host.reduce IntOp.andi x v reducesTo_S1x1024x128_S_d0_1_2 h_S_) main_v20 main_c_5
  let main_v22 : IVec S_ 1 := andi main_v16 main_v21
  main_v22

def fn {F : FTy → Type} [FloatOps F] (main_arg0 : FVec F S16384x1024 .f32) (main_arg1 : FVec F S4x1024 .f32) (main_arg2 : FVec F S4x1024x3840 .f32) (main_arg3 : FVec F S4x64 .f32) (main_arg4 : FVec F S4x64 .f32) (main_arg5 : FVec F S4x8x512x2048 .f32) (main_arg6 : FVec F S4x8x256x2048 .f32) (main_arg7 : FVec F S4x8x256x2048 .f32) (main_arg8 : FVec F S4x8x256x512 .f32) : IVec S_ 1 :=
  let main_v0 : FVec F S1x1024 .f32 := (extractStridedSlice S1x1024 ![0, 0] · slices_S4x1024_S1x1024_0_0) main_arg1
  let main_v1 : FVec F S1x1024 .f32 := Host.absf main_v0
  let main_cst : FVec F S_ .f32 := constant S_ .f32 0x7F800000#32
  let main_v2 : FVec F S1x1024 .f32 := broadcastInDim S1x1024 ![] bcast_S_S1x1024 main_cst
  let main_v3 : IVec S1x1024 1 := cmpf .olt main_v1 main_v2
  let main_c : IVec S_ 1 := constantI S_ 1 1#1
  let main_v4 : IVec S_ 1 := (fun x v => Host.reduce IntOp.andi x v reducesTo_S1x1024_S_d0_1 h_S_) main_v3 main_c
  let main_v5 : FVec F S1x1024x256 .f32 := (extractStridedSlice S1x1024x256 ![0, 0, 768] · slices_S4x1024x3840_S1x1024x256_0_0_768) main_arg2
  let main_v6 : FVec F S1x1024x256 .f32 := Host.absf main_v5
  let main_cst_0 : FVec F S_ .f32 := constant S_ .f32 0x7F800000#32
  let main_v7 : FVec F S1x1024x256 .f32 := broadcastInDim S1x1024x256 ![] bcast_S_S1x1024x256 main_cst_0
  let main_v8 : IVec S1x1024x256 1 := cmpf .olt main_v6 main_v7
  let main_c_1 : IVec S_ 1 := constantI S_ 1 1#1
  let main_v9 : IVec S_ 1 := (fun x v => Host.reduce IntOp.andi x v reducesTo_S1x1024x256_S_d0_1_2 h_S_) main_v8 main_c_1
  let main_v10 : IVec S_ 1 := andi main_v4 main_v9
  let main_v11 : FVec F S1x1024x128 .f32 := (extractStridedSlice S1x1024x128 ![0, 0, 1280] · slices_S4x1024x3840_S1x1024x128_0_0_1280) main_arg2
  let main_v12 : FVec F S1x1024x128 .f32 := Host.absf main_v11
  let main_cst_2 : FVec F S_ .f32 := constant S_ .f32 0x7F800000#32
  let main_v13 : FVec F S1x1024x128 .f32 := broadcastInDim S1x1024x128 ![] bcast_S_S1x1024x128 main_cst_2
  let main_v14 : IVec S1x1024x128 1 := cmpf .olt main_v12 main_v13
  let main_c_3 : IVec S_ 1 := constantI S_ 1 1#1
  let main_v15 : IVec S_ 1 := (fun x v => Host.reduce IntOp.andi x v reducesTo_S1x1024x128_S_d0_1_2 h_S_) main_v14 main_c_3
  let main_v16 : IVec S_ 1 := andi main_v10 main_v15
  let main_v17 : FVec F S1x1024x128 .f32 := (extractStridedSlice S1x1024x128 ![0, 0, 1536] · slices_S4x1024x3840_S1x1024x128_0_0_1536) main_arg2
  fn_part1 (F := F) main_v16 main_v17
-- ==== Kernel.lean ====
abbrev S8x2048x256 : Shape := ⟨3, ![8, 2048, 256]⟩
abbrev S8x2048x512 : Shape := ⟨3, ![8, 2048, 512]⟩
abbrev S256x256 : Shape := ⟨2, ![256, 256]⟩
abbrev S1x256x256 : Shape := ⟨3, ![1, 256, 256]⟩
abbrev S1x2048x512 : Shape := ⟨3, ![1, 2048, 512]⟩
abbrev S8x256x256 : Shape := ⟨3, ![8, 256, 256]⟩
abbrev S1x256x512 : Shape := ⟨3, ![1, 256, 512]⟩
abbrev S256x512 : Shape := ⟨2, ![256, 512]⟩
abbrev S256x1 : Shape := ⟨2, ![256, 1]⟩
abbrev S1x256 : Shape := ⟨2, ![1, 256]⟩
abbrev S64x256 : Shape := ⟨2, ![64, 256]⟩
abbrev S1x64x256 : Shape := ⟨3, ![1, 64, 256]⟩

abbrev nBuf : Space → Nat
  | .hbm => 4
  | .vmem => 9
  | .smem => 0
  | _ => 0

abbrev bufTy : (tb : Table) → Fin (tcTables nBuf tb) → BufTy
  | .hbm, ⟨0, _⟩ => ⟨S8x2048x256, .f32⟩
  | .hbm, ⟨1, _⟩ => ⟨S8x2048x512, .f32⟩
  | .hbm, ⟨2, _⟩ => ⟨S256x256, .bf16⟩
  | .hbm, ⟨3, _⟩ => ⟨S8x2048x256, .f32⟩
  | .local _ .vmem, ⟨0, _⟩ => ⟨S1x256x256, .f32⟩
  | .local _ .vmem, ⟨1, _⟩ => ⟨S1x256x256, .f32⟩
  | .local _ .vmem, ⟨2, _⟩ => ⟨S1x2048x512, .f32⟩
  | .local _ .vmem, ⟨3, _⟩ => ⟨S1x2048x512, .f32⟩
  | .local _ .vmem, ⟨4, _⟩ => ⟨S256x256, .bf16⟩
  | .local _ .vmem, ⟨5, _⟩ => ⟨S1x256x256, .f32⟩
  | .local _ .vmem, ⟨6, _⟩ => ⟨S1x256x256, .f32⟩
  | .local _ .vmem, ⟨7, _⟩ => ⟨S8x256x256, .bf16⟩
  | .local _ .vmem, ⟨8, _⟩ => ⟨S8x256x256, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_off1 (i : grid0.Coords) : Fin 3 → Nat :=
  let arg1 : BitVec 32 := BitVec.ofNat 32 (i 1).val
  let c256_i32 : BitVec 32 := 256#32
  let v3 : BitVec 32 := Scalar.muli arg1 c256_i32
  let c256_i32_13 : BitVec 32 := 256#32
  let v50 : BitVec 32 := Scalar.addi v3 c256_i32_13
  let c1_i32_14 : BitVec 32 := 1#32
  let v51 : BitVec 32 := Scalar.subi v50 c1_i32_14
  let c0_i32_16 : BitVec 32 := 0#32
  let v53 : BitVec 1 := Scalar.cmpi .sgt v51 c0_i32_16
  let v54 : BitVec 32 := Scalar.extui v53
  let c0_i32_17 : BitVec 32 := 0#32
  let v55 : BitVec 1 := Scalar.cmpi .slt v51 c0_i32_17
  let v56 : BitVec 32 := Scalar.extui v55
  let v57 : BitVec 32 := Scalar.subi v54 v56
  let c256_i32_15 : BitVec 32 := 256#32
  let c0_i32_18 : BitVec 32 := 0#32
  let v58 : BitVec 1 := Scalar.cmpi .sgt c256_i32_15 c0_i32_18
  let v59 : BitVec 32 := Scalar.extui v58
  let c0_i32_19 : BitVec 32 := 0#32
  let v60 : BitVec 1 := Scalar.cmpi .slt c256_i32_15 c0_i32_19
  let v61 : BitVec 32 := Scalar.extui v60
  let v62 : BitVec 32 := Scalar.subi v59 v61
  let v63 : BitVec 1 := Scalar.cmpi .ne v57 v62
  let v64 : BitVec 32 := Scalar.remsi v51 c256_i32_15
  let c0_i32_20 : BitVec 32 := 0#32
  let v65 : BitVec 1 := Scalar.cmpi .ne v64 c0_i32_20
  let v66 : BitVec 1 := Scalar.andi v63 v65
  let v52 : BitVec 32 := Scalar.divsi v51 c256_i32_15
  let c1_i32_21 : BitVec 32 := 1#32
  let v67 : BitVec 32 := Scalar.subi v52 c1_i32_21
  let v68 : BitVec 32 := Scalar.select v66 v67 v52
  let v84 : Index := Scalar.indexCast v68
  let c0_31 : Index := 0#32
  let c0_32 : Index := 0#32
  ![v84.toNat, 0, 0]
def k0_off2 (i : grid0.Coords) : Fin 3 → Nat :=
  let arg1 : BitVec 32 := BitVec.ofNat 32 (i 1).val
  let c256_i32 : BitVec 32 := 256#32
  let v3 : BitVec 32 := Scalar.muli arg1 c256_i32
  let c256_i32_13 : BitVec 32 := 256#32
  let v50 : BitVec 32 := Scalar.addi v3 c256_i32_13
  let c1_i32_14 : BitVec 32 := 1#32
  let v51 : BitVec 32 := Scalar.subi v50 c1_i32_14
  let c0_i32_16 : BitVec 32 := 0#32
  let v53 : BitVec 1 := Scalar.cmpi .sgt v51 c0_i32_16
  let v54 : BitVec 32 := Scalar.extui v53
  let c0_i32_17 : BitVec 32 := 0#32
  let v55 : BitVec 1 := Scalar.cmpi .slt v51 c0_i32_17
  let v56 : BitVec 32 := Scalar.extui v55
  let v57 : BitVec 32 := Scalar.subi v54 v56
  let c256_i32_15 : BitVec 32 := 256#32
  let c0_i32_18 : BitVec 32 := 0#32
  let v58 : BitVec 1 := Scalar.cmpi .sgt c256_i32_15 c0_i32_18
  let v59 : BitVec 32 := Scalar.extui v58
  let c0_i32_19 : BitVec 32 := 0#32
  let v60 : BitVec 1 := Scalar.cmpi .slt c256_i32_15 c0_i32_19
  let v61 : BitVec 32 := Scalar.extui v60
  let v62 : BitVec 32 := Scalar.subi v59 v61
  let v63 : BitVec 1 := Scalar.cmpi .ne v57 v62
  let v64 : BitVec 32 := Scalar.remsi v51 c256_i32_15
  let c0_i32_20 : BitVec 32 := 0#32
  let v65 : BitVec 1 := Scalar.cmpi .ne v64 c0_i32_20
  let v66 : BitVec 1 := Scalar.andi v63 v65
  let v52 : BitVec 32 := Scalar.divsi v51 c256_i32_15
  let c1_i32_21 : BitVec 32 := 1#32
  let v67 : BitVec 32 := Scalar.subi v52 c1_i32_21
  let v68 : BitVec 32 := Scalar.select v66 v67 v52
  let v87 : Index := Scalar.indexCast v68
  let c64 : Index := 64#32
  let c0_33 : Index := 0#32
  ![v87.toNat, 64, 0]
def k0_off3 (i : grid0.Coords) : Fin 3 → Nat :=
  let arg1 : BitVec 32 := BitVec.ofNat 32 (i 1).val
  let c256_i32 : BitVec 32 := 256#32
  let v3 : BitVec 32 := Scalar.muli arg1 c256_i32
  let c256_i32_13 : BitVec 32 := 256#32
  let v50 : BitVec 32 := Scalar.addi v3 c256_i32_13
  let c1_i32_14 : BitVec 32 := 1#32
  let v51 : BitVec 32 := Scalar.subi v50 c1_i32_14
  let c0_i32_16 : BitVec 32 := 0#32
  let v53 : BitVec 1 := Scalar.cmpi .sgt v51 c0_i32_16
  let v54 : BitVec 32 := Scalar.extui v53
  let c0_i32_17 : BitVec 32 := 0#32
  let v55 : BitVec 1 := Scalar.cmpi .slt v51 c0_i32_17
  let v56 : BitVec 32 := Scalar.extui v55
  let v57 : BitVec 32 := Scalar.subi v54 v56
  let c256_i32_15 : BitVec 32 := 256#32
  let c0_i32_18 : BitVec 32 := 0#32
  let v58 : BitVec 1 := Scalar.cmpi .sgt c256_i32_15 c0_i32_18
  let v59 : BitVec 32 := Scalar.extui v58
  let c0_i32_19 : BitVec 32 := 0#32
  let v60 : BitVec 1 := Scalar.cmpi .slt c256_i32_15 c0_i32_19
  let v61 : BitVec 32 := Scalar.extui v60
  let v62 : BitVec 32 := Scalar.subi v59 v61
  let v63 : BitVec 1 := Scalar.cmpi .ne v57 v62
  let v64 : BitVec 32 := Scalar.remsi v51 c256_i32_15
  let c0_i32_20 : BitVec 32 := 0#32
  let v65 : BitVec 1 := Scalar.cmpi .ne v64 c0_i32_20
  let v66 : BitVec 1 := Scalar.andi v63 v65
  let v52 : BitVec 32 := Scalar.divsi v51 c256_i32_15
  let c1_i32_21 : BitVec 32 := 1#32
  let v67 : BitVec 32 := Scalar.subi v52 c1_i32_21
  let v68 : BitVec 32 := Scalar.select v66 v67 v52
  let v90 : Index := Scalar.indexCast v68
  let c128 : Index := 128#32
  let c0_34 : Index := 0#32
  ![v90.toNat, 128, 0]
def k0_off4 (i : grid0.Coords) : Fin 3 → Nat :=
  let arg1 : BitVec 32 := BitVec.ofNat 32 (i 1).val
  let c256_i32 : BitVec 32 := 256#32
  let v3 : BitVec 32 := Scalar.muli arg1 c256_i32
  let c256_i32_13 : BitVec 32 := 256#32
  let v50 : BitVec 32 := Scalar.addi v3 c256_i32_13
  let c1_i32_14 : BitVec 32 := 1#32
  let v51 : BitVec 32 := Scalar.subi v50 c1_i32_14
  let c0_i32_16 : BitVec 32 := 0#32
  let v53 : BitVec 1 := Scalar.cmpi .sgt v51 c0_i32_16
  let v54 : BitVec 32 := Scalar.extui v53
  let c0_i32_17 : BitVec 32 := 0#32
  let v55 : BitVec 1 := Scalar.cmpi .slt v51 c0_i32_17
  let v56 : BitVec 32 := Scalar.extui v55
  let v57 : BitVec 32 := Scalar.subi v54 v56
  let c256_i32_15 : BitVec 32 := 256#32
  let c0_i32_18 : BitVec 32 := 0#32
  let v58 : BitVec 1 := Scalar.cmpi .sgt c256_i32_15 c0_i32_18
  let v59 : BitVec 32 := Scalar.extui v58
  let c0_i32_19 : BitVec 32 := 0#32
  let v60 : BitVec 1 := Scalar.cmpi .slt c256_i32_15 c0_i32_19
  let v61 : BitVec 32 := Scalar.extui v60
  let v62 : BitVec 32 := Scalar.subi v59 v61
  let v63 : BitVec 1 := Scalar.cmpi .ne v57 v62
  let v64 : BitVec 32 := Scalar.remsi v51 c256_i32_15
  let c0_i32_20 : BitVec 32 := 0#32
  let v65 : BitVec 1 := Scalar.cmpi .ne v64 c0_i32_20
  let v66 : BitVec 1 := Scalar.andi v63 v65
  let v52 : BitVec 32 := Scalar.divsi v51 c256_i32_15
  let c1_i32_21 : BitVec 32 := 1#32
  let v67 : BitVec 32 := Scalar.subi v52 c1_i32_21
  let v68 : BitVec 32 := Scalar.select v66 v67 v52
  let v93 : Index := Scalar.indexCast v68
  let c192 : Index := 192#32
  let c0_35 : Index := 0#32
  ![v93.toNat, 192, 0]
def k0_off5 (i : grid0.Coords) : Fin 3 → Nat :=
  let arg1 : BitVec 32 := BitVec.ofNat 32 (i 1).val
  let c256_i32 : BitVec 32 := 256#32
  let v3 : BitVec 32 := Scalar.muli arg1 c256_i32
  let c256_i32_13 : BitVec 32 := 256#32
  let v50 : BitVec 32 := Scalar.addi v3 c256_i32_13
  let c1_i32_14 : BitVec 32 := 1#32
  let v51 : BitVec 32 := Scalar.subi v50 c1_i32_14
  let c0_i32_16 : BitVec 32 := 0#32
  let v53 : BitVec 1 := Scalar.cmpi .sgt v51 c0_i32_16
  let v54 : BitVec 32 := Scalar.extui v53
  let c0_i32_17 : BitVec 32 := 0#32
  let v55 : BitVec 1 := Scalar.cmpi .slt v51 c0_i32_17
  let v56 : BitVec 32 := Scalar.extui v55
  let v57 : BitVec 32 := Scalar.subi v54 v56
  let c256_i32_15 : BitVec 32 := 256#32
  let c0_i32_18 : BitVec 32 := 0#32
  let v58 : BitVec 1 := Scalar.cmpi .sgt c256_i32_15 c0_i32_18
  let v59 : BitVec 32 := Scalar.extui v58
  let c0_i32_19 : BitVec 32 := 0#32
  let v60 : BitVec 1 := Scalar.cmpi .slt c256_i32_15 c0_i32_19
  let v61 : BitVec 32 := Scalar.extui v60
  let v62 : BitVec 32 := Scalar.subi v59 v61
  let v63 : BitVec 1 := Scalar.cmpi .ne v57 v62
  let v64 : BitVec 32 := Scalar.remsi v51 c256_i32_15
  let c0_i32_20 : BitVec 32 := 0#32
  let v65 : BitVec 1 := Scalar.cmpi .ne v64 c0_i32_20
  let v66 : BitVec 1 := Scalar.andi v63 v65
  let v52 : BitVec 32 := Scalar.divsi v51 c256_i32_15
  let c1_i32_21 : BitVec 32 := 1#32
  let v67 : BitVec 32 := Scalar.subi v52 c1_i32_21
  let v68 : BitVec 32 := Scalar.select v66 v67 v52
  let v96 : Index := Scalar.indexCast v68
  let c0_36 : Index := 0#32
  let c0_37 : Index := 0#32
  ![v96.toNat, 0, 0]
@[reducible] def k0_t1_loop (i : grid0.Coords) : Scf.Loop 32 :=
  let c0_i32_74 : BitVec 32 := 0#32
  let arg1 : BitVec 32 := BitVec.ofNat 32 (i 1).val
  let c256_i32 : BitVec 32 := 256#32
  let v3 : BitVec 32 := Scalar.muli arg1 c256_i32
  let c256_i32_13 : BitVec 32 := 256#32
  let v50 : BitVec 32 := Scalar.addi v3 c256_i32_13
  let c1_i32_14 : BitVec 32 := 1#32
  let v51 : BitVec 32 := Scalar.subi v50 c1_i32_14
  let c0_i32_16 : BitVec 32 := 0#32
  let v53 : BitVec 1 := Scalar.cmpi .sgt v51 c0_i32_16
  let v54 : BitVec 32 := Scalar.extui v53
  let c0_i32_17 : BitVec 32 := 0#32
  let v55 : BitVec 1 := Scalar.cmpi .slt v51 c0_i32_17
  let v56 : BitVec 32 := Scalar.extui v55
  let v57 : BitVec 32 := Scalar.subi v54 v56
  let c256_i32_15 : BitVec 32 := 256#32
  let c0_i32_18 : BitVec 32 := 0#32
  let v58 : BitVec 1 := Scalar.cmpi .sgt c256_i32_15 c0_i32_18
  let v59 : BitVec 32 := Scalar.extui v58
  let c0_i32_19 : BitVec 32 := 0#32
  let v60 : BitVec 1 := Scalar.cmpi .slt c256_i32_15 c0_i32_19
  let v61 : BitVec 32 := Scalar.extui v60
  let v62 : BitVec 32 := Scalar.subi v59 v61
  let v63 : BitVec 1 := Scalar.cmpi .ne v57 v62
  let v64 : BitVec 32 := Scalar.remsi v51 c256_i32_15
  let c0_i32_20 : BitVec 32 := 0#32
  let v65 : BitVec 1 := Scalar.cmpi .ne v64 c0_i32_20
  let v66 : BitVec 1 := Scalar.andi v63 v65
  let v52 : BitVec 32 := Scalar.divsi v51 c256_i32_15
  let c1_i32_21 : BitVec 32 := 1#32
  let v67 : BitVec 32 := Scalar.subi v52 c1_i32_21
  let v68 : BitVec 32 := Scalar.select v66 v67 v52
  let v235 : BitVec 32 := Scalar.subi v68 c0_i32_74
  let c1_i32_75 : BitVec 32 := 1#32
  let v237 : BitVec 32 := Scalar.divsi v235 c1_i32_75
  let v238 : BitVec 32 := Scalar.muli v237 c1_i32_75
  let v239 : BitVec 32 := Scalar.addi c0_i32_74 v238
  let c1_i32_76 : BitVec 32 := 1#32
  ⟨c0_i32_74, v239, c1_i32_76⟩
def k0_off6 (i : grid0.Coords) (k0_t1 : Fin (k0_t1_loop i).trips) : Fin 3 → Nat :=
  let arg1 : BitVec 32 := BitVec.ofNat 32 (i 1).val
  let c256_i32 : BitVec 32 := 256#32
  let v3 : BitVec 32 := Scalar.muli arg1 c256_i32
  let c256_i32_13 : BitVec 32 := 256#32
  let v50 : BitVec 32 := Scalar.addi v3 c256_i32_13
  let c1_i32_14 : BitVec 32 := 1#32
  let v51 : BitVec 32 := Scalar.subi v50 c1_i32_14
  let c0_i32_16 : BitVec 32 := 0#32
  let v53 : BitVec 1 := Scalar.cmpi .sgt v51 c0_i32_16
  let v54 : BitVec 32 := Scalar.extui v53
  let c0_i32_17 : BitVec 32 := 0#32
  let v55 : BitVec 1 := Scalar.cmpi .slt v51 c0_i32_17
  let v56 : BitVec 32 := Scalar.extui v55
  let v57 : BitVec 32 := Scalar.subi v54 v56
  let c256_i32_15 : BitVec 32 := 256#32
  let c0_i32_18 : BitVec 32 := 0#32
  let v58 : BitVec 1 := Scalar.cmpi .sgt c256_i32_15 c0_i32_18
  let v59 : BitVec 32 := Scalar.extui v58
  let c0_i32_19 : BitVec 32 := 0#32
  let v60 : BitVec 1 := Scalar.cmpi .slt c256_i32_15 c0_i32_19
  let v61 : BitVec 32 := Scalar.extui v60
  let v62 : BitVec 32 := Scalar.subi v59 v61
  let v63 : BitVec 1 := Scalar.cmpi .ne v57 v62
  let v64 : BitVec 32 := Scalar.remsi v51 c256_i32_15
  let c0_i32_20 : BitVec 32 := 0#32
  let v65 : BitVec 1 := Scalar.cmpi .ne v64 c0_i32_20
  let v66 : BitVec 1 := Scalar.andi v63 v65
  let v52 : BitVec 32 := Scalar.divsi v51 c256_i32_15
  let c1_i32_21 : BitVec 32 := 1#32
  let v67 : BitVec 32 := Scalar.subi v52 c1_i32_21
  let v68 : BitVec 32 := Scalar.select v66 v67 v52
  let c1_i32_81 : BitVec 32 := 1#32
  let v247 : BitVec 32 := Scalar.subi v68 c1_i32_81
  let c0_i32_74 : BitVec 32 := 0#32
  let c1_i32_76 : BitVec 32 := 1#32
  let arg8 : BitVec 32 := Scf.iv c0_i32_74 c1_i32_76 k0_t1
  let v248 : BitVec 32 := Scalar.subi v247 arg8
  let v249 : Index := Scalar.indexCast v248
  let c0_82 : Index := 0#32
  let c0_83 : Index := 0#32
  ![v249.toNat, 0, 0]
def k0_off7 (i : grid0.Coords) (k0_t1 : Fin (k0_t1_loop i).trips) : Fin 3 → Nat :=
  let arg1 : BitVec 32 := BitVec.ofNat 32 (i 1).val
  let c256_i32 : BitVec 32 := 256#32
  let v3 : BitVec 32 := Scalar.muli arg1 c256_i32
  let c256_i32_13 : BitVec 32 := 256#32
  let v50 : BitVec 32 := Scalar.addi v3 c256_i32_13
  let c1_i32_14 : BitVec 32 := 1#32
  let v51 : BitVec 32 := Scalar.subi v50 c1_i32_14
  let c0_i32_16 : BitVec 32 := 0#32
  let v53 : BitVec 1 := Scalar.cmpi .sgt v51 c0_i32_16
  let v54 : BitVec 32 := Scalar.extui v53
  let c0_i32_17 : BitVec 32 := 0#32
  let v55 : BitVec 1 := Scalar.cmpi .slt v51 c0_i32_17
  let v56 : BitVec 32 := Scalar.extui v55
  let v57 : BitVec 32 := Scalar.subi v54 v56
  let c256_i32_15 : BitVec 32 := 256#32
  let c0_i32_18 : BitVec 32 := 0#32
  let v58 : BitVec 1 := Scalar.cmpi .sgt c256_i32_15 c0_i32_18
  let v59 : BitVec 32 := Scalar.extui v58
  let c0_i32_19 : BitVec 32 := 0#32
  let v60 : BitVec 1 := Scalar.cmpi .slt c256_i32_15 c0_i32_19
  let v61 : BitVec 32 := Scalar.extui v60
  let v62 : BitVec 32 := Scalar.subi v59 v61
  let v63 : BitVec 1 := Scalar.cmpi .ne v57 v62
  let v64 : BitVec 32 := Scalar.remsi v51 c256_i32_15
  let c0_i32_20 : BitVec 32 := 0#32
  let v65 : BitVec 1 := Scalar.cmpi .ne v64 c0_i32_20
  let v66 : BitVec 1 := Scalar.andi v63 v65
  let v52 : BitVec 32 := Scalar.divsi v51 c256_i32_15
  let c1_i32_21 : BitVec 32 := 1#32
  let v67 : BitVec 32 := Scalar.subi v52 c1_i32_21
  let v68 : BitVec 32 := Scalar.select v66 v67 v52
  let c1_i32_81 : BitVec 32 := 1#32
  let v247 : BitVec 32 := Scalar.subi v68 c1_i32_81
  let c0_i32_74 : BitVec 32 := 0#32
  let c1_i32_76 : BitVec 32 := 1#32
  let arg8 : BitVec 32 := Scf.iv c0_i32_74 c1_i32_76 k0_t1
  let v248 : BitVec 32 := Scalar.subi v247 arg8
  let v252 : Index := Scalar.indexCast v248
  let c64_84 : Index := 64#32
  let c0_85 : Index := 0#32
  ![v252.toNat, 64, 0]
def k0_off8 (i : grid0.Coords) (k0_t1 : Fin (k0_t1_loop i).trips) : Fin 3 → Nat :=
  let arg1 : BitVec 32 := BitVec.ofNat 32 (i 1).val
  let c256_i32 : BitVec 32 := 256#32
  let v3 : BitVec 32 := Scalar.muli arg1 c256_i32
  let c256_i32_13 : BitVec 32 := 256#32
  let v50 : BitVec 32 := Scalar.addi v3 c256_i32_13
  let c1_i32_14 : BitVec 32 := 1#32
  let v51 : BitVec 32 := Scalar.subi v50 c1_i32_14
  let c0_i32_16 : BitVec 32 := 0#32
  let v53 : BitVec 1 := Scalar.cmpi .sgt v51 c0_i32_16
  let v54 : BitVec 32 := Scalar.extui v53
  let c0_i32_17 : BitVec 32 := 0#32
  let v55 : BitVec 1 := Scalar.cmpi .slt v51 c0_i32_17
  let v56 : BitVec 32 := Scalar.extui v55
  let v57 : BitVec 32 := Scalar.subi v54 v56
  let c256_i32_15 : BitVec 32 := 256#32
  let c0_i32_18 : BitVec 32 := 0#32
  let v58 : BitVec 1 := Scalar.cmpi .sgt c256_i32_15 c0_i32_18
  let v59 : BitVec 32 := Scalar.extui v58
  let c0_i32_19 : BitVec 32 := 0#32
  let v60 : BitVec 1 := Scalar.cmpi .slt c256_i32_15 c0_i32_19
  let v61 : BitVec 32 := Scalar.extui v60
  let v62 : BitVec 32 := Scalar.subi v59 v61
  let v63 : BitVec 1 := Scalar.cmpi .ne v57 v62
  let v64 : BitVec 32 := Scalar.remsi v51 c256_i32_15
  let c0_i32_20 : BitVec 32 := 0#32
  let v65 : BitVec 1 := Scalar.cmpi .ne v64 c0_i32_20
  let v66 : BitVec 1 := Scalar.andi v63 v65
  let v52 : BitVec 32 := Scalar.divsi v51 c256_i32_15
  let c1_i32_21 : BitVec 32 := 1#32
  let v67 : BitVec 32 := Scalar.subi v52 c1_i32_21
  let v68 : BitVec 32 := Scalar.select v66 v67 v52
  let c1_i32_81 : BitVec 32 := 1#32
  let v247 : BitVec 32 := Scalar.subi v68 c1_i32_81
  let c0_i32_74 : BitVec 32 := 0#32
  let c1_i32_76 : BitVec 32 := 1#32
  let arg8 : BitVec 32 := Scf.iv c0_i32_74 c1_i32_76 k0_t1
  let v248 : BitVec 32 := Scalar.subi v247 arg8
  let v255 : Index := Scalar.indexCast v248
  let c128_86 : Index := 128#32
  let c0_87 : Index := 0#32
  ![v255.toNat, 128, 0]
def k0_off9 (i : grid0.Coords) (k0_t1 : Fin (k0_t1_loop i).trips) : Fin 3 → Nat :=
  let arg1 : BitVec 32 := BitVec.ofNat 32 (i 1).val
  let c256_i32 : BitVec 32 := 256#32
  let v3 : BitVec 32 := Scalar.muli arg1 c256_i32
  let c256_i32_13 : BitVec 32 := 256#32
  let v50 : BitVec 32 := Scalar.addi v3 c256_i32_13
  let c1_i32_14 : BitVec 32 := 1#32
  let v51 : BitVec 32 := Scalar.subi v50 c1_i32_14
  let c0_i32_16 : BitVec 32 := 0#32
  let v53 : BitVec 1 := Scalar.cmpi .sgt v51 c0_i32_16
  let v54 : BitVec 32 := Scalar.extui v53
  let c0_i32_17 : BitVec 32 := 0#32
  let v55 : BitVec 1 := Scalar.cmpi .slt v51 c0_i32_17
  let v56 : BitVec 32 := Scalar.extui v55
  let v57 : BitVec 32 := Scalar.subi v54 v56
  let c256_i32_15 : BitVec 32 := 256#32
  let c0_i32_18 : BitVec 32 := 0#32
  let v58 : BitVec 1 := Scalar.cmpi .sgt c256_i32_15 c0_i32_18
  let v59 : BitVec 32 := Scalar.extui v58
  let c0_i32_19 : BitVec 32 := 0#32
  let v60 : BitVec 1 := Scalar.cmpi .slt c256_i32_15 c0_i32_19
  let v61 : BitVec 32 := Scalar.extui v60
  let v62 : BitVec 32 := Scalar.subi v59 v61
  let v63 : BitVec 1 := Scalar.cmpi .ne v57 v62
  let v64 : BitVec 32 := Scalar.remsi v51 c256_i32_15
  let c0_i32_20 : BitVec 32 := 0#32
  let v65 : BitVec 1 := Scalar.cmpi .ne v64 c0_i32_20
  let v66 : BitVec 1 := Scalar.andi v63 v65
  let v52 : BitVec 32 := Scalar.divsi v51 c256_i32_15
  let c1_i32_21 : BitVec 32 := 1#32
  let v67 : BitVec 32 := Scalar.subi v52 c1_i32_21
  let v68 : BitVec 32 := Scalar.select v66 v67 v52
  let c1_i32_81 : BitVec 32 := 1#32
  let v247 : BitVec 32 := Scalar.subi v68 c1_i32_81
  let c0_i32_74 : BitVec 32 := 0#32
  let c1_i32_76 : BitVec 32 := 1#32
  let arg8 : BitVec 32 := Scf.iv c0_i32_74 c1_i32_76 k0_t1
  let v248 : BitVec 32 := Scalar.subi v247 arg8
  let v258 : Index := Scalar.indexCast v248
  let c192_88 : Index := 192#32
  let c0_89 : Index := 0#32
  ![v258.toNat, 192, 0]
def k0_off10 (i : grid0.Coords) (k0_t1 : Fin (k0_t1_loop i).trips) : Fin 3 → Nat :=
  let arg1 : BitVec 32 := BitVec.ofNat 32 (i 1).val
  let c256_i32 : BitVec 32 := 256#32
  let v3 : BitVec 32 := Scalar.muli arg1 c256_i32
  let c256_i32_13 : BitVec 32 := 256#32
  let v50 : BitVec 32 := Scalar.addi v3 c256_i32_13
  let c1_i32_14 : BitVec 32 := 1#32
  let v51 : BitVec 32 := Scalar.subi v50 c1_i32_14
  let c0_i32_16 : BitVec 32 := 0#32
  let v53 : BitVec 1 := Scalar.cmpi .sgt v51 c0_i32_16
  let v54 : BitVec 32 := Scalar.extui v53
  let c0_i32_17 : BitVec 32 := 0#32
  let v55 : BitVec 1 := Scalar.cmpi .slt v51 c0_i32_17
  let v56 : BitVec 32 := Scalar.extui v55
  let v57 : BitVec 32 := Scalar.subi v54 v56
  let c256_i32_15 : BitVec 32 := 256#32
  let c0_i32_18 : BitVec 32 := 0#32
  let v58 : BitVec 1 := Scalar.cmpi .sgt c256_i32_15 c0_i32_18
  let v59 : BitVec 32 := Scalar.extui v58
  let c0_i32_19 : BitVec 32 := 0#32
  let v60 : BitVec 1 := Scalar.cmpi .slt c256_i32_15 c0_i32_19
  let v61 : BitVec 32 := Scalar.extui v60
  let v62 : BitVec 32 := Scalar.subi v59 v61
  let v63 : BitVec 1 := Scalar.cmpi .ne v57 v62
  let v64 : BitVec 32 := Scalar.remsi v51 c256_i32_15
  let c0_i32_20 : BitVec 32 := 0#32
  let v65 : BitVec 1 := Scalar.cmpi .ne v64 c0_i32_20
  let v66 : BitVec 1 := Scalar.andi v63 v65
  let v52 : BitVec 32 := Scalar.divsi v51 c256_i32_15
  let c1_i32_21 : BitVec 32 := 1#32
  let v67 : BitVec 32 := Scalar.subi v52 c1_i32_21
  let v68 : BitVec 32 := Scalar.select v66 v67 v52
  let c1_i32_81 : BitVec 32 := 1#32
  let v247 : BitVec 32 := Scalar.subi v68 c1_i32_81
  let c0_i32_74 : BitVec 32 := 0#32
  let c1_i32_76 : BitVec 32 := 1#32
  let arg8 : BitVec 32 := Scf.iv c0_i32_74 c1_i32_76 k0_t1
  let v248 : BitVec 32 := Scalar.subi v247 arg8
  let v261 : Index := Scalar.indexCast v248
  let c0_90 : Index := 0#32
  let c0_91 : Index := 0#32
  ![v261.toNat, 0, 0]
@[reducible] def k0_t2_loop (i : grid0.Coords) : Scf.Loop 32 :=
  let c0_i32_74 : BitVec 32 := 0#32
  let arg1 : BitVec 32 := BitVec.ofNat 32 (i 1).val
  let c256_i32 : BitVec 32 := 256#32
  let v3 : BitVec 32 := Scalar.muli arg1 c256_i32
  let c256_i32_13 : BitVec 32 := 256#32
  let v50 : BitVec 32 := Scalar.addi v3 c256_i32_13
  let c1_i32_14 : BitVec 32 := 1#32
  let v51 : BitVec 32 := Scalar.subi v50 c1_i32_14
  let c0_i32_16 : BitVec 32 := 0#32
  let v53 : BitVec 1 := Scalar.cmpi .sgt v51 c0_i32_16
  let v54 : BitVec 32 := Scalar.extui v53
  let c0_i32_17 : BitVec 32 := 0#32
  let v55 : BitVec 1 := Scalar.cmpi .slt v51 c0_i32_17
  let v56 : BitVec 32 := Scalar.extui v55
  let v57 : BitVec 32 := Scalar.subi v54 v56
  let c256_i32_15 : BitVec 32 := 256#32
  let c0_i32_18 : BitVec 32 := 0#32
  let v58 : BitVec 1 := Scalar.cmpi .sgt c256_i32_15 c0_i32_18
  let v59 : BitVec 32 := Scalar.extui v58
  let c0_i32_19 : BitVec 32 := 0#32
  let v60 : BitVec 1 := Scalar.cmpi .slt c256_i32_15 c0_i32_19
  let v61 : BitVec 32 := Scalar.extui v60
  let v62 : BitVec 32 := Scalar.subi v59 v61
  let v63 : BitVec 1 := Scalar.cmpi .ne v57 v62
  let v64 : BitVec 32 := Scalar.remsi v51 c256_i32_15
  let c0_i32_20 : BitVec 32 := 0#32
  let v65 : BitVec 1 := Scalar.cmpi .ne v64 c0_i32_20
  let v66 : BitVec 1 := Scalar.andi v63 v65
  let v52 : BitVec 32 := Scalar.divsi v51 c256_i32_15
  let c1_i32_21 : BitVec 32 := 1#32
  let v67 : BitVec 32 := Scalar.subi v52 c1_i32_21
  let v68 : BitVec 32 := Scalar.select v66 v67 v52
  let v235 : BitVec 32 := Scalar.subi v68 c0_i32_74
  let c1_i32_75 : BitVec 32 := 1#32
  let v237 : BitVec 32 := Scalar.divsi v235 c1_i32_75
  let v238 : BitVec 32 := Scalar.muli v237 c1_i32_75
  let v239 : BitVec 32 := Scalar.addi c0_i32_74 v238
  let v236 : BitVec 32 := Scalar.addi c0_i32_74 v235
  let c1_i32_77 : BitVec 32 := 1#32
  ⟨v239, v236, c1_i32_77⟩
def k0_off11 (i : grid0.Coords) (k0_t2 : Fin (k0_t2_loop i).trips) : Fin 3 → Nat :=
  let arg1 : BitVec 32 := BitVec.ofNat 32 (i 1).val
  let c256_i32 : BitVec 32 := 256#32
  let v3 : BitVec 32 := Scalar.muli arg1 c256_i32
  let c256_i32_13 : BitVec 32 := 256#32
  let v50 : BitVec 32 := Scalar.addi v3 c256_i32_13
  let c1_i32_14 : BitVec 32 := 1#32
  let v51 : BitVec 32 := Scalar.subi v50 c1_i32_14
  let c0_i32_16 : BitVec 32 := 0#32
  let v53 : BitVec 1 := Scalar.cmpi .sgt v51 c0_i32_16
  let v54 : BitVec 32 := Scalar.extui v53
  let c0_i32_17 : BitVec 32 := 0#32
  let v55 : BitVec 1 := Scalar.cmpi .slt v51 c0_i32_17
  let v56 : BitVec 32 := Scalar.extui v55
  let v57 : BitVec 32 := Scalar.subi v54 v56
  let c256_i32_15 : BitVec 32 := 256#32
  let c0_i32_18 : BitVec 32 := 0#32
  let v58 : BitVec 1 := Scalar.cmpi .sgt c256_i32_15 c0_i32_18
  let v59 : BitVec 32 := Scalar.extui v58
  let c0_i32_19 : BitVec 32 := 0#32
  let v60 : BitVec 1 := Scalar.cmpi .slt c256_i32_15 c0_i32_19
  let v61 : BitVec 32 := Scalar.extui v60
  let v62 : BitVec 32 := Scalar.subi v59 v61
  let v63 : BitVec 1 := Scalar.cmpi .ne v57 v62
  let v64 : BitVec 32 := Scalar.remsi v51 c256_i32_15
  let c0_i32_20 : BitVec 32 := 0#32
  let v65 : BitVec 1 := Scalar.cmpi .ne v64 c0_i32_20
  let v66 : BitVec 1 := Scalar.andi v63 v65
  let v52 : BitVec 32 := Scalar.divsi v51 c256_i32_15
  let c1_i32_21 : BitVec 32 := 1#32
  let v67 : BitVec 32 := Scalar.subi v52 c1_i32_21
  let v68 : BitVec 32 := Scalar.select v66 v67 v52
  let c1_i32_81 : BitVec 32 := 1#32
  let v247 : BitVec 32 := Scalar.subi v68 c1_i32_81
  let c0_i32_74 : BitVec 32 := 0#32
  let v235 : BitVec 32 := Scalar.subi v68 c0_i32_74
  let c1_i32_75 : BitVec 32 := 1#32
  let v237 : BitVec 32 := Scalar.divsi v235 c1_i32_75
  let v238 : BitVec 32 := Scalar.muli v237 c1_i32_75
  let v239 : BitVec 32 := Scalar.addi c0_i32_74 v238
  let c1_i32_77 : BitVec 32 := 1#32
  let arg8 : BitVec 32 := Scf.iv v239 c1_i32_77 k0_t2
  let v248 : BitVec 32 := Scalar.subi v247 arg8
  let v249 : Index := Scalar.indexCast v248
  let c0_82 : Index := 0#32
  let c0_83 : Index := 0#32
  ![v249.toNat, 0, 0]
def k0_off12 (i : grid0.Coords) (k0_t2 : Fin (k0_t2_loop i).trips) : Fin 3 → Nat :=
  let arg1 : BitVec 32 := BitVec.ofNat 32 (i 1).val
  let c256_i32 : BitVec 32 := 256#32
  let v3 : BitVec 32 := Scalar.muli arg1 c256_i32
  let c256_i32_13 : BitVec 32 := 256#32
  let v50 : BitVec 32 := Scalar.addi v3 c256_i32_13
  let c1_i32_14 : BitVec 32 := 1#32
  let v51 : BitVec 32 := Scalar.subi v50 c1_i32_14
  let c0_i32_16 : BitVec 32 := 0#32
  let v53 : BitVec 1 := Scalar.cmpi .sgt v51 c0_i32_16
  let v54 : BitVec 32 := Scalar.extui v53
  let c0_i32_17 : BitVec 32 := 0#32
  let v55 : BitVec 1 := Scalar.cmpi .slt v51 c0_i32_17
  let v56 : BitVec 32 := Scalar.extui v55
  let v57 : BitVec 32 := Scalar.subi v54 v56
  let c256_i32_15 : BitVec 32 := 256#32
  let c0_i32_18 : BitVec 32 := 0#32
  let v58 : BitVec 1 := Scalar.cmpi .sgt c256_i32_15 c0_i32_18
  let v59 : BitVec 32 := Scalar.extui v58
  let c0_i32_19 : BitVec 32 := 0#32
  let v60 : BitVec 1 := Scalar.cmpi .slt c256_i32_15 c0_i32_19
  let v61 : BitVec 32 := Scalar.extui v60
  let v62 : BitVec 32 := Scalar.subi v59 v61
  let v63 : BitVec 1 := Scalar.cmpi .ne v57 v62
  let v64 : BitVec 32 := Scalar.remsi v51 c256_i32_15
  let c0_i32_20 : BitVec 32 := 0#32
  let v65 : BitVec 1 := Scalar.cmpi .ne v64 c0_i32_20
  let v66 : BitVec 1 := Scalar.andi v63 v65
  let v52 : BitVec 32 := Scalar.divsi v51 c256_i32_15
  let c1_i32_21 : BitVec 32 := 1#32
  let v67 : BitVec 32 := Scalar.subi v52 c1_i32_21
  let v68 : BitVec 32 := Scalar.select v66 v67 v52
  let c1_i32_81 : BitVec 32 := 1#32
  let v247 : BitVec 32 := Scalar.subi v68 c1_i32_81
  let c0_i32_74 : BitVec 32 := 0#32
  let v235 : BitVec 32 := Scalar.subi v68 c0_i32_74
  let c1_i32_75 : BitVec 32 := 1#32
  let v237 : BitVec 32 := Scalar.divsi v235 c1_i32_75
  let v238 : BitVec 32 := Scalar.muli v237 c1_i32_75
  let v239 : BitVec 32 := Scalar.addi c0_i32_74 v238
  let c1_i32_77 : BitVec 32 := 1#32
  let arg8 : BitVec 32 := Scf.iv v239 c1_i32_77 k0_t2
  let v248 : BitVec 32 := Scalar.subi v247 arg8
  let v252 : Index := Scalar.indexCast v248
  let c64_84 : Index := 64#32
  let c0_85 : Index := 0#32
  ![v252.toNat, 64, 0]
def k0_off13 (i : grid0.Coords) (k0_t2 : Fin (k0_t2_loop i).trips) : Fin 3 → Nat :=
  let arg1 : BitVec 32 := BitVec.ofNat 32 (i 1).val
  let c256_i32 : BitVec 32 := 256#32
  let v3 : BitVec 32 := Scalar.muli arg1 c256_i32
  let c256_i32_13 : BitVec 32 := 256#32
  let v50 : BitVec 32 := Scalar.addi v3 c256_i32_13
  let c1_i32_14 : BitVec 32 := 1#32
  let v51 : BitVec 32 := Scalar.subi v50 c1_i32_14
  let c0_i32_16 : BitVec 32 := 0#32
  let v53 : BitVec 1 := Scalar.cmpi .sgt v51 c0_i32_16
  let v54 : BitVec 32 := Scalar.extui v53
  let c0_i32_17 : BitVec 32 := 0#32
  let v55 : BitVec 1 := Scalar.cmpi .slt v51 c0_i32_17
  let v56 : BitVec 32 := Scalar.extui v55
  let v57 : BitVec 32 := Scalar.subi v54 v56
  let c256_i32_15 : BitVec 32 := 256#32
  let c0_i32_18 : BitVec 32 := 0#32
  let v58 : BitVec 1 := Scalar.cmpi .sgt c256_i32_15 c0_i32_18
  let v59 : BitVec 32 := Scalar.extui v58
  let c0_i32_19 : BitVec 32 := 0#32
  let v60 : BitVec 1 := Scalar.cmpi .slt c256_i32_15 c0_i32_19
  let v61 : BitVec 32 := Scalar.extui v60
  let v62 : BitVec 32 := Scalar.subi v59 v61
  let v63 : BitVec 1 := Scalar.cmpi .ne v57 v62
  let v64 : BitVec 32 := Scalar.remsi v51 c256_i32_15
  let c0_i32_20 : BitVec 32 := 0#32
  let v65 : BitVec 1 := Scalar.cmpi .ne v64 c0_i32_20
  let v66 : BitVec 1 := Scalar.andi v63 v65
  let v52 : BitVec 32 := Scalar.divsi v51 c256_i32_15
  let c1_i32_21 : BitVec 32 := 1#32
  let v67 : BitVec 32 := Scalar.subi v52 c1_i32_21
  let v68 : BitVec 32 := Scalar.select v66 v67 v52
  let c1_i32_81 : BitVec 32 := 1#32
  let v247 : BitVec 32 := Scalar.subi v68 c1_i32_81
  let c0_i32_74 : BitVec 32 := 0#32
  let v235 : BitVec 32 := Scalar.subi v68 c0_i32_74
  let c1_i32_75 : BitVec 32 := 1#32
  let v237 : BitVec 32 := Scalar.divsi v235 c1_i32_75
  let v238 : BitVec 32 := Scalar.muli v237 c1_i32_75
  let v239 : BitVec 32 := Scalar.addi c0_i32_74 v238
  let c1_i32_77 : BitVec 32 := 1#32
  let arg8 : BitVec 32 := Scf.iv v239 c1_i32_77 k0_t2
  let v248 : BitVec 32 := Scalar.subi v247 arg8
  let v255 : Index := Scalar.indexCast v248
  let c128_86 : Index := 128#32
  let c0_87 : Index := 0#32
  ![v255.toNat, 128, 0]
def k0_off14 (i : grid0.Coords) (k0_t2 : Fin (k0_t2_loop i).trips) : Fin 3 → Nat :=
  let arg1 : BitVec 32 := BitVec.ofNat 32 (i 1).val
  let c256_i32 : BitVec 32 := 256#32
  let v3 : BitVec 32 := Scalar.muli arg1 c256_i32
  let c256_i32_13 : BitVec 32 := 256#32
  let v50 : BitVec 32 := Scalar.addi v3 c256_i32_13
  let c1_i32_14 : BitVec 32 := 1#32
  let v51 : BitVec 32 := Scalar.subi v50 c1_i32_14
  let c0_i32_16 : BitVec 32 := 0#32
  let v53 : BitVec 1 := Scalar.cmpi .sgt v51 c0_i32_16
  let v54 : BitVec 32 := Scalar.extui v53
  let c0_i32_17 : BitVec 32 := 0#32
  let v55 : BitVec 1 := Scalar.cmpi .slt v51 c0_i32_17
  let v56 : BitVec 32 := Scalar.extui v55
  let v57 : BitVec 32 := Scalar.subi v54 v56
  let c256_i32_15 : BitVec 32 := 256#32
  let c0_i32_18 : BitVec 32 := 0#32
  let v58 : BitVec 1 := Scalar.cmpi .sgt c256_i32_15 c0_i32_18
  let v59 : BitVec 32 := Scalar.extui v58
  let c0_i32_19 : BitVec 32 := 0#32
  let v60 : BitVec 1 := Scalar.cmpi .slt c256_i32_15 c0_i32_19
  let v61 : BitVec 32 := Scalar.extui v60
  let v62 : BitVec 32 := Scalar.subi v59 v61
  let v63 : BitVec 1 := Scalar.cmpi .ne v57 v62
  let v64 : BitVec 32 := Scalar.remsi v51 c256_i32_15
  let c0_i32_20 : BitVec 32 := 0#32
  let v65 : BitVec 1 := Scalar.cmpi .ne v64 c0_i32_20
  let v66 : BitVec 1 := Scalar.andi v63 v65
  let v52 : BitVec 32 := Scalar.divsi v51 c256_i32_15
  let c1_i32_21 : BitVec 32 := 1#32
  let v67 : BitVec 32 := Scalar.subi v52 c1_i32_21
  let v68 : BitVec 32 := Scalar.select v66 v67 v52
  let c1_i32_81 : BitVec 32 := 1#32
  let v247 : BitVec 32 := Scalar.subi v68 c1_i32_81
  let c0_i32_74 : BitVec 32 := 0#32
  let v235 : BitVec 32 := Scalar.subi v68 c0_i32_74
  let c1_i32_75 : BitVec 32 := 1#32
  let v237 : BitVec 32 := Scalar.divsi v235 c1_i32_75
  let v238 : BitVec 32 := Scalar.muli v237 c1_i32_75
  let v239 : BitVec 32 := Scalar.addi c0_i32_74 v238
  let c1_i32_77 : BitVec 32 := 1#32
  let arg8 : BitVec 32 := Scf.iv v239 c1_i32_77 k0_t2
  let v248 : BitVec 32 := Scalar.subi v247 arg8
  let v258 : Index := Scalar.indexCast v248
  let c192_88 : Index := 192#32
  let c0_89 : Index := 0#32
  ![v258.toNat, 192, 0]
def k0_off15 (i : grid0.Coords) (k0_t2 : Fin (k0_t2_loop i).trips) : Fin 3 → Nat :=
  let arg1 : BitVec 32 := BitVec.ofNat 32 (i 1).val
  let c256_i32 : BitVec 32 := 256#32
  let v3 : BitVec 32 := Scalar.muli arg1 c256_i32
  let c256_i32_13 : BitVec 32 := 256#32
  let v50 : BitVec 32 := Scalar.addi v3 c256_i32_13
  let c1_i32_14 : BitVec 32 := 1#32
  let v51 : BitVec 32 := Scalar.subi v50 c1_i32_14
  let c0_i32_16 : BitVec 32 := 0#32
  let v53 : BitVec 1 := Scalar.cmpi .sgt v51 c0_i32_16
  let v54 : BitVec 32 := Scalar.extui v53
  let c0_i32_17 : BitVec 32 := 0#32
  let v55 : BitVec 1 := Scalar.cmpi .slt v51 c0_i32_17
  let v56 : BitVec 32 := Scalar.extui v55
  let v57 : BitVec 32 := Scalar.subi v54 v56
  let c256_i32_15 : BitVec 32 := 256#32
  let c0_i32_18 : BitVec 32 := 0#32
  let v58 : BitVec 1 := Scalar.cmpi .sgt c256_i32_15 c0_i32_18
  let v59 : BitVec 32 := Scalar.extui v58
  let c0_i32_19 : BitVec 32 := 0#32
  let v60 : BitVec 1 := Scalar.cmpi .slt c256_i32_15 c0_i32_19
  let v61 : BitVec 32 := Scalar.extui v60
  let v62 : BitVec 32 := Scalar.subi v59 v61
  let v63 : BitVec 1 := Scalar.cmpi .ne v57 v62
  let v64 : BitVec 32 := Scalar.remsi v51 c256_i32_15
  let c0_i32_20 : BitVec 32 := 0#32
  let v65 : BitVec 1 := Scalar.cmpi .ne v64 c0_i32_20
  let v66 : BitVec 1 := Scalar.andi v63 v65
  let v52 : BitVec 32 := Scalar.divsi v51 c256_i32_15
  let c1_i32_21 : BitVec 32 := 1#32
  let v67 : BitVec 32 := Scalar.subi v52 c1_i32_21
  let v68 : BitVec 32 := Scalar.select v66 v67 v52
  let c1_i32_81 : BitVec 32 := 1#32
  let v247 : BitVec 32 := Scalar.subi v68 c1_i32_81
  let c0_i32_74 : BitVec 32 := 0#32
  let v235 : BitVec 32 := Scalar.subi v68 c0_i32_74
  let c1_i32_75 : BitVec 32 := 1#32
  let v237 : BitVec 32 := Scalar.divsi v235 c1_i32_75
  let v238 : BitVec 32 := Scalar.muli v237 c1_i32_75
  let v239 : BitVec 32 := Scalar.addi c0_i32_74 v238
  let c1_i32_77 : BitVec 32 := 1#32
  let arg8 : BitVec 32 := Scf.iv v239 c1_i32_77 k0_t2
  let v248 : BitVec 32 := Scalar.subi v247 arg8
  let v261 : Index := Scalar.indexCast v248
  let c0_90 : Index := 0#32
  let c0_91 : Index := 0#32
  ![v261.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x2048x256 : Shape := ⟨3, ![8, 2048, 256]⟩
abbrev S8x2048x512 : Shape := ⟨3, ![8, 2048, 512]⟩
abbrev S2048 : Shape := ⟨1, ![2048]⟩
abbrev S8x2048x4x64 : Shape := ⟨4, ![8, 2048, 4, 64]⟩
abbrev S8x4x2048x2048 : Shape := ⟨4, ![8, 4, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S8x4x64x2048 : Shape := ⟨4, ![8, 4, 64, 2048]⟩

abbrev nBuf : Space → Nat
  | .hbm => 70
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x512, .f32⟩
  | .hbm, ⟨2, _⟩ => ⟨S2048, .i32⟩
  | .hbm, ⟨3, _⟩ => ⟨S8x2048x4x64, .f32⟩
  | .hbm, ⟨4, _⟩ => ⟨S8x2048x256, .f32⟩
  | .hbm, ⟨5, _⟩ => ⟨S8x2048x256, .f32⟩
  | .hbm, ⟨6, _⟩ => ⟨S8x2048x4x64, .f32⟩
  | .hbm, ⟨7, _⟩ => ⟨S8x2048x4x64, .f32⟩
  | .hbm, ⟨8, _⟩ => ⟨S8x4x2048x2048, .f32⟩
  | .hbm, ⟨9, _⟩ => ⟨S_, .f32⟩
  | .hbm, ⟨10, _⟩ => ⟨S8x4x2048x2048, .f32⟩
  | .hbm, ⟨11, _⟩ => ⟨S8x4x2048x2048, .f32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S1x1x2048x2048, .i1⟩
  | .hbm, ⟨18, _⟩ => ⟨S8x4x2048x2048, .f32⟩
  | .hbm, ⟨19, _⟩ => ⟨S8x4x2048x2048, .f32⟩
  | .hbm, ⟨20, _⟩ => ⟨S_, .f32⟩
  | .hbm, ⟨21, _⟩ => ⟨S8x4x2048x2048, .f32⟩
  | .hbm, ⟨22, _⟩ => ⟨S8x4x2048x2048, .f32⟩
  | .hbm, ⟨23, _⟩ => ⟨S8x4x2048x2048, .f32⟩
  | .hbm, ⟨24, _⟩ => ⟨S8x4x2048x2048, .f32⟩
  | .hbm, ⟨25, _⟩ => ⟨S8x4x2048x2048, .i1⟩
  | .hbm, ⟨26, _⟩ => ⟨S8x4x2048x2048, .f32⟩
  | .hbm, ⟨27, _⟩ => ⟨S8x4x2048x2048, .f32⟩
  | .hbm, ⟨28, _⟩ => ⟨S8x4x2048x2048, .f32⟩
  | .hbm, ⟨29, _⟩ => ⟨S8x4x2048x2048, .f32⟩
  | .hbm, ⟨30, _⟩ => ⟨S8x4x2048x2048, .f32⟩
  | .hbm, ⟨31, _⟩ => ⟨S8x4x2048x2048, .f32⟩
  | .hbm, ⟨32, _⟩ => ⟨S8x4x2048x2048, .f32⟩
  | .hbm, ⟨33, _⟩ => ⟨S8x4x2048x2048, .f32⟩
  | .hbm, ⟨34, _⟩ => ⟨S8x4x2048x2048, .f32⟩
  | .hbm, ⟨35, _⟩ => ⟨S_, .f32⟩
  | .hbm, ⟨36, _⟩ => ⟨S_, .f32⟩
  | .hbm, ⟨37, _⟩ => ⟨S8x4x2048x2048, .i1⟩
  | .hbm, ⟨38, _⟩ => ⟨S8x4x2048x2048, .f32⟩
  | .hbm, ⟨39, _⟩ => ⟨S8x4x2048x2048, .f32⟩
  | .hbm, ⟨40, _⟩ => ⟨S_, .f32⟩
  | .hbm, ⟨41, _⟩ => ⟨S_, .f32⟩
  | .hbm, ⟨42, _⟩ => ⟨S8x4x2048x2048, .f32⟩
  | .hbm, ⟨43, _⟩ => ⟨S8x4x2048x2048, .f32⟩
  | .hbm, ⟨44, _⟩ => ⟨S8x4x2048x2048, .f32⟩
  | .hbm, ⟨45, _⟩ => ⟨S_, .f32⟩
  | .hbm, ⟨46, _⟩ => ⟨S8x4x2048x2048, .f32⟩
  | .hbm, ⟨47, _⟩ => ⟨S8x4x2048x2048, .f32⟩
  | .hbm, ⟨48, _⟩ => ⟨S8x4x2048x2048, .f32⟩
  | .hbm, ⟨49, _⟩ => ⟨S8x4x2048x2048, .f32⟩
  | .hbm, ⟨50, _⟩ => ⟨S8x4x2048x2048, .i1⟩
  | .hbm, ⟨51, _⟩ => ⟨S8x4x2048x2048, .f32⟩
  | .hbm, ⟨52, _⟩ => ⟨S8x4x2048x2048, .f32⟩
  | .hbm, ⟨53, _⟩ => ⟨S8x4x2048x2048, .f32⟩
  | .hbm, ⟨54, _⟩ => ⟨S8x4x2048x2048, .f32⟩
  | .hbm, ⟨55, _⟩ => ⟨S8x4x2048x2048, .f32⟩
  | .hbm, ⟨56, _⟩ => ⟨S8x4x2048x2048, .f32⟩
  | .hbm, ⟨57, _⟩ => ⟨S8x4x2048x2048, .f32⟩
  | .hbm, ⟨58, _⟩ => ⟨S8x4x2048x2048, .f32⟩
  | .hbm, ⟨59, _⟩ => ⟨S8x4x2048x2048, .f32⟩
  | .hbm, ⟨60, _⟩ => ⟨S8x4x2048x2048, .f32⟩
  | .hbm, ⟨61, _⟩ => ⟨S8x4x2048x2048, .f32⟩
  | .hbm, ⟨62, _⟩ => ⟨S_, .f32⟩
  | .hbm, ⟨63, _⟩ => ⟨S_, .f32⟩
  | .hbm, ⟨64, _⟩ => ⟨S8x4x2048x2048, .i1⟩
  | .hbm, ⟨65, _⟩ => ⟨S8x4x2048x2048, .f32⟩
  | .hbm, ⟨66, _⟩ => ⟨S8x4x2048x2048, .f32⟩
  | .hbm, ⟨67, _⟩ => ⟨S8x4x64x2048, .f32⟩
  | .hbm, ⟨68, _⟩ => ⟨S8x2048x4x64, .f32⟩
  | .hbm, ⟨69, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v16 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_call2_cst : Ref sig .tc := ⟨.hbm, 40, rfl⟩
abbrev main_call2_v0 : Ref sig .tc := ⟨.hbm, 41, rfl⟩
abbrev main_v18 : Ref sig .tc := ⟨.hbm, 42, rfl⟩
abbrev main_v19 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩

abbrev nD : Nat := 1
abbrev τ : Topo := Topo.v7x

variable {F : FTy → Type} [FloatOps F]
-- ==== Kernel2.lean ====
abbrev S16384x1024 : Shape := ⟨2, ![16384, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S4x1x1024 : Shape := ⟨3, ![4, 1, 1024]⟩
abbrev S512x1024 : Shape := ⟨2, ![512, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 8
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S4x1x1024, .f32⟩
  | .hbm, ⟨5, _⟩ => ⟨S4x1024x5632, .bf16⟩
  | .hbm, ⟨6, _⟩ => ⟨S4x2816x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16384x1024 : Shape := ⟨2, ![16384, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S16384x5632 : Shape := ⟨2, ![16384, 5632]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1x1024x5632, .f32⟩
  | .hbm, ⟨23, _⟩ => ⟨S1024x5632, .f32⟩
  | .hbm, ⟨24, _⟩ => ⟨S16384x5632, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S1x2816x1024, .f32⟩
  | .hbm, ⟨38, _⟩ => ⟨S2816x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel3.lean ====
abbrev S16384x1024 : Shape := ⟨2, ![16384, 1024]⟩
abbrev S16384x256 : Shape := ⟨2, ![16384, 256]⟩
abbrev S4x1024 : Shape := ⟨2, ![4, 1024]⟩
abbrev S4x1024x4096 : Shape := ⟨3, ![4, 1024, 4096]⟩
abbrev S4x4096 : Shape := ⟨2, ![4, 4096]⟩
abbrev S4x4x256x1024 : Shape := ⟨4, ![4, 4, 256, 1024]⟩
abbrev S4x1024x1024 : Shape := ⟨3, ![4, 1024, 1024]⟩
abbrev S4x1x1024 : Shape := ⟨3, ![4, 1, 1024]⟩
abbrev S4x1x4096 : Shape := ⟨3, ![4, 1, 4096]⟩
abbrev S512x1024 : Shape := ⟨2, ![512, 1024]⟩
abbrev S512x256 : Shape := ⟨2, ![512, 256]⟩
abbrev S1x1x1024 : Shape := ⟨3, ![1, 1, 1024]⟩
abbrev S1x1024x4096 : Shape := ⟨3, ![1, 1024, 4096]⟩
abbrev S1x1x4096 : Shape := ⟨3, ![1, 1, 4096]⟩
abbrev S1x4x256x1024 : Shape := ⟨4, ![1, 4, 256, 1024]⟩
abbrev S1x1024x1024 : Shape := ⟨3, ![1, 1024, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1x1x256x1024 : Shape := ⟨4, ![1, 1, 256, 1024]⟩
abbrev S256x1024 : Shape := ⟨2, ![256, 1024]⟩

abbrev nBuf : Space → Nat
  | .hbm => 16
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S4x1024, .f32⟩
  | .hbm, ⟨6, _⟩ => ⟨S4x1024x4096, .f32⟩
  | .hbm, ⟨7, _⟩ => ⟨S4x4096, .f32⟩
  | .hbm, ⟨8, _⟩ => ⟨S4x4x256x1024, .f32⟩
  | .hbm, ⟨9, _⟩ => ⟨S4x1024x1024, .f32⟩
  | .hbm, ⟨10, _⟩ => ⟨S4x1x1024, .f32⟩
  | .hbm, ⟨11, _⟩ => ⟨S4x1x4096, .f32⟩
  | .hbm, ⟨12, _⟩ => ⟨S4x1024x4096, .bf16⟩
  | .hbm, ⟨13, _⟩ => ⟨S4x4x256x1024, .bf16⟩
  | .hbm, ⟨14, _⟩ => ⟨S4x1024x1024, .bf16⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x1x1024, .f32⟩
  | .local _ .vmem, ⟨11, _⟩ => ⟨S1x1024x4096, .bf16⟩
  | .local _ .vmem, ⟨12, _⟩ => ⟨S1x1x4096, .f32⟩
  | .local _ .vmem, ⟨13, _⟩ => ⟨S1x4x256x1024, .bf16⟩
  | .local _ .vmem, ⟨14, _⟩ => ⟨S1x1024x1024, .bf16⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16384x1024 : Shape := ⟨2, ![16384, 1024]⟩
abbrev S16384x256 : Shape := ⟨2, ![16384, 256]⟩
abbrev S4x1024 : Shape := ⟨2, ![4, 1024]⟩
abbrev S4x1024x4096 : Shape := ⟨3, ![4, 1024, 4096]⟩
abbrev S4x4096 : Shape := ⟨2, ![4, 4096]⟩
abbrev S4x4x256x1024 : Shape := ⟨4, ![4, 4, 256, 1024]⟩
abbrev S4x1024x1024 : Shape := ⟨3, ![4, 1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S16384x1x256 : Shape := ⟨3, ![16384, 1, 256]⟩
abbrev S16384x4x256 : Shape := ⟨3, ![16384, 4, 256]⟩
abbrev S1x4x256x1024 : Shape := ⟨4, ![1, 4, 256, 1024]⟩
abbrev S4x256x1024 : Shape := ⟨3, ![4, 256, 1024]⟩
abbrev S4x1024x16384 : Shape := ⟨3, ![4, 1024, 16384]⟩
abbrev S16384x4x1024 : Shape := ⟨3, ![16384, 4, 1024]⟩
abbrev S1x1024x4096 : Shape := ⟨3, ![1, 1024, 4096]⟩
abbrev S1024x4096 : Shape := ⟨2, ![1024, 4096]⟩
abbrev S16384x4096 : Shape := ⟨2, ![16384, 4096]⟩
abbrev S1x4096 : Shape := ⟨2, ![1, 4096]⟩
abbrev S4096 : Shape := ⟨1, ![4096]⟩
abbrev S1x1024x1024 : Shape := ⟨3, ![1, 1024, 1024]⟩
abbrev S1024x1024 : Shape := ⟨2, ![1024, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S4x1024, .f32⟩
  | .hbm, ⟨6, _⟩ => ⟨S4x1024x4096, .f32⟩
  | .hbm, ⟨7, _⟩ => ⟨S4x4096, .f32⟩
  | .hbm, ⟨8, _⟩ => ⟨S4x4x256x1024, .f32⟩
  | .hbm, ⟨9, _⟩ => ⟨S4x1024x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1x256, .f32⟩
  | .hbm, ⟨29, _⟩ => ⟨S16384x1x256, .f32⟩
  | .hbm, ⟨30, _⟩ => ⟨S16384x1x256, .f32⟩
  | .hbm, ⟨31, _⟩ => ⟨S16384x1x256, .f32⟩
  | .hbm, ⟨32, _⟩ => ⟨S16384x4x256, .f32⟩
  | .hbm, ⟨33, _⟩ => ⟨S1x4x256x1024, .f32⟩
  | .hbm, ⟨34, _⟩ => ⟨S4x256x1024, .f32⟩
  | .hbm, ⟨35, _⟩ => ⟨S4x1024x16384, .f32⟩
  | .hbm, ⟨36, _⟩ => ⟨S16384x4x1024, .f32⟩
  | .hbm, ⟨37, _⟩ => ⟨S1x1024x4096, .f32⟩
  | .hbm, ⟨38, _⟩ => ⟨S1024x4096, .f32⟩
  | .hbm, ⟨39, _⟩ => ⟨S16384x4096, .f32⟩
  | .hbm, ⟨40, _⟩ => ⟨S1x4096, .f32⟩
  | .hbm, ⟨41, _⟩ => ⟨S4096, .f32⟩
  | .hbm, ⟨42, _⟩ => ⟨S1x4096, .f32⟩
  | .hbm, ⟨43, _⟩ => ⟨S16384x4096, .f32⟩
  | .hbm, ⟨44, _⟩ => ⟨S16384x4096, .f32⟩
  | .hbm, ⟨45, _⟩ => ⟨S16384x4096, .f32⟩
  | .hbm, ⟨46, _⟩ => ⟨S16384x4096, .f32⟩
  | .hbm, ⟨47, _⟩ => ⟨S_, .f32⟩
  | .hbm, ⟨48, _⟩ => ⟨S16384x4096, .f32⟩
  | .hbm, ⟨49, _⟩ => ⟨S16384x4096, .f32⟩
  | .hbm, ⟨50, _⟩ => ⟨S_, .f32⟩
  | .hbm, ⟨51, _⟩ => ⟨S16384x4096, .f32⟩
  | .hbm, ⟨52, _⟩ => ⟨S16384x4096, .f32⟩
  | .hbm, ⟨53, _⟩ => ⟨S16384x4x1024, .f32⟩
  | .hbm, ⟨54, _⟩ => ⟨S16384x4x1024, .f32⟩
  | .hbm, ⟨55, _⟩ => ⟨S_, .f32⟩
  | .hbm, ⟨56, _⟩ => ⟨S16384x1024, .f32⟩
  | .hbm, ⟨57, _⟩ => ⟨S1x1024x1024, .f32⟩
  | .hbm, ⟨58, _⟩ => ⟨S1024x1024, .f32⟩
  | .hbm, ⟨59, _⟩ => ⟨S16384x1024, .f32⟩
  | .hbm, ⟨60, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel4.lean ====
abbrev S16384x1024 : Shape := ⟨2, ![16384, 1024]⟩
abbrev S4x1024 : Shape := ⟨2, ![4, 1024]⟩
abbrev S4x1024x3840 : Shape := ⟨3, ![4, 1024, 3840]⟩
abbrev S4x64 : Shape := ⟨2, ![4, 64]⟩
abbrev S4x8x512x2048 : Shape := ⟨4, ![4, 8, 512, 2048]⟩
abbrev S4x8x256x2048 : Shape := ⟨4, ![4, 8, 256, 2048]⟩
abbrev S4x8x256x512 : Shape := ⟨4, ![4, 8, 256, 512]⟩
abbrev S256x256 : Shape := ⟨2, ![256, 256]⟩
abbrev S4x1x64 : Shape := ⟨3, ![4, 1, 64]⟩
abbrev S1x4x1x1x1x64 : Shape := ⟨6, ![1, 4, 1, 1, 1, 64]⟩
abbrev S1x4x1x1x4x64 : Shape := ⟨6, ![1, 4, 1, 1, 4, 64]⟩
abbrev S4x1x256 : Shape := ⟨3, ![4, 1, 256]⟩
abbrev S1x4x1x1x2x64 : Shape := ⟨6, ![1, 4, 1, 1, 2, 64]⟩
abbrev S4x1x128 : Shape := ⟨3, ![4, 1, 128]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S4x1x1024 : Shape := ⟨3, ![4, 1, 1024]⟩
abbrev S16384x256 : Shape := ⟨2, ![16384, 256]⟩
abbrev S16384x512 : Shape := ⟨2, ![16384, 512]⟩
abbrev S16384x768 : Shape := ⟨2, ![16384, 768]⟩
abbrev S512x1024 : Shape := ⟨2, ![512, 1024]⟩
abbrev S1x1x1024 : Shape := ⟨3, ![1, 1, 1024]⟩
abbrev S1x1024x3840 : Shape := ⟨3, ![1, 1024, 3840]⟩
abbrev S512x256 : Shape := ⟨2, ![512, 256]⟩
abbrev S1x1x256 : Shape := ⟨3, ![1, 1, 256]⟩
abbrev S1x1x128 : Shape := ⟨3, ![1, 1, 128]⟩
abbrev S512x512 : Shape := ⟨2, ![512, 512]⟩
abbrev S512x768 : Shape := ⟨2, ![512, 768]⟩
abbrev S1x1x512x512 : Shape := ⟨4, ![1, 1, 512, 512]⟩
abbrev S1x1x256x512 : Shape := ⟨4, ![1, 1, 256, 512]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S1x1024x512 : Shape := ⟨3, ![1, 1024, 512]⟩
abbrev S1024x512 : Shape := ⟨2, ![1024, 512]⟩
abbrev S1x256 : Shape := ⟨2, ![1, 256]⟩
abbrev S128x128 : Shape := ⟨2, ![128, 128]⟩
abbrev S512x128 : Shape := ⟨2, ![512, 128]⟩
abbrev S1x128 : Shape := ⟨2, ![1, 128]⟩
abbrev S1x1024x768 : Shape := ⟨3, ![1, 1024, 768]⟩
abbrev S1024x768 : Shape := ⟨2, ![1024, 768]⟩
abbrev S256x512 : Shape := ⟨2, ![256, 512]⟩

abbrev nBuf : Space → Nat
  | .hbm => 61
  | .vmem => 41
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x3840, .f32⟩
  | .hbm, ⟨3, _⟩ => ⟨S4x64, .f32⟩
  | .hbm, ⟨4, _⟩ => ⟨S4x64, .f32⟩
  | .hbm, ⟨5, _⟩ => ⟨S4x8x512x2048, .f32⟩
  | .hbm, ⟨6, _⟩ => ⟨S4x8x256x2048, .f32⟩
  | .hbm, ⟨7, _⟩ => ⟨S4x8x256x2048, .f32⟩
  | .hbm, ⟨8, _⟩ => ⟨S4x8x256x512, .f32⟩
  | .hbm, ⟨9, _⟩ => ⟨S256x256, .bf16⟩
  | .hbm, ⟨10, _⟩ => ⟨S4x1x64, .f32⟩
  | .hbm, ⟨11, _⟩ => ⟨S1x4x1x1x1x64, .f32⟩
  | .hbm, ⟨12, _⟩ => ⟨S1x4x1x1x4x64, .f32⟩
  | .hbm, ⟨13, _⟩ => ⟨S4x1x256, .f32⟩
  | .hbm, ⟨14, _⟩ => ⟨S4x1x64, .f32⟩
  | .hbm, ⟨15, _⟩ => ⟨S1x4x1x1x1x64, .f32⟩
  | .hbm, ⟨16, _⟩ => ⟨S1x4x1x1x2x64, .f32⟩
  | .hbm, ⟨17, _⟩ => ⟨S4x1x128, .f32⟩
  | .hbm, ⟨18, _⟩ => ⟨S2048, .i32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S2048, .f32⟩
  | .hbm, ⟨28, _⟩ => ⟨S2048x1, .f32⟩
  | .hbm, ⟨29, _⟩ => ⟨S1x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x64, .f32⟩
  | .hbm, ⟨36, _⟩ => ⟨S1x2048x1x64, .f32⟩
  | .hbm, ⟨37, _⟩ => ⟨S1x2048x4x64, .f32⟩
  | .hbm, ⟨38, _⟩ => ⟨S2048x256, .f32⟩
  | .hbm, ⟨39, _⟩ => ⟨S2048x32, .f32⟩
  | .hbm, ⟨40, _⟩ => ⟨S2048x64, .f32⟩
  | .hbm, ⟨41, _⟩ => ⟨S1x2048x1x64, .f32⟩
  | .hbm, ⟨42, _⟩ => ⟨S1x2048x4x64, .f32⟩
  | .hbm, ⟨43, _⟩ => ⟨S2048x256, .f32⟩
  | .hbm, ⟨44, _⟩ => ⟨S4x1x1024, .f32⟩
  | .hbm, ⟨45, _⟩ => ⟨S4x1024x3840, .bf16⟩
  | .hbm, ⟨46, _⟩ => ⟨S16384x256, .f32⟩
  | .hbm, ⟨47, _⟩ => ⟨S16384x512, .f32⟩
  | .hbm, ⟨48, _⟩ => ⟨S16384x256, .f32⟩
  | .hbm, ⟨49, _⟩ => ⟨S16384x256, .f32⟩
  | .hbm, ⟨50, _⟩ => ⟨S16384x256, .f32⟩
  | .hbm, ⟨51, _⟩ => ⟨S16384x256, .f32⟩
  | .hbm, ⟨52, _⟩ => ⟨S16384x256, .f32⟩
  | .hbm, ⟨53, _⟩ => ⟨S16384x768, .f32⟩
  | .hbm, ⟨54, _⟩ => ⟨S16384x256, .f32⟩
  | .hbm, ⟨55, _⟩ => ⟨S16384x256, .f32⟩
  | .hbm, ⟨56, _⟩ => ⟨S16384x256, .f32⟩
  | .hbm, ⟨57, _⟩ => ⟨S4x8x512x2048, .f32⟩
  | .hbm, ⟨58, _⟩ => ⟨S4x8x256x2048, .f32⟩
  | .hbm, ⟨59, _⟩ => ⟨S4x8x256x2048, .f32⟩
  | .hbm, ⟨60, _⟩ => ⟨S4x8x256x512, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x3840, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x1x256, .f32⟩
  | .local _ .vmem, ⟨9, _⟩ => ⟨S1x1x128, .f32⟩
  | .local _ .vmem, ⟨10, _⟩ => ⟨S256x256, .bf16⟩
  | .local _ .vmem, ⟨11, _⟩ => ⟨S512x256, .f32⟩
  | .local _ .vmem, ⟨12, _⟩ => ⟨S512x256, .f32⟩
  | .local _ .vmem, ⟨13, _⟩ => ⟨S512x512, .f32⟩
  | .local _ .vmem, ⟨14, _⟩ => ⟨S512x512, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x768, .f32⟩
  | .local _ .vmem, ⟨26, _⟩ => ⟨S512x768, .f32⟩
  | .local _ .vmem, ⟨27, _⟩ => ⟨S512x256, .f32⟩
  | .local _ .vmem, ⟨28, _⟩ => ⟨S512x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S1x1x512x512, .f32⟩
  | .local _ .vmem, ⟨34, _⟩ => ⟨S1x1x512x512, .f32⟩
  | .local _ .vmem, ⟨35, _⟩ => ⟨S1x1x256x512, .f32⟩
  | .local _ .vmem, ⟨36, _⟩ => ⟨S1x1x256x512, .f32⟩
  | .local _ .vmem, ⟨37, _⟩ => ⟨S1x1x256x512, .f32⟩
  | .local _ .vmem, ⟨38, _⟩ => ⟨S1x1x256x512, .f32⟩
  | .local _ .vmem, ⟨39, _⟩ => ⟨S1x1x256x512, .f32⟩
  | .local _ .vmem, ⟨40, _⟩ => ⟨S1x1x256x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev main_v34_2 : Ref sig .tc := ⟨.hbm, 48, rfl⟩
abbrev main_v34_3 : Ref sig .tc := ⟨.hbm, 49, rfl⟩
abbrev main_v34_4 : Ref sig .tc := ⟨.hbm, 50, rfl⟩
abbrev main_v34_5 : Ref sig .tc := ⟨.hbm, 51, rfl⟩
abbrev main_v34_6 : Ref sig .tc := ⟨.hbm, 52, rfl⟩
abbrev main_v34_7 : Ref sig .tc := ⟨.hbm, 53, rfl⟩
abbrev main_v34_8 : Ref sig .tc := ⟨.hbm, 54, rfl⟩
abbrev main_v34_9 : Ref sig .tc := ⟨.hbm, 55, rfl⟩
abbrev main_v34_10 : Ref sig .tc := ⟨.hbm, 56, rfl⟩
abbrev main_v34_11 : Ref sig .tc := ⟨.hbm, 57, rfl⟩
abbrev main_v34_12 : Ref sig .tc := ⟨.hbm, 58, rfl⟩
abbrev main_v34_13 : Ref sig .tc := ⟨.hbm, 59, rfl⟩
abbrev main_v34_14 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_24 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_25 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_26 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x256x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference4Ideal.lean ====
abbrev S16384x1024 : Shape := ⟨2, ![16384, 1024]⟩
abbrev S4x1024 : Shape := ⟨2, ![4, 1024]⟩
abbrev S4x1024x3840 : Shape := ⟨3, ![4, 1024, 3840]⟩
abbrev S4x64 : Shape := ⟨2, ![4, 64]⟩
abbrev S4x8x512x2048 : Shape := ⟨4, ![4, 8, 512, 2048]⟩
abbrev S4x8x256x2048 : Shape := ⟨4, ![4, 8, 256, 2048]⟩
abbrev S4x8x256x512 : Shape := ⟨4, ![4, 8, 256, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1x1024x3840 : Shape := ⟨3, ![1, 1024, 3840]⟩
abbrev S1024x3840 : Shape := ⟨2, ![1024, 3840]⟩
abbrev S16384x3840 : Shape := ⟨2, ![16384, 3840]⟩
abbrev S16384x256 : Shape := ⟨2, ![16384, 256]⟩
abbrev S16384x512 : Shape := ⟨2, ![16384, 512]⟩
abbrev S16384x768 : Shape := ⟨2, ![16384, 768]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x4x64 : Shape := ⟨4, ![8, 2048, 4, 64]⟩
abbrev S8x2048x4 : Shape := ⟨3, ![8, 2048, 4]⟩
abbrev S8x2048x4x1 : Shape := ⟨4, ![8, 2048, 4, 1]⟩
abbrev S1x64 : Shape := ⟨2, ![1, 64]⟩
abbrev S64 : Shape := ⟨1, ![64]⟩
abbrev S1x1x1x64 : Shape := ⟨4, ![1, 1, 1, 64]⟩
abbrev S16384x128 : Shape := ⟨2, ![16384, 128]⟩
abbrev S8x2048x2x64 : Shape := ⟨4, ![8, 2048, 2, 64]⟩
abbrev S8x2048x2 : Shape := ⟨3, ![8, 2048, 2]⟩
abbrev S8x2048x2x1 : Shape := ⟨4, ![8, 2048, 2, 1]⟩
abbrev S8x2048x2x32 : Shape := ⟨4, ![8, 2048, 2, 32]⟩
abbrev S8x2048x4x32 : Shape := ⟨4, ![8, 2048, 4, 32]⟩
abbrev S1x8x2048x512 : Shape := ⟨4, ![1, 8, 2048, 512]⟩
abbrev S1x8x512x2048 : Shape := ⟨4, ![1, 8, 512, 2048]⟩
abbrev S3x8x512x2048 : Shape := ⟨4, ![3, 8, 512, 2048]⟩
abbrev S1x8x2048x256 : Shape := ⟨4, ![1, 8, 2048, 256]⟩
abbrev S1x8x256x2048 : Shape := ⟨4, ![1, 8, 256, 2048]⟩
abbrev S3x8x256x2048 : Shape := ⟨4, ![3, 8, 256, 2048]⟩
abbrev S1x8x512x256 : Shape := ⟨4, ![1, 8, 512, 256]⟩
abbrev S1x8x256x512 : Shape := ⟨4, ![1, 8, 256, 512]⟩
abbrev S3x8x256x512 : Shape := ⟨4, ![3, 8, 256, 512]⟩

abbrev nBuf : Space → Nat
  | .hbm => 202
  | .vmem => 0
  | .smem => 0
  | _ => 0

abbrev hbmTy0_0 (i : Nat) : BufTy := match i % 128 with
  | 0 => ⟨S16384x1024, .f32⟩
  | 1 => ⟨S4x1024, .f32⟩
  | 2 => ⟨S4x1024x3840, .f32⟩
  | 3 => ⟨S4x64, .f32⟩
  | 4 => ⟨S4x64, .f32⟩
  | 5 => ⟨S4x8x512x2048, .f32⟩
  | 6 => ⟨S4x8x256x2048, .f32⟩
  | 7 => ⟨S4x8x256x2048, .f32⟩
  | 8 => ⟨S4x8x256x512, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1024, .f32⟩
  | 21 => ⟨S16384x1024, .f32⟩
  | 22 => ⟨S1x1024, .f32⟩
  | 23 => ⟨S1024, .f32⟩
  | 24 => ⟨S1x1024, .f32⟩
  | 25 => ⟨S16384x1024, .f32⟩
  | 26 => ⟨S16384x1024, .f32⟩
  | 27 => ⟨S1x1024x3840, .f32⟩
  | 28 => ⟨S1024x3840, .f32⟩
  | 29 => ⟨S16384x3840, .f32⟩
  | 30 => ⟨S16384x256, .f32⟩
  | 31 => ⟨S16384x512, .f32⟩
  | 32 => ⟨S16384x256, .f32⟩
  | 33 => ⟨S16384x256, .f32⟩
  | 34 => ⟨S16384x256, .f32⟩
  | 35 => ⟨S16384x256, .f32⟩
  | 36 => ⟨S16384x768, .f32⟩
  | 37 => ⟨S16384x256, .f32⟩
  | 38 => ⟨S16384x256, .f32⟩
  | 39 => ⟨S16384x256, .f32⟩
  | 40 => ⟨S16384x256, .f32⟩
  | 41 => ⟨S16384x256, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S32, .f32⟩
  | 50 => ⟨S2048, .i32⟩
  | 51 => ⟨S2048, .f32⟩
  | 52 => ⟨S2048x1, .f32⟩
  | 53 => ⟨S1x32, .f32⟩
  | 54 => ⟨S2048x32, .f32⟩
  | 55 => ⟨S2048x32, .f32⟩
  | 56 => ⟨S2048x32, .f32⟩
  | 57 => ⟨S2048x32, .f32⟩
  | 58 => ⟨S1x2048x1x32, .f32⟩
  | 59 => ⟨S2048x32, .f32⟩
  | 60 => ⟨S1x2048x1x32, .f32⟩
  | 61 => ⟨S8x2048x4x64, .f32⟩
  | 62 => ⟨S8x2048x4x64, .f32⟩
  | 63 => ⟨S_, .f32⟩
  | 64 => ⟨S8x2048x4, .f32⟩
  | 65 => ⟨S8x2048x4x1, .f32⟩
  | 66 => ⟨S_, .f32⟩
  | 67 => ⟨S8x2048x4x1, .f32⟩
  | 68 => ⟨S8x2048x4x1, .f32⟩
  | 69 => ⟨S_, .f32⟩
  | 70 => ⟨S8x2048x4x1, .f32⟩
  | 71 => ⟨S8x2048x4x1, .f32⟩
  | 72 => ⟨S8x2048x4x1, .f32⟩
  | 73 => ⟨S8x2048x4x64, .f32⟩
  | 74 => ⟨S8x2048x4x64, .f32⟩
  | 75 => ⟨S1x64, .f32⟩
  | 76 => ⟨S64, .f32⟩
  | 77 => ⟨S1x1x1x64, .f32⟩
  | 78 => ⟨S8x2048x4x64, .f32⟩
  | 79 => ⟨S8x2048x4x64, .f32⟩
  | 80 => ⟨S16384x128, .f32⟩
  | 81 => ⟨S8x2048x2x64, .f32⟩
  | 82 => ⟨S8x2048x2x64, .f32⟩
  | 83 => ⟨S_, .f32⟩
  | 84 => ⟨S8x2048x2, .f32⟩
  | 85 => ⟨S8x2048x2x1, .f32⟩
  | 86 => ⟨S_, .f32⟩
  | 87 => ⟨S8x2048x2x1, .f32⟩
  | 88 => ⟨S8x2048x2x1, .f32⟩
  | 89 => ⟨S_, .f32⟩
  | 90 => ⟨S8x2048x2x1, .f32⟩
  | 91 => ⟨S8x2048x2x1, .f32⟩
  | 92 => ⟨S8x2048x2x1, .f32⟩
  | 93 => ⟨S8x2048x2x64, .f32⟩
  | 94 => ⟨S8x2048x2x64, .f32⟩
  | 95 => ⟨S1x64, .f32⟩
  | 96 => ⟨S64, .f32⟩
  | 97 => ⟨S1x1x1x64, .f32⟩
  | 98 => ⟨S8x2048x2x64, .f32⟩
  | 99 => ⟨S8x2048x2x64, .f32⟩
  | 100 => ⟨S8x2048x2x32, .f32⟩
  | 101 => ⟨S8x2048x2x32, .f32⟩
  | 102 => ⟨S8x2048x2x32, .f32⟩
  | 103 => ⟨S8x2048x2x32, .f32⟩
  | 104 => ⟨S8x2048x2x32, .f32⟩
  | 105 => ⟨S8x2048x2x32, .f32⟩
  | 106 => ⟨S8x2048x2x32, .f32⟩
  | 107 => ⟨S8x2048x2x32, .f32⟩
  | 108 => ⟨S8x2048x2x32, .f32⟩
  | 109 => ⟨S8x2048x2x32, .f32⟩
  | 110 => ⟨S8x2048x2x32, .f32⟩
  | 111 => ⟨S8x2048x2x32, .f32⟩
  | 112 => ⟨S8x2048x2x64, .f32⟩
  | 113 => ⟨S16384x128, .f32⟩
  | 114 => ⟨S16384x128, .f32⟩
  | 115 => ⟨S16384x256, .f32⟩
  | 116 => ⟨S16384x128, .f32⟩
  | 117 => ⟨S8x2048x2x64, .f32⟩
  | 118 => ⟨S8x2048x2x64, .f32⟩
  | 119 => ⟨S_, .f32⟩
  | 120 => ⟨S8x2048x2, .f32⟩
  | 121 => ⟨S8x2048x2x1, .f32⟩
  | 122 => ⟨S_, .f32⟩
  | 123 => ⟨S8x2048x2x1, .f32⟩
  | 124 => ⟨S8x2048x2x1, .f32⟩
  | 125 => ⟨S_, .f32⟩
  | 126 => ⟨S8x2048x2x1, .f32⟩
  | 127 => ⟨S8x2048x2x1, .f32⟩
  | _ => ⟨S16384x1024, .f32⟩

abbrev hbmTy0_1 (i : Nat) : BufTy := match i % 128 with
  | 0 => ⟨S8x2048x2x1, .f32⟩
  | 1 => ⟨S8x2048x2x64, .f32⟩
  | 2 => ⟨S8x2048x2x64, .f32⟩
  | 3 => ⟨S1x64, .f32⟩
  | 4 => ⟨S64, .f32⟩
  | 5 => ⟨S1x1x1x64, .f32⟩
  | 6 => ⟨S8x2048x2x64, .f32⟩
  | 7 => ⟨S8x2048x2x64, .f32⟩
  | 8 => ⟨S8x2048x2x32, .f32⟩
  | 9 => ⟨S8x2048x2x32, .f32⟩
  | 10 => ⟨S8x2048x2x32, .f32⟩
  | 11 => ⟨S8x2048x2x32, .f32⟩
  | 12 => ⟨S8x2048x2x32, .f32⟩
  | 13 => ⟨S8x2048x2x32, .f32⟩
  | 14 => ⟨S8x2048x2x32, .f32⟩
  | 15 => ⟨S8x2048x2x32, .f32⟩
  | 16 => ⟨S8x2048x2x32, .f32⟩
  | 17 => ⟨S8x2048x2x32, .f32⟩
  | 18 => ⟨S8x2048x2x32, .f32⟩
  | 19 => ⟨S8x2048x2x32, .f32⟩
  | 20 => ⟨S8x2048x2x64, .f32⟩
  | 21 => ⟨S16384x128, .f32⟩
  | 22 => ⟨S16384x128, .f32⟩
  | 23 => ⟨S16384x256, .f32⟩
  | 24 => ⟨S16384x256, .f32⟩
  | 25 => ⟨S8x2048x4x32, .f32⟩
  | 26 => ⟨S8x2048x4x32, .f32⟩
  | 27 => ⟨S8x2048x4x32, .f32⟩
  | 28 => ⟨S8x2048x4x32, .f32⟩
  | 29 => ⟨S8x2048x4x32, .f32⟩
  | 30 => ⟨S8x2048x4x32, .f32⟩
  | 31 => ⟨S8x2048x4x32, .f32⟩
  | 32 => ⟨S8x2048x4x32, .f32⟩
  | 33 => ⟨S8x2048x4x32, .f32⟩
  | 34 => ⟨S8x2048x4x32, .f32⟩
  | 35 => ⟨S8x2048x4x32, .f32⟩
  | 36 => ⟨S8x2048x4x32, .f32⟩
  | 37 => ⟨S8x2048x4x64, .f32⟩
  | 38 => ⟨S16384x256, .f32⟩
  | 39 => ⟨S16384x768, .f32⟩
  | 40 => ⟨S16384x768, .f32⟩
  | 41 => ⟨S_, .f32⟩
  | 42 => ⟨S16384x768, .f32⟩
  | 43 => ⟨S16384x768, .f32⟩
  | 44 => ⟨S_, .f32⟩
  | 45 => ⟨S16384x768, .f32⟩
  | 46 => ⟨S16384x768, .f32⟩
  | 47 => ⟨S16384x256, .f32⟩
  | 48 => ⟨S16384x256, .f32⟩
  | 49 => ⟨S16384x256, .f32⟩
  | 50 => ⟨S_, .f32⟩
  | 51 => ⟨S16384x256, .f32⟩
  | 52 => ⟨S16384x256, .f32⟩
  | 53 => ⟨S_, .f32⟩
  | 54 => ⟨S16384x256, .f32⟩
  | 55 => ⟨S16384x256, .f32⟩
  | 56 => ⟨S16384x256, .f32⟩
  | 57 => ⟨S1x8x2048x512, .f32⟩
  | 58 => ⟨S1x8x512x2048, .f32⟩
  | 59 => ⟨S3x8x512x2048, .f32⟩
  | 60 => ⟨S4x8x512x2048, .f32⟩
  | 61 => ⟨S1x8x2048x256, .f32⟩
  | 62 => ⟨S1x8x256x2048, .f32⟩
  | 63 => ⟨S3x8x256x2048, .f32⟩
  | 64 => ⟨S4x8x256x2048, .f32⟩
  | 65 => ⟨S1x8x2048x256, .f32⟩
  | 66 => ⟨S1x8x256x2048, .f32⟩
  | 67 => ⟨S3x8x256x2048, .f32⟩
  | 68 => ⟨S4x8x256x2048, .f32⟩
  | 69 => ⟨S1x8x2048x256, .f32⟩
  | 70 => ⟨S1x8x512x256, .f32⟩
  | 71 => ⟨S1x8x256x512, .f32⟩
  | 72 => ⟨S3x8x256x512, .f32⟩
  | 73 => ⟨S4x8x256x512, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_4 : Ref sig .tc := ⟨.hbm, 63, rfl⟩
abbrev main_v49 : Ref sig .tc := ⟨.hbm, 64, rfl⟩
abbrev main_v50 : Ref sig .tc := ⟨.hbm, 65, rfl⟩
abbrev main_cst_5 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_cst_8 : Ref sig .tc := ⟨.hbm, 86, rfl⟩
abbrev main_v68 : Ref sig .tc := ⟨.hbm, 87, rfl⟩
abbrev main_v69 : Ref sig .tc := ⟨.hbm, 88, rfl⟩
abbrev main_cst_9 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_10 : Ref sig .tc := ⟨.hbm, 119, rfl⟩
abbrev main_v99 : Ref sig .tc := ⟨.hbm, 120, rfl⟩
abbrev main_v100 : Ref sig .tc := ⟨.hbm, 121, rfl⟩
abbrev main_cst_11 : Ref sig .tc := ⟨.hbm, 122, rfl⟩
abbrev main_v101 : Ref sig .tc := ⟨.hbm, 123, rfl⟩
abbrev main_v102 : Ref sig .tc := ⟨.hbm, 124, rfl⟩
abbrev main_cst_12 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_cst_13 : Ref sig .tc := ⟨.hbm, 169, rfl⟩
abbrev main_v146 : Ref sig .tc := ⟨.hbm, 170, rfl⟩
abbrev main_v147 : Ref sig .tc := ⟨.hbm, 171, rfl⟩
abbrev main_cst_14 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_cst_15 : Ref sig .tc := ⟨.hbm, 178, rfl⟩
abbrev main_v153 : Ref sig .tc := ⟨.hbm, 179, rfl⟩
abbrev main_v154 : Ref sig .tc := ⟨.hbm, 180, rfl⟩
abbrev main_cst_16 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩

abbrev nD : Nat := 1
abbrev τ : Topo := Topo.v7x

variable {F : FTy → Type} [FloatOps F]
-- ==== Proof.Sb.Spec.lean ====
module

public import Idealize.ShloMosaic.PureOps.Ideal
public import Idealize.ShloMosaic.Lib.Pointwise

/-!
The mathematics of stick-breaking attention for one query position, over the real numbers.

`z s` is the score of the query against key `s`; the weight of key `s` is the logistic function of
`z s` times the product, over the keys strictly between `s` and the query, of one minus theirs.
Everything is written with logarithms, as both programs compute it.
-/

@[expose] public section

noncomputable section

open scoped BigOperators
open Finset

namespace Sb

/-- The logarithm of the logistic function of `x`. -/
def lb (x : ℝ) : ℝ := min x 0 - Real.log (1 + Real.exp (-|x|))

/-- The logarithm of one minus the logistic function of `x`. -/
def lk (x : ℝ) : ℝ := lb x - x

/-- The sum of `lk` over the keys from `lo` up to the query at `t`. -/
def tail (z : ℕ → ℝ) (t lo : ℕ) : ℝ := ∑ j ∈ Ico lo t, lk (z j)

/-- The weight of key `s` for the query at position `t`. -/
def wt (z : ℕ → ℝ) (t s : ℕ) : ℝ := Real.exp (lb (z s) + tail z t (s + 1))

/-- The weighted sum of the values of the keys from `lo` up to the query at `t`. -/
def mix (z : ℕ → ℝ) (v : ℕ → EReal) (t lo : ℕ) : EReal :=
  ∑ s ∈ Ico lo t, v s * ((wt z t s : ℝ) : EReal)

/-- `log (1 - logistic x)` is `log (logistic (-x))`. -/
theorem lk_eq (x : ℝ) : lk x = lb (-x) := by
  unfold lk lb
  rw [abs_neg]
  rcases le_total 0 x with h | h
  · rw [min_eq_right h, min_eq_left (by linarith)]; ring
  · rw [min_eq_left h, min_eq_right (by linarith)]; ring

/-- The same logarithm by the sum of the positive part and a logarithm. -/
theorem lb_softplus (x : ℝ) : lb x = -(max (-x) 0 + Real.log (1 + Real.exp (-|x|))) := by
  unfold lb
  rcases le_total 0 x with h | h
  · rw [min_eq_right h, max_eq_right (by linarith)]; ring
  · rw [min_eq_left h, max_eq_left (by linarith)]; ring

/-- A sum over an interval of positions, told by the place in the tile. -/
theorem sum_tile {M : Type*} [AddCommMonoid M] (f : ℕ → M) (lo n : ℕ) :
    ∑ j ∈ Ico lo (lo + n), f j = ∑ s : Fin n, f (lo + s.val) := by
  rw [Finset.sum_Ico_eq_sum_range, Nat.add_sub_cancel_left, Finset.sum_range]

/-- A sum over an interval that ends inside the tile, as a masked sum over the whole tile. -/
theorem sum_tile_lt {M : Type*} [AddCommMonoid M] (f : ℕ → M) (lo n r : ℕ) (h : r ≤ n) :
    ∑ j ∈ Ico lo (lo + r), f j = ∑ s : Fin n, if s.val < r then f (lo + s.val) else 0 := by
  rw [Finset.sum_Ico_eq_sum_range, Nat.add_sub_cancel_left,
    ← Finset.sum_range (fun s => if s < r then f (lo + s) else 0), ← Finset.sum_filter]
  refine Finset.sum_congr ?_ fun _ _ => rfl
  ext s; simp only [mem_range, mem_filter]; omega

/-- A sum over an interval inside the tile, as a masked sum over the whole tile. -/
theorem sum_tile_between {M : Type*} [AddCommMonoid M] (f : ℕ → M) (lo n a r : ℕ) (h : r ≤ n) :
    ∑ j ∈ Ico (lo + a) (lo + r), f j
      = ∑ s : Fin n, if a ≤ s.val ∧ s.val < r then f (lo + s.val) else 0 := by
  rw [← Finset.sum_range (fun s => if a ≤ s ∧ s < r then f (lo + s) else 0), ← Finset.sum_filter,
    Finset.sum_Ico_eq_sum_range]
  refine Finset.sum_bij' (fun k _ => a + k) (fun k _ => k - a) ?_ ?_ ?_ ?_ ?_
  · intro k hk; simp only [mem_range, mem_filter] at *; omega
  · intro k hk; simp only [mem_range, mem_filter] at *; omega
  · intro k _; simp
  · intro k hk; simp only [mem_range, mem_filter] at *; omega
  · intro k _; rw [Nat.add_assoc]

/-- A sum with one more condition at the bottom of an interval. -/
theorem tail_split (z : ℕ → ℝ) (t a b : ℕ) (h : a ≤ b) (h' : b ≤ t) :
    tail z t a = (∑ j ∈ Ico a b, lk (z j)) + tail z t b := by
  unfold tail; rw [Finset.sum_Ico_consecutive _ h h']

/-! ### The tile of the diagonal: keys `lo … lo + 255`, the query at `lo + r` -/

/-- What lies between a key of the diagonal tile and the query. -/
theorem diag_between (z : ℕ → ℝ) (lo : ℕ) (r s : Fin 256) :
    (∑ k : Fin 256, if s < k then (if k.val < r.val then lk (z (lo + k.val)) else 0) else 0)
      = tail z (lo + r.val) (lo + s.val + 1) := by
  unfold tail
  rw [Nat.add_assoc, sum_tile_between (fun j => lk (z j)) lo 256 (s.val + 1) r.val (by omega)]
  refine Finset.sum_congr rfl fun k _ => ?_
  by_cases h1 : s < k <;> by_cases h2 : k.val < r.val <;> simp [h1, h2, Nat.succ_le_iff]

/-- The sum over the whole diagonal tile. -/
theorem diag_total (z : ℕ → ℝ) (lo : ℕ) (r : Fin 256) :
    (∑ k : Fin 256, if (0 : Fin 256) < k then (if k.val < r.val then lk (z (lo + k.val)) else 0) else 0)
      + (if (0 : Fin 256).val < r.val then lk (z (lo + (0 : Fin 256).val)) else 0)
      = tail z (lo + r.val) lo := by
  rw [diag_between z lo r 0]
  by_cases h : (0 : Fin 256).val < r.val
  · rw [if_pos h, tail_split z (lo + r.val) lo (lo + (0 : Fin 256).val + 1) (by simp) (by simp at h ⊢; omega)]
    simp; ring
  · have h0 : r.val = 0 := by simp at h; exact congrArg Fin.val h
    unfold tail; simp [h0]

/-- The diagonal tile's weighted sum. -/
theorem diag_mix (z : ℕ → ℝ) (v : ℕ → EReal) (lo : ℕ) (r : Fin 256) :
    mix z v (lo + r.val) lo
      = ∑ s : Fin 256, v (lo + s.val) * (if s.val < r.val then ((wt z (lo + r.val) (lo + s.val) : ℝ) : EReal) else 0) := by
  unfold mix
  rw [sum_tile_lt _ lo 256 r.val (by omega)]
  refine Finset.sum_congr rfl fun s _ => ?_
  split <;> simp

/-! ### A tile before the diagonal: keys `lo … lo + 255`, the query at or after `lo + 256` -/

/-- What lies between a key of an earlier tile and the query. -/
theorem tile_between (z : ℕ → ℝ) (t lo : ℕ) (h : lo + 256 ≤ t) (s : Fin 256) :
    (∑ k : Fin 256, if s < k then lk (z (lo + k.val)) else 0) + tail z t (lo + 256)
      = tail z t (lo + s.val + 1) := by
  rw [tail_split z t (lo + s.val + 1) (lo + 256) (by omega) h, Nat.add_assoc lo,
    sum_tile_between (fun j => lk (z j)) lo 256 (s.val + 1) 256 (le_refl _)]
  congr 1
  refine Finset.sum_congr rfl fun k _ => ?_
  by_cases h1 : s < k <;> simp [h1, Nat.succ_le_iff]

/-- The carried sum after an earlier tile. -/
theorem tile_total (z : ℕ → ℝ) (t lo : ℕ) (h : lo + 256 ≤ t) :
    tail z t (lo + 256) + (∑ k : Fin 256, if (0 : Fin 256) < k then lk (z (lo + k.val)) else 0)
      + lk (z (lo + (0 : Fin 256).val)) = tail z t lo := by
  rw [add_comm (tail _ _ _), tile_between z t lo h 0,
    tail_split z t lo (lo + (0 : Fin 256).val + 1) (by simp) (by simp; omega)]
  simp; ring

/-- The weighted sum with an earlier tile added. -/
theorem tile_mix (z : ℕ → ℝ) (v : ℕ → EReal) (t lo : ℕ) (h : lo + 256 ≤ t) :
    mix z v t (lo + 256) + (∑ s : Fin 256, v (lo + s.val) * ((wt z t (lo + s.val) : ℝ) : EReal))
      = mix z v t lo := by
  unfold mix
  rw [← sum_tile (fun s => v s * ((wt z t s : ℝ) : EReal)) lo 256, add_comm,
    Finset.sum_Ico_consecutive _ (by omega) h]

end Sb

end
-- ==== Proof.Sb.Tile.lean ====
module

public import proofs.«01_k».proof.Proof.Gen.KernelIdeal.Skeleton
public import proofs.«01_k».proof.Proof.Sb.Spec
public import Idealize.ShloMosaic.Lib.Pointwise

/-!
One tile of the stick-breaking kernel for one head, as operations on whole tiles and then read at an
index: scores, their logarithms, the sums between a key and the end of the tile, the weights, and
the carried sum and weighted sum that the tile leaves.
-/

@[expose] public section

set_option maxRecDepth 16384

noncomputable section

open Idealize.ShloMosaic

namespace Cert.KernelIdeal.Tile

open Cert.KernelIdeal Cert.KernelIdeal.Gen

/-- The exponential of a real number. -/
theorem exp_coe (x : ℝ) : Ideal.exp (x : EReal) = ((Real.exp x : ℝ) : EReal) := rfl

/-- The logarithm of a positive real number. -/
theorem log_coe (x : ℝ) (h : 0 < x) : Ideal.log (x : EReal) = ((Real.log x : ℝ) : EReal) := if_neg (not_le.mpr h)

/-- The larger of two real numbers, read in the extended reals. -/
theorem coe_max (x y : ℝ) : ((max x y : ℝ) : EReal) = max (x : EReal) (y : EReal) :=
  EReal.coe_strictMono.monotone.map_max

/-- The smaller of two real numbers, read in the extended reals. -/
theorem coe_min (x y : ℝ) : ((min x y : ℝ) : EReal) = min (x : EReal) (y : EReal) :=
  EReal.coe_strictMono.monotone.map_min

/-- A sum of real numbers, read in the extended reals. -/
theorem coe_sum {ι : Type} (s : Finset ι) (f : ι → ℝ) :
    ((∑ k ∈ s, f k : ℝ) : EReal) = ∑ k ∈ s, ((f k : ℝ) : EReal) := by
  induction s using Finset.cons_induction with
  | empty => simp
  | cons a s ha ih => rw [Finset.sum_cons, Finset.sum_cons, EReal.coe_add, ih]

variable {F : FTy → Type} [FloatOps F]

/-- The scores of a tile of keys against the masked queries of one head. -/
def scores (kt qh : FVec F S256x256 .bf16) : FVec F S256x256 .f32 :=
  matmul dot_S256x256_S256x256_S256x256_1_0_0_1_n_n none kt qh (constant S256x256 .f32 0x00000000#32)

/-- The logarithm of the logistic function of the scores. -/
def logBeta (z : FVec F S256x256 .f32) : FVec F S256x256 .f32 :=
  subf (minimumf z (broadcast S256x256 (Scalar.ofBits .f32 0x00000000#32)))
    (log (addf (broadcast S256x256 (Scalar.ofBits .f32 0x3F800000#32))
      (exp (subf (broadcast S256x256 (Scalar.ofBits .f32 0x00000000#32)) (absf z)))))

/-- The sums over the keys after each key of the tile, taken in two parts. -/
def between (tri : FVec F S256x256 .bf16) (l : FVec F S256x256 .f32) : FVec F S256x256 .f32 :=
  addf
    (matmul dot_S256x256_S256x256_S256x256_1_0_0_1_n_n none tri (truncf .bf16 l bitsLt_bf16_f32)
      (constant S256x256 .f32 0x00000000#32))
    (matmul dot_S256x256_S256x256_S256x256_1_0_0_1_n_n none tri
      (truncf .bf16 (subf l (extf .f32 (truncf .bf16 l bitsLt_bf16_f32) bitsLt_bf16_f32)) bitsLt_bf16_f32)
      (constant S256x256 .f32 0x00000000#32))

/-- The weights of a tile. -/
def weights (b s : FVec F S256x256 .f32) (c : FVec F S1x256 .f32) : FVec F S256x256 .f32 :=
  exp (addf (addf b s) (broadcastTo S256x256 c broadcasts_S1x256_S256x256))

/-- The carried sum with the tile's own total added. -/
def carried (c : FVec F S1x256 .f32) (s l : FVec F S256x256 .f32) : FVec F S1x256 .f32 :=
  addf (addf c (extractStridedSlice S1x256 ![0, 0] s slices_S256x256_o0_0_S1x256))
    (extractStridedSlice S1x256 ![0, 0] l slices_S256x256_o0_0_S1x256)

/-- The weighted sum with the tile's values added. -/
def gathered (a : FVec F S64x256 .f32) (vt : FVec F S64x256 .bf16) (w : FVec F S256x256 .f32) : FVec F S64x256 .f32 :=
  addf a (matmul dot_S64x256_S256x256_S64x256_1_0_0_1_n_n none vt (truncf .bf16 w bitsLt_bf16_f32)
    (constant S64x256 .f32 0x00000000#32))

/-- The tile's zeros where the mask does not hold. -/
def masked (p : IVec S256x256 1) (x : FVec F S256x256 .f32) : FVec F S256x256 .f32 :=
  select p x (broadcast S256x256 (Scalar.ofBits .f32 0x00000000#32))

/-- An earlier tile's carried sum. -/
def tileC (kt qh tri : FVec F S256x256 .bf16) (c : FVec F S1x256 .f32) : FVec F S1x256 .f32 :=
  carried c (between tri (subf (logBeta (scores kt qh)) (scores kt qh)))
    (subf (logBeta (scores kt qh)) (scores kt qh))

/-- An earlier tile's weighted sum. -/
def tileA (kt qh tri : FVec F S256x256 .bf16) (vt : FVec F S64x256 .bf16) (c : FVec F S1x256 .f32)
    (a : FVec F S64x256 .f32) : FVec F S64x256 .f32 :=
  gathered a vt (weights (logBeta (scores kt qh))
    (between tri (subf (logBeta (scores kt qh)) (scores kt qh))) c)

/-- The diagonal tile's carried sum. -/
def diagC (p : IVec S256x256 1) (kt qh tri : FVec F S256x256 .bf16) (c : FVec F S1x256 .f32) : FVec F S1x256 .f32 :=
  carried c (between tri (masked p (subf (logBeta (scores kt qh)) (scores kt qh))))
    (masked p (subf (logBeta (scores kt qh)) (scores kt qh)))

/-- The diagonal tile's weighted sum. -/
def diagA (p : IVec S256x256 1) (kt qh tri : FVec F S256x256 .bf16) (vt : FVec F S64x256 .bf16) (c : FVec F S1x256 .f32)
    (a : FVec F S64x256 .f32) : FVec F S64x256 .f32 :=
  gathered a vt (masked p (weights (logBeta (scores kt qh))
    (between tri (masked p (subf (logBeta (scores kt qh)) (scores kt qh)))) c))

/-! ### Read at an index, over the extended reals -/

theorem scores_apply (kt qh : FVec Ideal S256x256 .bf16) (s r : Fin 256) :
    scores kt qh (ix2 s r) = ∑ f : Fin 256, kt (ix2 s f) * qh (ix2 f r) := by
  pointwise [scores]

theorem logBeta_apply (z : FVec Ideal S256x256 .f32) (s r : Fin 256) (x : ℝ) (h : z (ix2 s r) = (x : EReal)) :
    logBeta z (ix2 s r) = ((Sb.lb x : ℝ) : EReal) := by
  pointwise [logBeta]
  rw [h]
  show min (x : EReal) 0 - Ideal.log (1 + Ideal.exp (0 - max (x : EReal) (-(x : EReal)))) = _
  rw [← EReal.coe_zero, ← EReal.coe_one, ← EReal.coe_neg, ← coe_max, ← coe_min, ← EReal.coe_sub, exp_coe,
    ← EReal.coe_add, log_coe _ (by positivity), ← EReal.coe_sub]
  unfold Sb.lb
  rw [zero_sub]; rfl

theorem between_apply (tri : FVec Ideal S256x256 .bf16) (l : FVec Ideal S256x256 .f32) (s r : Fin 256)
   (htri : ∀ s k : Fin 256, tri (ix2 s k) = if s < k then 1 else 0)
   (g : Fin 256 → ℝ) (h : ∀ k, l (ix2 k r) = (g k : EReal)) :
    between tri l (ix2 s r) = ((∑ k : Fin 256, if s < k then g k else 0 : ℝ) : EReal) := by
  pointwise [between]
  rw [coe_sum, ← add_zero (∑ k : Fin 256, (((if s < k then g k else 0 : ℝ)) : EReal))]
  congr 1
  · refine Finset.sum_congr rfl fun k _ => ?_
    rw [htri, h]; split <;> simp
  · refine Finset.sum_eq_zero fun k _ => ?_
    rw [h, ← EReal.coe_sub, sub_self, EReal.coe_zero, mul_zero]

theorem weights_apply (b s : FVec Ideal S256x256 .f32) (c : FVec Ideal S1x256 .f32) (i r : Fin 256) :
    weights b s c (ix2 i r) = Ideal.exp (b (ix2 i r) + s (ix2 i r) + c (ix2 0 r)) := by
  pointwise [weights]

theorem carried_apply (c : FVec Ideal S1x256 .f32) (s l : FVec Ideal S256x256 .f32) (r : Fin 256) :
    carried c s l (ix2 0 r) = c (ix2 0 r) + s (ix2 0 r) + l (ix2 0 r) := by
  pointwise [carried]

theorem gathered_apply (a : FVec Ideal S64x256 .f32) (vt : FVec Ideal S64x256 .bf16) (w : FVec Ideal S256x256 .f32)
    (d : Fin 64) (r : Fin 256) :
    gathered a vt w (ix2 d r) = a (ix2 d r) + ∑ s : Fin 256, vt (ix2 d s) * w (ix2 s r) := by
  pointwise [gathered]

theorem masked_apply (p : IVec S256x256 1) (x : FVec Ideal S256x256 .f32) (s r : Fin 256) :
    masked p x (ix2 s r) = if p (ix2 s r) = 1#1 then x (ix2 s r) else 0 := by
  pointwise [masked]
  rfl

/-! ### A tile at an index, from real scores -/

section
variable (kt qh tri : FVec Ideal S256x256 .bf16) (vt : FVec Ideal S64x256 .bf16) (c : FVec Ideal S1x256 .f32)
  (a : FVec Ideal S64x256 .f32) (p : IVec S256x256 1) (r : Fin 256) (z : Fin 256 → ℝ) (x : ℝ)

theorem lk_apply (hz : ∀ s, scores kt qh (ix2 s r) = (z s : EReal)) (s : Fin 256) :
    subf (logBeta (scores kt qh)) (scores kt qh) (ix2 s r) = ((Sb.lk (z s) : ℝ) : EReal) := by
  show logBeta (scores kt qh) (ix2 s r) - scores kt qh (ix2 s r) = _
  rw [logBeta_apply _ s r _ (hz s), hz s, ← EReal.coe_sub]; rfl

theorem tileC_apply (htri : ∀ s k : Fin 256, tri (ix2 s k) = if s < k then 1 else 0)
    (hz : ∀ s, scores kt qh (ix2 s r) = (z s : EReal)) (hc : c (ix2 0 r) = (x : EReal)) :
    tileC kt qh tri c (ix2 0 r)
      = ((x + (∑ k : Fin 256, if 0 < k then Sb.lk (z k) else 0) + Sb.lk (z 0) : ℝ) : EReal) := by
  unfold tileC
  rw [carried_apply, hc, between_apply tri _ 0 r htri (fun k => Sb.lk (z k)) (lk_apply kt qh r z hz),
    lk_apply kt qh r z hz, ← EReal.coe_add, ← EReal.coe_add]

theorem tileA_apply (htri : ∀ s k : Fin 256, tri (ix2 s k) = if s < k then 1 else 0)
    (hz : ∀ s, scores kt qh (ix2 s r) = (z s : EReal)) (hc : c (ix2 0 r) = (x : EReal)) (d : Fin 64) :
    tileA kt qh tri vt c a (ix2 d r) = a (ix2 d r) + ∑ s : Fin 256, vt (ix2 d s)
      * ((Real.exp (Sb.lb (z s) + (∑ k : Fin 256, if s < k then Sb.lk (z k) else 0) + x) : ℝ) : EReal) := by
  unfold tileA
  rw [gathered_apply]
  congr 1
  refine Finset.sum_congr rfl fun s _ => ?_
  rw [weights_apply, hc, between_apply tri _ s r htri (fun k => Sb.lk (z k)) (lk_apply kt qh r z hz),
    logBeta_apply _ s r _ (hz s), ← EReal.coe_add, ← EReal.coe_add, exp_coe]

theorem mlk_apply (hp : ∀ s : Fin 256, p (ix2 s r) = 1#1 ↔ s.val < r.val)
    (hz : ∀ s, scores kt qh (ix2 s r) = (z s : EReal)) (s : Fin 256) :
    masked p (subf (logBeta (scores kt qh)) (scores kt qh)) (ix2 s r)
      = ((if s.val < r.val then Sb.lk (z s) else 0 : ℝ) : EReal) := by
  rw [masked_apply, lk_apply kt qh r z hz]
  by_cases h : s.val < r.val
  · rw [if_pos ((hp s).mpr h), if_pos h]
  · rw [if_neg (fun e => h ((hp s).mp e)), if_neg h, EReal.coe_zero]

theorem diagC_apply (htri : ∀ s k : Fin 256, tri (ix2 s k) = if s < k then 1 else 0)
    (hp : ∀ s : Fin 256, p (ix2 s r) = 1#1 ↔ s.val < r.val)
    (hz : ∀ s, scores kt qh (ix2 s r) = (z s : EReal)) (hc : c (ix2 0 r) = (x : EReal)) :
    diagC p kt qh tri c (ix2 0 r)
      = ((x + (∑ k : Fin 256, if 0 < k then (if k.val < r.val then Sb.lk (z k) else 0) else 0)
          + (if (0 : Fin 256).val < r.val then Sb.lk (z 0) else 0) : ℝ) : EReal) := by
  unfold diagC
  rw [carried_apply, hc, between_apply tri _ 0 r htri (fun k => if k.val < r.val then Sb.lk (z k) else 0)
    (mlk_apply kt qh p r z hp hz), mlk_apply kt qh p r z hp hz, ← EReal.coe_add, ← EReal.coe_add]

theorem diagA_apply (htri : ∀ s k : Fin 256, tri (ix2 s k) = if s < k then 1 else 0)
    (hp : ∀ s : Fin 256, p (ix2 s r) = 1#1 ↔ s.val < r.val)
    (hz : ∀ s, scores kt qh (ix2 s r) = (z s : EReal)) (hc : c (ix2 0 r) = (x : EReal)) (d : Fin 64) :
    diagA p kt qh tri vt c a (ix2 d r) = a (ix2 d r) + ∑ s : Fin 256, vt (ix2 d s)
      * (if s.val < r.val then ((Real.exp (Sb.lb (z s)
          + (∑ k : Fin 256, if s < k then (if k.val < r.val then Sb.lk (z k) else 0) else 0) + x) : ℝ) : EReal) else 0) := by
  unfold diagA
  rw [gathered_apply]
  congr 1
  refine Finset.sum_congr rfl fun s _ => ?_
  congr 1
  rw [masked_apply]
  by_cases h : s.val < r.val
  · rw [if_pos ((hp s).mpr h), if_pos h, weights_apply, hc,
      between_apply tri _ s r htri (fun k => if k.val < r.val then Sb.lk (z k) else 0) (mlk_apply kt qh p r z hp hz),
      logBeta_apply _ s r _ (hz s), ← EReal.coe_add, ← EReal.coe_add, exp_coe]
  · rw [if_neg (fun e => h ((hp s).mp e)), if_neg h]

end

end Cert.KernelIdeal.Tile

end
-- ==== Proof.Sb.Loop.lean ====
module

public import proofs.«01_k».proof.Proof.Gen.KernelIdeal.Loops
public import proofs.«01_k».proof.Proof.Sb.Tile

/-!
One trip of the stick-breaking kernel's loop over the earlier tiles: each head's carried sum and
weighted sum move on by the tile the trip reads.
-/

@[expose] public section

set_option maxRecDepth 16384
noncomputable section
open Idealize.ShloMosaic Idealize.ShloMosaic.TcCoe Idealize.SL.Sem
namespace Cert.KernelIdeal.Tile
open Cert.KernelIdeal Cert.KernelIdeal.Gen
variable {F : FTy → Type} [FloatOps F]

/-- What the loop carries: for each of the four heads the carried sum and the weighted sum. -/
abbrev St (F : FTy → Type) : Type := FVec F S1x256 .f32 × FVec F S64x256 .f32 × FVec F S1x256 .f32 × FVec F S64x256 .f32 × FVec F S1x256 .f32 × FVec F S64x256 .f32 × FVec F S1x256 .f32 × FVec F S64x256 .f32

/-- A block of keys read out of the key scratch. -/
def keysAt (arg6 : Memref sig .tc .vmem S8x256x256 .bf16) (X : BufTy.Contents (Elt F) arg6.view.ty) (off : Fin 3 → ℕ)
    (h : ∀ a, off a + S1x256x256.size a ≤ S8x256x256.size a) : FVec F S256x256 .bf16 :=
  shapeCast S256x256 (arg6.view.readAt (Elt F) (Rect.unit (s := S8x256x256) off S1x256x256.size h).toLoadRect X)
    shapeCasts_S1x256x256_S256x256

/-- A head's block of values read out of the value scratch. -/
def valsAt (arg7 : Memref sig .tc .vmem S8x256x256 .bf16) (X : BufTy.Contents (Elt F) arg7.view.ty) (off : Fin 3 → ℕ)
    (h : ∀ a, off a + S1x64x256.size a ≤ S8x256x256.size a) : FVec F S64x256 .bf16 :=
  shapeCast S64x256 (arg7.view.readAt (Elt F) (Rect.unit (s := S8x256x256) off S1x64x256.size h).toLoadRect X)
    shapeCasts_S1x64x256_S64x256

/-- All four heads moved on by one tile. -/
def stepS (kt q0 q1 q2 q3 tri : FVec F S256x256 .bf16) (w0 w1 w2 w3 : FVec F S64x256 .bf16) (acc : St F) : St F :=
  (tileC kt q0 tri acc.1, tileA kt q0 tri w0 acc.1 acc.2.1,
   tileC kt q1 tri acc.2.2.1, tileA kt q1 tri w1 acc.2.2.1 acc.2.2.2.1,
   tileC kt q2 tri acc.2.2.2.2.1, tileA kt q2 tri w2 acc.2.2.2.2.1 acc.2.2.2.2.2.1,
   tileC kt q3 tri acc.2.2.2.2.2.2.1, tileA kt q3 tri w3 acc.2.2.2.2.2.2.1 acc.2.2.2.2.2.2.2)

/-- A trip of the loop is one such step. -/
theorem trip_eq (𝒱 : Variants) (c : Dev nD) (bd : Option 𝒱.V) (i : grid0.Coords) (arg2 : Memref sig .tc .vmem S1x256x256 .f32) (harg2 : arg2.IsWhole) (arg3 : Memref sig .tc .vmem S1x2048x512 .f32) (harg3 : arg3.IsWhole) (arg4 : Memref sig .tc .vmem S256x256 .bf16) (harg4 : arg4.IsWhole) (arg5 : Memref sig .tc .vmem S1x256x256 .f32) (harg5 : arg5.IsWhole) (arg6 : Memref sig .tc .vmem S8x256x256 .bf16) (harg6 : arg6.IsWhole) (arg7 : Memref sig .tc .vmem S8x256x256 .bf16) (harg7 : arg7.IsWhole) (v18 v27 v36 v45 : FVec F S256x256 .bf16) (v49 : Vec F S256x256 .bf16) (v68 : BitVec 32) (X_arg6 : BufTy.Contents (Elt F) arg6.view.ty) (X_arg7 : BufTy.Contents (Elt F) arg7.view.ty) (k : Fin (k0_t1_loop i).trips) (acc : St F) :
    tripR_k0_t1 𝒱 c bd i arg2 harg2 arg3 harg3 arg4 harg4 arg5 harg5 arg6 harg6 arg7 harg7 v18 v27 v36 v45 v49 v68 X_arg6 X_arg7 k acc
      = stepS (keysAt arg6 X_arg6 (k0_off10 i k) (k0_off10_inb i k)) v18 v27 v36 v45 v49
          (valsAt arg7 X_arg7 (k0_off6 i k) (k0_off6_inb i k)) (valsAt arg7 X_arg7 (k0_off7 i k) (k0_off7_inb i k))
          (valsAt arg7 X_arg7 (k0_off8 i k) (k0_off8_inb i k)) (valsAt arg7 X_arg7 (k0_off9 i k) (k0_off9_inb i k)) acc := by
  unfold tripR_k0_t1 trip_k0_t1
  rfl

end Cert.KernelIdeal.Tile

end
-- ==== Proof.Sb.Point.lean ====
module

public import proofs.«01_k».proof.Proof.Gen.KernelIdeal.Value
public import proofs.«01_k».proof.Proof.Sb.Loop
public import Idealize.ShloMosaic.Lib.Pipeline.ValueKit
public import Idealize.ShloMosaic.Lib.Pipeline.ReadBack
public import Idealize.ShloMosaic.Lib.Pipeline.ValueKit.Held

/-!
What the stick-breaking kernel leaves in its output block at a grid point, as a function of the
query block, the table of ones, and the two scratches of keys and values.
-/

@[expose] public section

set_option maxRecDepth 16384
noncomputable section
open Idealize.ShloMosaic Idealize.ShloMosaic.TcCoe Idealize.SL.Sem
namespace Cert.KernelIdeal.Tile
open Cert.KernelIdeal Cert.KernelIdeal.Gen
variable {F : FTy → Type} [FloatOps F]

/-- A block of keys out of the key scratch's contents. -/
def keysOf (K : Vec F S8x256x256 .bf16) (off : Fin 3 → ℕ)
    (h : ∀ a, off a + S1x256x256.size a ≤ S8x256x256.size a) : FVec F S256x256 .bf16 :=
  shapeCast S256x256 (View.ld K (Rect.unit (s := S8x256x256) off S1x256x256.size h)) shapeCasts_S1x256x256_S256x256

/-- A head's block of values out of the value scratch's contents. -/
def valsOf (V : Vec F S8x256x256 .bf16) (off : Fin 3 → ℕ)
    (h : ∀ a, off a + S1x64x256.size a ≤ S8x256x256.size a) : FVec F S64x256 .bf16 :=
  shapeCast S64x256 (View.ld V (Rect.unit (s := S8x256x256) off S1x64x256.size h)) shapeCasts_S1x64x256_S64x256

theorem keysAt_eq (arg6 : Memref sig .tc .vmem S8x256x256 .bf16) (X : BufTy.Contents (Elt F) arg6.view.ty) (off : Fin 3 → ℕ)
    (h : ∀ a, off a + S1x256x256.size a ≤ S8x256x256.size a) :
    keysAt arg6 X off h = keysOf (arg6.view.read (Elt F) X) off h := by
  unfold keysAt keysOf; rw [View.readAt_eq_ld]

theorem valsAt_eq (arg7 : Memref sig .tc .vmem S8x256x256 .bf16) (X : BufTy.Contents (Elt F) arg7.view.ty) (off : Fin 3 → ℕ)
    (h : ∀ a, off a + S1x64x256.size a ≤ S8x256x256.size a) :
    valsAt arg7 X off h = valsOf (arg7.view.read (Elt F) X) off h := by
  unfold valsAt valsOf; rw [View.readAt_eq_ld]

/-- The four heads after `n` trips. -/
def loopS (K V : Vec F S8x256x256 .bf16) (q0 q1 q2 q3 tri : FVec F S256x256 .bf16) (i : grid0.Coords) (init : St F) : ℕ → St F
  | 0 => init
  | n + 1 => if h : n < (k0_t1_loop i).trips then
      stepS (keysOf K (k0_off10 i ⟨n, h⟩) (k0_off10_inb i ⟨n, h⟩)) q0 q1 q2 q3 tri
        (valsOf V (k0_off6 i ⟨n, h⟩) (k0_off6_inb i ⟨n, h⟩)) (valsOf V (k0_off7 i ⟨n, h⟩) (k0_off7_inb i ⟨n, h⟩))
        (valsOf V (k0_off8 i ⟨n, h⟩) (k0_off8_inb i ⟨n, h⟩)) (valsOf V (k0_off9 i ⟨n, h⟩) (k0_off9_inb i ⟨n, h⟩))
        (loopS K V q0 q1 q2 q3 tri i init n)
    else loopS K V q0 q1 q2 q3 tri i init n

/-- What the loop carries is those four heads. -/
theorem st_eq (𝒱 : Variants) (c : Dev nD) (bd : Option 𝒱.V) (i : grid0.Coords) (arg2 : Memref sig .tc .vmem S1x256x256 .f32) (harg2 : arg2.IsWhole) (arg3 : Memref sig .tc .vmem S1x2048x512 .f32) (harg3 : arg3.IsWhole) (arg4 : Memref sig .tc .vmem S256x256 .bf16) (harg4 : arg4.IsWhole) (arg5 : Memref sig .tc .vmem S1x256x256 .f32) (harg5 : arg5.IsWhole) (arg6 : Memref sig .tc .vmem S8x256x256 .bf16) (harg6 : arg6.IsWhole) (arg7 : Memref sig .tc .vmem S8x256x256 .bf16) (harg7 : arg7.IsWhole) (v18 v27 v36 v45 : FVec F S256x256 .bf16) (v49 : Vec F S256x256 .bf16) (v68 : BitVec 32) (X_arg6 : BufTy.Contents (Elt F) arg6.view.ty) (X_arg7 : BufTy.Contents (Elt F) arg7.view.ty) (init : St F) (n : ℕ) :
    st_k0_t1 𝒱 c bd i arg2 harg2 arg3 harg3 arg4 harg4 arg5 harg5 arg6 harg6 arg7 harg7 v18 v27 v36 v45 v49 v68 X_arg6 X_arg7 init n
      = loopS (arg6.view.read (Elt F) X_arg6) (arg7.view.read (Elt F) X_arg7) v18 v27 v36 v45 v49 i init n := by
  induction n with
  | zero => rfl
  | succ n ih =>
    rw [st_k0_t1.eq_2, loopS]
    unfold st_k0_t1Step
    split
    · rw [trip_eq, ih, keysAt_eq, valsAt_eq, valsAt_eq, valsAt_eq, valsAt_eq]
    · exact ih

/-- The loop over what the unrolled loop leaves has nothing to do. -/
theorem trips_k0_t2 : ∀ i : grid0.Coords, (k0_t2_loop i).trips = 0 := by decide +kernel

theorem st2_eq (𝒱 : Variants) (c : Dev nD) (bd : Option 𝒱.V) (i : grid0.Coords) (arg2 : Memref sig .tc .vmem S1x256x256 .f32) (harg2 : arg2.IsWhole) (arg3 : Memref sig .tc .vmem S1x2048x512 .f32) (harg3 : arg3.IsWhole) (arg4 : Memref sig .tc .vmem S256x256 .bf16) (harg4 : arg4.IsWhole) (arg5 : Memref sig .tc .vmem S1x256x256 .f32) (harg5 : arg5.IsWhole) (arg6 : Memref sig .tc .vmem S8x256x256 .bf16) (harg6 : arg6.IsWhole) (arg7 : Memref sig .tc .vmem S8x256x256 .bf16) (harg7 : arg7.IsWhole) (v18 v27 v36 v45 : FVec F S256x256 .bf16) (v49 : Vec F S256x256 .bf16) (v68 : BitVec 32) (X_arg6 : BufTy.Contents (Elt F) arg6.view.ty) (X_arg7 : BufTy.Contents (Elt F) arg7.view.ty) (v239 : BitVec 32) (init : St F) :
    st_k0_t2 𝒱 c bd i arg2 harg2 arg3 harg3 arg4 harg4 arg5 harg5 arg6 harg6 arg7 harg7 v18 v27 v36 v45 v49 v68 v239 X_arg6 X_arg7 init (k0_t2_loop i).trips
      = init := by
  rw [trips_k0_t2]; rfl

/-- The mask of the diagonal tile. -/
def maskOf (i : grid0.Coords) : IVec S256x256 1 :=
  k0_pay118 (k0_pay108 (Scalar.muli (BitVec.ofNat 32 (i 1).val) 256#32)) (k0_pay109 (Scalar.muli (BitVec.ofNat 32 (i 1).val) 256#32))

/-- The four heads after the diagonal tile. -/
def initS (K V : Vec F S8x256x256 .bf16) (q0 q1 q2 q3 tri : FVec F S256x256 .bf16) (i : grid0.Coords) : St F :=
  (diagC (maskOf i) (keysOf K (k0_off5 i) (k0_off5_inb i)) q0 tri (broadcast S1x256 (Scalar.ofBits .f32 0x00000000#32)),
   diagA (maskOf i) (keysOf K (k0_off5 i) (k0_off5_inb i)) q0 tri (valsOf V (k0_off1 i) (k0_off1_inb i))
     (broadcast S1x256 (Scalar.ofBits .f32 0x00000000#32)) (broadcast S64x256 (Scalar.ofBits .f32 0x00000000#32)),
   diagC (maskOf i) (keysOf K (k0_off5 i) (k0_off5_inb i)) q1 tri (broadcast S1x256 (Scalar.ofBits .f32 0x00000000#32)),
   diagA (maskOf i) (keysOf K (k0_off5 i) (k0_off5_inb i)) q1 tri (valsOf V (k0_off2 i) (k0_off2_inb i))
     (broadcast S1x256 (Scalar.ofBits .f32 0x00000000#32)) (broadcast S64x256 (Scalar.ofBits .f32 0x00000000#32)),
   diagC (maskOf i) (keysOf K (k0_off5 i) (k0_off5_inb i)) q2 tri (broadcast S1x256 (Scalar.ofBits .f32 0x00000000#32)),
   diagA (maskOf i) (keysOf K (k0_off5 i) (k0_off5_inb i)) q2 tri (valsOf V (k0_off3 i) (k0_off3_inb i))
     (broadcast S1x256 (Scalar.ofBits .f32 0x00000000#32)) (broadcast S64x256 (Scalar.ofBits .f32 0x00000000#32)),
   diagC (maskOf i) (keysOf K (k0_off5 i) (k0_off5_inb i)) q3 tri (broadcast S1x256 (Scalar.ofBits .f32 0x00000000#32)),
   diagA (maskOf i) (keysOf K (k0_off5 i) (k0_off5_inb i)) q3 tri (valsOf V (k0_off4 i) (k0_off4_inb i))
     (broadcast S1x256 (Scalar.ofBits .f32 0x00000000#32)) (broadcast S64x256 (Scalar.ofBits .f32 0x00000000#32)))

/-- The four heads at the end of a point. -/
def pointS (q : Vec F S1x256x256 .f32) (tri : Vec F S256x256 .bf16) (K V : Vec F S8x256x256 .bf16) (i : grid0.Coords) : St F :=
  loopS K V (k0_pay103 q) (k0_pay104 q) (k0_pay105 q) (k0_pay107 (k0_pay102 q) k0_pay106 3#32) tri i
    (initS K V (k0_pay103 q) (k0_pay104 q) (k0_pay105 q) (k0_pay107 (k0_pay102 q) k0_pay106 3#32) tri i)
    (k0_t1_loop i).trips

/-- The output block of a point. -/
def pointOut (q : Vec F S1x256x256 .f32) (tri : Vec F S256x256 .bf16) (K V : Vec F S8x256x256 .bf16) (i : grid0.Coords) :
    Vec F S1x256x256 .f32 :=
  k0_pay29 (pointS q tri K V i).2.1 (pointS q tri K V i).2.2.2.1 (pointS q tri K V i).2.2.2.2.2.1 (pointS q tri K V i).2.2.2.2.2.2.2

variable (m : (ℓ : Loc nD τ sig) → Buf (Elt F) ℓ)

theorem outB_eq (c : Dev nD) (t : Fin cfg0.N) (h : ¬ t.val % 8 = 0) : (outsAt0 m c t.val t.isLt).1
    = pointOut (iblk m c 0 t) (iblk m c 2 t) (outsAt0 m c (t.val - 1) (Nat.lt_of_le_of_lt (Nat.sub_le _ _) t.isLt)).2.1
      (outsAt0 m c (t.val - 1) (Nat.lt_of_le_of_lt (Nat.sub_le _ _) t.isLt)).2.2 (grid0.coords t) := by
  rw [outsAt0_B m c t h]
  generalize (outsAt0 m c (t.val - 1) (Nat.lt_of_le_of_lt (Nat.sub_le _ _) t.isLt)).2.1 = K
  generalize (outsAt0 m c (t.val - 1) (Nat.lt_of_le_of_lt (Nat.sub_le _ _) t.isLt)).2.2 = V
  frame_out
  simp only [read_unread_whole]
  rw [st2_eq, st_eq]
  simp only [read_unread_whole]
  rfl

end Cert.KernelIdeal.Tile

end
-- ==== Proof.Sb.Fill.lean ====
module

public import proofs.«01_k».proof.Proof.Sb.Point
public import Idealize.ShloMosaic.Lib.Pointwise

/-!
What the two scratches of keys and values hold, at every grid point.
-/

@[expose] public section

set_option maxRecDepth 16384
noncomputable section
open Idealize.ShloMosaic Idealize.ShloMosaic.TcCoe Idealize.SL.Sem
namespace Cert.KernelIdeal.Tile
open Cert.KernelIdeal Cert.KernelIdeal.Gen
variable (m : (ℓ : Loc nD τ sig) → Buf (Elt Ideal) ℓ)

/-- The block of keys and values, at two names of one place. -/
theorem at_place {β : Type} (f : S1x2048x512.Idx → β) {a a' : Fin 2048} {b b' : Fin 512} (ha : a.val = a'.val)
    (hb : b.val = b'.val) : f (ix3 (0 : Fin 1) a b) = f (ix3 (0 : Fin 1) a' b') := by
  rw [Fin.ext ha, Fin.ext hb]

theorem fillK (c : Dev nD) (t : Fin cfg0.N) (h : t.val % 8 = 0) (j : Fin 8) (s f : Fin 256) :
    (outsAt0 m c t.val t.isLt).2.1 (ix3 j s f)
      = iblk m c 1 t (ix3 (0 : Fin 1) (⟨256 * j.val + s.val, by omega⟩ : Fin 2048) (⟨f.val, by omega⟩ : Fin 512)) := by
  rw [outsAt0_A m c t h]
  frame_out
  canon_tiles x hx
  all_goals
    open_payloads
    pointwise
    have e0 : j.val = _ := hx0
    have e1 : s.val = _ := hx1
    have e2 : f.val = _ := hx2
    refine at_place (iblk m c 1 t) ?_ ?_ <;> dsimp only <;> omega

theorem fillV (c : Dev nD) (t : Fin cfg0.N) (h : t.val % 8 = 0) (j : Fin 8) (f s : Fin 256) :
    (outsAt0 m c t.val t.isLt).2.2 (ix3 j f s)
      = iblk m c 1 t (ix3 (0 : Fin 1) (⟨256 * j.val + s.val, by omega⟩ : Fin 2048) (⟨256 + f.val, by omega⟩ : Fin 512)) := by
  rw [outsAt0_A m c t h]
  frame_out
  canon_tiles x hx
  all_goals
    open_payloads
    pointwise
    have e0 : j.val = _ := hx0
    have e1 : f.val = _ := hx1
    have e2 : s.val = _ := hx2
    refine at_place (iblk m c 1 t) ?_ ?_ <;> dsimp only <;> omega

theorem idx_facts : ∀ t : Fin cfg0.N,
    win0_0.index t = ![t.val / 8, t.val % 8, 0] ∧ win0_1.index t = ![t.val / 8, 0, 0] ∧
    win0_2.index t = ![0, 0] ∧ win0_3.index t = ![t.val / 8, t.val % 8, 0] :=
  (by decide +kernel : ∀ t : Fin grid0.N,
    win0_0.index t = ![t.val / 8, t.val % 8, 0] ∧ win0_1.index t = ![t.val / 8, 0, 0] ∧
    win0_2.index t = ![0, 0] ∧ win0_3.index t = ![t.val / 8, t.val % 8, 0])

theorem lt_64 (t : Fin cfg0.N) : t.val < 64 := lt_of_lt_of_eq t.isLt (show cfg0.N = 64 from N_0)

theorem iblk1_apply (c : Dev nD) (t : Fin cfg0.N) (s : Fin 2048) (f : Fin 512) :
    iblk m c 1 t (ix3 (0 : Fin 1) s f)
      = m ((c : Thread nD τ).loc main_arg1) (ix3 (⟨t.val / 8, by have := lt_64 t; omega⟩ : Fin 8) s f) := by
  blk_ext [iblk, V, idx_facts t]

theorem iblk0_apply (c : Dev nD) (t : Fin cfg0.N) (r f : Fin 256) :
    iblk m c 0 t (ix3 (0 : Fin 1) r f)
      = m ((c : Thread nD τ).loc main_arg0) (ix3 (⟨t.val / 8, by have := lt_64 t; omega⟩ : Fin 8)
          (⟨256 * (t.val % 8) + r.val, by omega⟩ : Fin 2048) f) := by
  blk_ext [iblk, V, idx_facts t]

theorem iblk2_apply (c : Dev nD) (t : Fin cfg0.N) (r s : Fin 256) :
    iblk m c 2 t (ix2 r s) = Ideal.ofBits .bf16 (lit0t (256 * r.val + s.val)) := by
  unfold iblk
  blk_simp [idx_facts t]
  have e : (win0_2.blk t).view.emb (ix2 r s) = ix2 r s := by blk_ext [idx_facts t]
  rw [e]
  entry_read
  show Ideal.ofBits .bf16 (lit0t (S256x256.rowMajor (ix2 r s)).val) = _
  have h : (S256x256.rowMajor (ix2 r s)).val = 256 * r.val + s.val := by
    rw [Shape.rowMajor_val_two]
    show r.val * 256 + s.val = _
    omega
  rw [h]

/-- The key scratch at every point of a sequence. -/
theorem heldK (c : Dev nD) (t : Fin cfg0.N) (j : Fin 8) (s f : Fin 256) :
    (outsAt0 m c t.val t.isLt).2.1 (ix3 j s f)
      = m ((c : Thread nD τ).loc main_arg1) (ix3 (⟨t.val / 8, by have := lt_64 t; omega⟩ : Fin 8)
          (⟨256 * j.val + s.val, by omega⟩ : Fin 2048) (⟨f.val, by omega⟩ : Fin 512)) := by
  rw [Pipeline.eq_of_write_hold (fun n h => (outsAt0 m c n h).2.1) 8 (fun t => (outsAt0 m c t.val t.isLt).2.1)
    (fun _ _ => rfl) (fun t h => by rw [outsAt0_B m c t h]; rfl) t,
    fillK m c _ (Nat.mul_mod_right _ _), iblk1_apply]
  simp only [Nat.mul_div_cancel_left _ (show 0 < 8 by norm_num)]

/-- The value scratch at every point of a sequence. -/
theorem heldV (c : Dev nD) (t : Fin cfg0.N) (j : Fin 8) (f s : Fin 256) :
    (outsAt0 m c t.val t.isLt).2.2 (ix3 j f s)
      = m ((c : Thread nD τ).loc main_arg1) (ix3 (⟨t.val / 8, by have := lt_64 t; omega⟩ : Fin 8)
          (⟨256 * j.val + s.val, by omega⟩ : Fin 2048) (⟨256 + f.val, by omega⟩ : Fin 512)) := by
  rw [Pipeline.eq_of_write_hold (fun n h => (outsAt0 m c n h).2.2) 8 (fun t => (outsAt0 m c t.val t.isLt).2.2)
    (fun _ _ => rfl) (fun t h => by rw [outsAt0_B m c t h]; rfl) t,
    fillV m c _ (Nat.mul_mod_right _ _), iblk1_apply]
  simp only [Nat.mul_div_cancel_left _ (show 0 < 8 by norm_num)]

end Cert.KernelIdeal.Tile

end
-- ==== Proof.Sb.Heads.lean ====
module

public import proofs.«01_k».proof.Proof.Sb.Fill

/-!
The masked queries of each head, the diagonal mask and the places that the loads take, read at an index.
-/

@[expose] public section

set_option maxRecDepth 16384
noncomputable section
open Idealize.ShloMosaic Idealize.ShloMosaic.TcCoe Idealize.SL.Sem
namespace Cert.KernelIdeal.Tile
open Cert.KernelIdeal Cert.KernelIdeal.Gen

/-- The head that a feature belongs to, as the kernel computes it. -/
theorem head_word : ∀ (f : Fin 256) (h : Fin 4),
    IntOp.cmpi CmpIPredicate.eq (IntOp.shrsi ArithUnit.vector (BitVec.ofNat 32 f.val) 6#32) (BitVec.ofNat 32 h.val) = 1#1
      ↔ f.val / 64 = h.val := by decide +kernel

theorem head_select (f : Fin 256) (h : Fin 4) (x : EReal) :
    Scalar.select (IntOp.cmpi CmpIPredicate.eq (IntOp.shrsi ArithUnit.vector (BitVec.ofNat 32 f.val) 6#32)
      (BitVec.ofNat 32 h.val)) x 0 = if f.val / 64 = h.val then x else 0 := by
  by_cases e : f.val / 64 = h.val
  · rw [(head_word f h).mpr e, if_pos e]; rfl
  · rw [if_neg e]; exact if_neg fun e' => e ((head_word f h).mp e')

/-- The word of the scale one eighth. -/
abbrev eighth : EReal := Ideal.ofBits .f32 0x3E000000#32

theorem head0 (q : Vec Ideal S1x256x256 .f32) (f r : Fin 256) :
    k0_pay103 q (ix2 f r) = if f.val / 64 = 0 then q (ix3 0 r f) * eighth else 0 := by
  pointwise [k0_pay103, k0_pay102]
  exact head_select f 0 _

theorem head1 (q : Vec Ideal S1x256x256 .f32) (f r : Fin 256) :
    k0_pay104 q (ix2 f r) = if f.val / 64 = 1 then q (ix3 0 r f) * eighth else 0 := by
  pointwise [k0_pay104, k0_pay102]
  exact head_select f 1 _

theorem head2 (q : Vec Ideal S1x256x256 .f32) (f r : Fin 256) :
    k0_pay105 q (ix2 f r) = if f.val / 64 = 2 then q (ix3 0 r f) * eighth else 0 := by
  pointwise [k0_pay105, k0_pay102]
  exact head_select f 2 _

theorem head3 (q : Vec Ideal S1x256x256 .f32) (f r : Fin 256) :
    k0_pay107 (k0_pay102 q) k0_pay106 3#32 (ix2 f r) = if f.val / 64 = 3 then q (ix3 0 r f) * eighth else 0 := by
  pointwise [k0_pay107, k0_pay106, k0_pay102]
  exact head_select f 3 _

/-- The first row of keys of the diagonal tile, as the kernel computes it. -/
theorem row_word : ∀ (i : grid0.Coords) (s r : Fin 256),
    k0_pay118 (k0_pay108 (Scalar.muli (BitVec.ofNat 32 (i 1).val) 256#32)) (k0_pay109 (Scalar.muli (BitVec.ofNat 32 (i 1).val) 256#32)) (ix2 s r)
      = IntOp.cmpi CmpIPredicate.slt (IntOp.addi (BitVec.ofNat 32 (256 * (i 1).val)) (BitVec.ofNat 32 s.val))
        (IntOp.addi (BitVec.ofNat 32 (256 * (i 1).val)) (BitVec.ofNat 32 r.val)) := by
  intro i s r
  pointwise [k0_pay118, k0_pay108, k0_pay109]
  generalize (i 1) = n
  revert n
  intro (n : Fin 8)
  fin_cases n <;> rfl

theorem mask_apply (i : grid0.Coords) (s r : Fin 256) : maskOf i (ix2 s r) = 1#1 ↔ s.val < r.val := by
  unfold maskOf
  rw [row_word]
  have hi : (i 1).val < 8 := (i 1).isLt
  generalize (i 1).val = n at hi
  rw [show IntOp.addi (BitVec.ofNat 32 (256 * n)) (BitVec.ofNat 32 s.val) = BitVec.ofNat 32 (256 * n + s.val) from
      (BitVec.ofNat_add ..).symm,
    show IntOp.addi (BitVec.ofNat 32 (256 * n)) (BitVec.ofNat 32 r.val) = BitVec.ofNat 32 (256 * n + r.val) from
      (BitVec.ofNat_add ..).symm]
  rw [WordCmp.cmpi_slt_ofNat_eq_one_iff (by omega) (by omega)]
  omega

theorem off5 : ∀ i : grid0.Coords, k0_off5 i = ![(i 1).val, 0, 0] := by decide +kernel
theorem off1 : ∀ i : grid0.Coords, k0_off1 i = ![(i 1).val, 0, 0] := by decide +kernel
theorem off2 : ∀ i : grid0.Coords, k0_off2 i = ![(i 1).val, 64, 0] := by decide +kernel
theorem off3 : ∀ i : grid0.Coords, k0_off3 i = ![(i 1).val, 128, 0] := by decide +kernel
theorem off4 : ∀ i : grid0.Coords, k0_off4 i = ![(i 1).val, 192, 0] := by decide +kernel
theorem trips1 : ∀ i : grid0.Coords, (k0_t1_loop i).trips = (i 1).val := by decide +kernel
theorem off10 : ∀ (i : grid0.Coords) (k : Fin (k0_t1_loop i).trips), k0_off10 i k = ![(i 1).val - 1 - k.val, 0, 0] := by decide +kernel
theorem off6 : ∀ (i : grid0.Coords) (k : Fin (k0_t1_loop i).trips), k0_off6 i k = ![(i 1).val - 1 - k.val, 0, 0] := by decide +kernel
theorem off7 : ∀ (i : grid0.Coords) (k : Fin (k0_t1_loop i).trips), k0_off7 i k = ![(i 1).val - 1 - k.val, 64, 0] := by decide +kernel
theorem off8 : ∀ (i : grid0.Coords) (k : Fin (k0_t1_loop i).trips), k0_off8 i k = ![(i 1).val - 1 - k.val, 128, 0] := by decide +kernel
theorem off9 : ∀ (i : grid0.Coords) (k : Fin (k0_t1_loop i).trips), k0_off9 i k = ![(i 1).val - 1 - k.val, 192, 0] := by decide +kernel
theorem coord1 : ∀ t : Fin cfg0.N, (grid0.coords t 1).val = t.val % 8 :=
  (by decide +kernel : ∀ t : Fin grid0.N, (grid0.coords t 1).val = t.val % 8)

theorem cast_keys (L : S1x256x256.Idx → EReal) (s f : Fin 256) :
    shapeCast S256x256 L shapeCasts_S1x256x256_S256x256 (ix2 s f) = L (ix3 0 s f) := by
  pointwise

theorem cast_vals (L : S1x64x256.Idx → EReal) (d : Fin 64) (s : Fin 256) :
    shapeCast S64x256 L shapeCasts_S1x64x256_S64x256 (ix2 d s) = L (ix3 0 d s) := by
  pointwise

theorem ld_keys (K : S8x256x256.Idx → EReal) (off : Fin 3 → ℕ)
    (h : ∀ a, off a + S1x256x256.size a ≤ S8x256x256.size a) (j : Fin 8) (e : off = ![j.val, 0, 0]) (s f : Fin 256) :
    K ((Rect.unit (s := S8x256x256) off S1x256x256.size h).toLoadRect.idx (ix3 0 s f : S1x256x256.Idx)) = K (ix3 j s f) := by
  refine congrArg K (funext fun a => Fin.ext ?_)
  show off a + 1 * ((ix3 0 s f : S1x256x256.Idx) a).val = ((ix3 j s f : S8x256x256.Idx) a).val
  rw [e]
  match a with
  | 0 => show j.val + 1 * 0 = j.val; omega
  | 1 => show 0 + 1 * s.val = s.val; omega
  | 2 => show 0 + 1 * f.val = f.val; omega

theorem keysOf_apply (K : Vec Ideal S8x256x256 .bf16) (off : Fin 3 → ℕ)
    (h : ∀ a, off a + S1x256x256.size a ≤ S8x256x256.size a) (j : Fin 8) (e : off = ![j.val, 0, 0]) (s f : Fin 256) :
    keysOf K off h (ix2 s f) = K (ix3 j s f) :=
  (cast_keys (View.ld K (Rect.unit (s := S8x256x256) off S1x256x256.size h)) s f).trans (ld_keys K off h j e s f)

theorem ld_vals (V : S8x256x256.Idx → EReal) (off : Fin 3 → ℕ)
    (h : ∀ a, off a + S1x64x256.size a ≤ S8x256x256.size a) (j : Fin 8) (o : ℕ) (ho : o + 64 ≤ 256)
    (e : off = ![j.val, o, 0]) (d : Fin 64) (s : Fin 256) :
    V ((Rect.unit (s := S8x256x256) off S1x64x256.size h).toLoadRect.idx (ix3 0 d s : S1x64x256.Idx))
      = V (ix3 j (⟨o + d.val, by omega⟩ : Fin 256) s) := by
  refine congrArg V (funext fun a => Fin.ext ?_)
  show off a + 1 * ((ix3 0 d s : S1x64x256.Idx) a).val
    = ((ix3 j (⟨o + d.val, by omega⟩ : Fin 256) s : S8x256x256.Idx) a).val
  rw [e]
  match a with
  | 0 => show j.val + 1 * 0 = j.val; omega
  | 1 => show o + 1 * d.val = o + d.val; omega
  | 2 => show 0 + 1 * s.val = s.val; omega

theorem valsOf_apply (V : Vec Ideal S8x256x256 .bf16) (off : Fin 3 → ℕ)
    (h : ∀ a, off a + S1x64x256.size a ≤ S8x256x256.size a) (j : Fin 8) (o : ℕ) (ho : o + 64 ≤ 256)
    (e : off = ![j.val, o, 0]) (d : Fin 64) (s : Fin 256) :
    valsOf V off h (ix2 d s) = V (ix3 j (⟨o + d.val, by omega⟩ : Fin 256) s) :=
  (cast_vals (View.ld V (Rect.unit (s := S8x256x256) off S1x64x256.size h)) d s).trans (ld_vals V off h j o ho e d s)

/-- The output block's feature `f` is row `f % 64` of the head `f / 64`. -/
theorem out_apply (a0 a1 a2 a3 : FVec Ideal S64x256 .f32) (r : Fin 256) (h : Fin 4) (d : Fin 64) :
    k0_pay29 a0 a1 a2 a3 (ix3 0 r (⟨64 * h.val + d.val, by omega⟩ : Fin 256)) = (![a0, a1, a2, a3] h) (ix2 d r) := by
  pointwise [k0_pay29]
  have hd := d.isLt
  fin_cases h <;> simp <;> split_ifs <;> first | (exfalso; omega) | (refine congrArg _ (congrArg (fun x => ix2 x r) (Fin.ext ?_)); dsimp only; omega)

end Cert.KernelIdeal.Tile

end
-- ==== Proof.Sb.Attn.lean ====
module

public import proofs.«01_k».proof.Proof.Sb.Heads

/-!
One head of the stick-breaking kernel in real numbers: what the diagonal tile and each earlier tile
leave is the tail sum and the weighted sum from the tile's first key on.
-/

@[expose] public section

set_option maxRecDepth 16384
noncomputable section
open Idealize.ShloMosaic Idealize.ShloMosaic.TcCoe Idealize.SL.Sem
namespace Cert.KernelIdeal.Tile
open Cert.KernelIdeal Cert.KernelIdeal.Gen

/-- The scale of the scores, a real number. -/
def scale : ℝ := eighth.toReal

theorem eighth_eq : eighth = ((scale : ℝ) : EReal) := by
  have h : eighth = ((1 / 8 : ℝ) : EReal) := by
    simp [eighth, Ideal.ofBits, Ideal.ieee, -EReal.coe_mul]
    norm_num
  unfold scale
  rw [h, EReal.toReal_coe]

section
variable (Q K : ℕ → ℕ → ℝ) (V : ℕ → ℕ → EReal)

/-- The score of the query at `t` and the key at `s` under head `h`. -/
def score (h t s : ℕ) : ℝ := (∑ d : Fin 64, Q t (64 * h + d.val) * K s (64 * h + d.val)) * scale

/-- A sum over all features that keeps one head's features. -/
theorem sum_head (h : Fin 4) (g : ℕ → ℝ) :
    (∑ f : Fin 256, if f.val / 64 = h.val then g f.val else 0) = ∑ d : Fin 64, g (64 * h.val + d.val) := by
  rw [← Finset.sum_filter]
  refine Finset.sum_bij' (fun f _ => (⟨f.val % 64, Nat.mod_lt _ (by norm_num)⟩ : Fin 64))
    (fun d _ => (⟨64 * h.val + d.val, by omega⟩ : Fin 256)) ?_ ?_ ?_ ?_ ?_
  · intro f _; exact Finset.mem_univ _
  · intro d _; simp only [Finset.mem_filter, Finset.mem_univ, true_and]; omega
  · intro f hf; simp only [Finset.mem_filter, Finset.mem_univ, true_and] at hf; ext; dsimp only; omega
  · intro d _; ext; dsimp only; omega
  · intro f hf; simp only [Finset.mem_filter, Finset.mem_univ, true_and] at hf; congr 1; show f.val = 64 * h.val + f.val % 64; omega

theorem scores_real (h : Fin 4) (kt qh : FVec Ideal S256x256 .bf16) (t lo : ℕ) (s r : Fin 256)
    (hk : ∀ f : Fin 256, kt (ix2 s f) = ((K (lo + s.val) f.val : ℝ) : EReal))
    (hq : ∀ f : Fin 256, qh (ix2 f r) = if f.val / 64 = h.val then ((Q t f.val : ℝ) : EReal) * eighth else 0) :
    scores kt qh (ix2 s r) = ((score Q K h.val t (lo + s.val) : ℝ) : EReal) := by
  rw [scores_apply]
  unfold score
  rw [Finset.sum_mul, ← sum_head h (fun f => Q t f * K (lo + s.val) f * scale), coe_sum]
  refine Finset.sum_congr rfl fun f _ => ?_
  rw [hk, hq]
  by_cases e : f.val / 64 = h.val
  · rw [if_pos e, if_pos e, eighth_eq, ← EReal.coe_mul, ← EReal.coe_mul]; congr 1; ring
  · rw [if_neg e, if_neg e, mul_zero, EReal.coe_zero]

/-- What one head holds once the keys from `lo` on are taken, for the queries of the block `256 i …`. -/
structure HeadAt (h i lo : ℕ) (c : FVec Ideal S1x256 .f32) (a : FVec Ideal S64x256 .f32) : Prop where
  sum : ∀ r : Fin 256, c (ix2 0 r) = ((Sb.tail (score Q K h (256 * i + r.val)) (256 * i + r.val) lo : ℝ) : EReal)
  mix : ∀ (r : Fin 256) (d : Fin 64), a (ix2 d r)
    = Sb.mix (score Q K h (256 * i + r.val)) (fun s => V s (64 * h + d.val)) (256 * i + r.val) lo

variable (h : Fin 4) (i : ℕ) (kt qh tri : FVec Ideal S256x256 .bf16) (vt : FVec Ideal S64x256 .bf16)
  (htri : ∀ s k : Fin 256, tri (ix2 s k) = if s < k then 1 else 0)
  (hq : ∀ f r : Fin 256, qh (ix2 f r) = if f.val / 64 = h.val then ((Q (256 * i + r.val) f.val : ℝ) : EReal) * eighth else 0)

include htri hq in
theorem diag_head (p : IVec S256x256 1) (hp : ∀ s r : Fin 256, p (ix2 s r) = 1#1 ↔ s.val < r.val)
    (hk : ∀ s f : Fin 256, kt (ix2 s f) = ((K (256 * i + s.val) f.val : ℝ) : EReal))
    (hv : ∀ (d : Fin 64) (s : Fin 256), vt (ix2 d s) = V (256 * i + s.val) (64 * h.val + d.val))
    (c : FVec Ideal S1x256 .f32) (a : FVec Ideal S64x256 .f32) (hc : ∀ r, c (ix2 0 r) = 0) (ha : ∀ d r, a (ix2 d r) = 0) :
    HeadAt Q K V h.val i (256 * i) (diagC p kt qh tri c) (diagA p kt qh tri vt c a) where
  sum r := by
    rw [diagC_apply kt qh tri c p r (fun s => score Q K h.val (256 * i + r.val) (256 * i + s.val)) 0 htri (fun s => hp s r)
      (fun s => scores_real Q K h kt qh (256 * i + r.val) (256 * i) s r (hk s) (fun f => hq f r)) (by rw [hc, EReal.coe_zero]),
      zero_add, Sb.diag_total (score Q K h.val (256 * i + r.val)) (256 * i) r]
  mix r d := by
    rw [diagA_apply kt qh tri vt c a p r (fun s => score Q K h.val (256 * i + r.val) (256 * i + s.val)) 0 htri (fun s => hp s r)
      (fun s => scores_real Q K h kt qh (256 * i + r.val) (256 * i) s r (hk s) (fun f => hq f r)) (by rw [hc, EReal.coe_zero]) d,
      ha, zero_add, Sb.diag_mix]
    refine Finset.sum_congr rfl fun s _ => ?_
    rw [hv, Sb.diag_between (score Q K h.val (256 * i + r.val)) (256 * i) r s, add_zero]
    rfl

include htri hq in
theorem tile_head (lo : ℕ) (hlo : lo + 256 ≤ 256 * i)
    (hk : ∀ s f : Fin 256, kt (ix2 s f) = ((K (lo + s.val) f.val : ℝ) : EReal))
    (hv : ∀ (d : Fin 64) (s : Fin 256), vt (ix2 d s) = V (lo + s.val) (64 * h.val + d.val))
    (c : FVec Ideal S1x256 .f32) (a : FVec Ideal S64x256 .f32) (H : HeadAt Q K V h.val i (lo + 256) c a) :
    HeadAt Q K V h.val i lo (tileC kt qh tri c) (tileA kt qh tri vt c a) where
  sum r := by
    rw [tileC_apply kt qh tri c r (fun s => score Q K h.val (256 * i + r.val) (lo + s.val)) _ htri
      (fun s => scores_real Q K h kt qh (256 * i + r.val) lo s r (hk s) (fun f => hq f r)) (H.sum r),
      Sb.tile_total (score Q K h.val (256 * i + r.val)) _ lo (by omega)]
  mix r d := by
    rw [tileA_apply kt qh tri vt c a r (fun s => score Q K h.val (256 * i + r.val) (lo + s.val)) _ htri
      (fun s => scores_real Q K h kt qh (256 * i + r.val) lo s r (hk s) (fun f => hq f r)) (H.sum r) d,
      H.mix r d, ← Sb.tile_mix (score Q K h.val (256 * i + r.val)) _ (256 * i + r.val) lo (by omega)]
    congr 1
    refine Finset.sum_congr rfl fun s _ => ?_
    rw [hv, add_assoc, Sb.tile_between (score Q K h.val (256 * i + r.val)) (256 * i + r.val) lo (by omega) s]
    rfl

end

end Cert.KernelIdeal.Tile

end
-- ==== Proof.Sb.First.lean ====
module

public import proofs.«01_k».proof.Proof.Sb.Point

/-!
The first grid point of a sequence, which fills the two scratches: its output block is that of the
scratches it leaves.
-/

@[expose] public section

set_option maxRecDepth 16384
noncomputable section
open Idealize.ShloMosaic Idealize.ShloMosaic.TcCoe Idealize.SL.Sem
namespace Cert.KernelIdeal.Tile
open Cert.KernelIdeal Cert.KernelIdeal.Gen
variable {F : FTy → Type} [FloatOps F]
variable (m : (ℓ : Loc nD τ sig) → Buf (Elt F) ℓ)

set_option maxHeartbeats 4000000 in
theorem outA_eq (c : Dev nD) (t : Fin cfg0.N) (h : t.val % 8 = 0) : (outsAt0 m c t.val t.isLt).1
    = pointOut (iblk m c 0 t) (iblk m c 2 t) (outsAt0 m c t.val t.isLt).2.1
      (outsAt0 m c t.val t.isLt).2.2 (grid0.coords t) := by
  rw [outsAt0_A m c t h]
  dsimp only
  frame_open
  simp (disch := decide) only [↓ View.readCov_skip, ↓ View.readCov_cons_toLoadRect, ↓ View.readCov_fill]
  frame_out
  rw [st2_eq, st_eq]
  simp only [View.read_writes_junk_eq_canon]
  rfl

end Cert.KernelIdeal.Tile

end
-- ==== Proof.Sb.Table0.lean ====
module

public import proofs.«01_k».proof.KernelIdeal

/-!
The table of ones above the diagonal, entry by entry: rows 0 to 63.
-/

@[expose] public section

set_option maxRecDepth 16384
namespace Cert.KernelIdeal.Tile

theorem table_0 : ∀ (n : Fin 16) (c : Fin 256), lit0t (256 * (0 + n.val) + c.val) = if 0 + n.val < c.val then 0x3F80#16 else 0x0000#16 := by
  decide +kernel

theorem table_16 : ∀ (n : Fin 16) (c : Fin 256), lit0t (256 * (16 + n.val) + c.val) = if 16 + n.val < c.val then 0x3F80#16 else 0x0000#16 := by
  decide +kernel

theorem table_32 : ∀ (n : Fin 16) (c : Fin 256), lit0t (256 * (32 + n.val) + c.val) = if 32 + n.val < c.val then 0x3F80#16 else 0x0000#16 := by
  decide +kernel

theorem table_48 : ∀ (n : Fin 16) (c : Fin 256), lit0t (256 * (48 + n.val) + c.val) = if 48 + n.val < c.val then 0x3F80#16 else 0x0000#16 := by
  decide +kernel

end Cert.KernelIdeal.Tile
-- ==== Proof.Sb.Table1.lean ====
module

public import proofs.«01_k».proof.KernelIdeal

/-!
The table of ones above the diagonal, entry by entry: rows 64 to 127.
-/

@[expose] public section

set_option maxRecDepth 16384
namespace Cert.KernelIdeal.Tile

theorem table_64 : ∀ (n : Fin 16) (c : Fin 256), lit0t (256 * (64 + n.val) + c.val) = if 64 + n.val < c.val then 0x3F80#16 else 0x0000#16 := by
  decide +kernel

theorem table_80 : ∀ (n : Fin 16) (c : Fin 256), lit0t (256 * (80 + n.val) + c.val) = if 80 + n.val < c.val then 0x3F80#16 else 0x0000#16 := by
  decide +kernel

theorem table_96 : ∀ (n : Fin 16) (c : Fin 256), lit0t (256 * (96 + n.val) + c.val) = if 96 + n.val < c.val then 0x3F80#16 else 0x0000#16 := by
  decide +kernel

theorem table_112 : ∀ (n : Fin 16) (c : Fin 256), lit0t (256 * (112 + n.val) + c.val) = if 112 + n.val < c.val then 0x3F80#16 else 0x0000#16 := by
  decide +kernel

end Cert.KernelIdeal.Tile
-- ==== Proof.Sb.Table2.lean ====
module

public import proofs.«01_k».proof.KernelIdeal

/-!
The table of ones above the diagonal, entry by entry: rows 128 to 191.
-/

@[expose] public section

set_option maxRecDepth 16384
namespace Cert.KernelIdeal.Tile

theorem table_128 : ∀ (n : Fin 16) (c : Fin 256), lit0t (256 * (128 + n.val) + c.val) = if 128 + n.val < c.val then 0x3F80#16 else 0x0000#16 := by
  decide +kernel

theorem table_144 : ∀ (n : Fin 16) (c : Fin 256), lit0t (256 * (144 + n.val) + c.val) = if 144 + n.val < c.val then 0x3F80#16 else 0x0000#16 := by
  decide +kernel

theorem table_160 : ∀ (n : Fin 16) (c : Fin 256), lit0t (256 * (160 + n.val) + c.val) = if 160 + n.val < c.val then 0x3F80#16 else 0x0000#16 := by
  decide +kernel

theorem table_176 : ∀ (n : Fin 16) (c : Fin 256), lit0t (256 * (176 + n.val) + c.val) = if 176 + n.val < c.val then 0x3F80#16 else 0x0000#16 := by
  decide +kernel

end Cert.KernelIdeal.Tile
-- ==== Proof.Sb.Table3.lean ====
module

public import proofs.«01_k».proof.KernelIdeal

/-!
The table of ones above the diagonal, entry by entry: rows 192 to 255.
-/

@[expose] public section

set_option maxRecDepth 16384
namespace Cert.KernelIdeal.Tile

theorem table_192 : ∀ (n : Fin 16) (c : Fin 256), lit0t (256 * (192 + n.val) + c.val) = if 192 + n.val < c.val then 0x3F80#16 else 0x0000#16 := by
  decide +kernel

theorem table_208 : ∀ (n : Fin 16) (c : Fin 256), lit0t (256 * (208 + n.val) + c.val) = if 208 + n.val < c.val then 0x3F80#16 else 0x0000#16 := by
  decide +kernel

theorem table_224 : ∀ (n : Fin 16) (c : Fin 256), lit0t (256 * (224 + n.val) + c.val) = if 224 + n.val < c.val then 0x3F80#16 else 0x0000#16 := by
  decide +kernel

theorem table_240 : ∀ (n : Fin 16) (c : Fin 256), lit0t (256 * (240 + n.val) + c.val) = if 240 + n.val < c.val then 0x3F80#16 else 0x0000#16 := by
  decide +kernel

end Cert.KernelIdeal.Tile
-- ==== Proof.Sb.Tri.lean ====
module

public import proofs.«01_k».proof.Proof.Sb.Table0
public import proofs.«01_k».proof.Proof.Sb.Table1
public import proofs.«01_k».proof.Proof.Sb.Table2
public import proofs.«01_k».proof.Proof.Sb.Table3
public import proofs.«01_k».proof.Proof.Sb.Fill

/-!
The table of ones above the diagonal, as the kernel holds it.
-/

@[expose] public section

set_option maxRecDepth 16384
noncomputable section
open Idealize.ShloMosaic Idealize.ShloMosaic.TcCoe Idealize.SL.Sem
namespace Cert.KernelIdeal.Tile
open Cert.KernelIdeal Cert.KernelIdeal.Gen

theorem table_row (T : ℕ → BitVec 16) (b : ℕ)
    (H : ∀ (n : Fin 16) (c : Fin 256), T (256 * (b + n.val) + c.val) = if b + n.val < c.val then 0x3F80#16 else 0x0000#16)
    (n c : Fin 256) (h1 : b ≤ n.val) (h2 : n.val < b + 16) :
    T (256 * n.val + c.val) = if n.val < c.val then 0x3F80#16 else 0x0000#16 := by
  have h := H ⟨n.val - b, by omega⟩ c
  dsimp only at h
  rw [Nat.add_sub_cancel' h1] at h
  exact h

theorem table_entry (n c : Fin 256) : lit0t (256 * n.val + c.val) = if n.val < c.val then 0x3F80#16 else 0x0000#16 := by
  by_cases h1 : n.val < 16
  · exact table_row lit0t 0 table_0 n c (by omega) (by omega)
  by_cases h2 : n.val < 32
  · exact table_row lit0t 16 table_16 n c (by omega) (by omega)
  by_cases h3 : n.val < 48
  · exact table_row lit0t 32 table_32 n c (by omega) (by omega)
  by_cases h4 : n.val < 64
  · exact table_row lit0t 48 table_48 n c (by omega) (by omega)
  by_cases h5 : n.val < 80
  · exact table_row lit0t 64 table_64 n c (by omega) (by omega)
  by_cases h6 : n.val < 96
  · exact table_row lit0t 80 table_80 n c (by omega) (by omega)
  by_cases h7 : n.val < 112
  · exact table_row lit0t 96 table_96 n c (by omega) (by omega)
  by_cases h8 : n.val < 128
  · exact table_row lit0t 112 table_112 n c (by omega) (by omega)
  by_cases h9 : n.val < 144
  · exact table_row lit0t 128 table_128 n c (by omega) (by omega)
  by_cases h10 : n.val < 160
  · exact table_row lit0t 144 table_144 n c (by omega) (by omega)
  by_cases h11 : n.val < 176
  · exact table_row lit0t 160 table_160 n c (by omega) (by omega)
  by_cases h12 : n.val < 192
  · exact table_row lit0t 176 table_176 n c (by omega) (by omega)
  by_cases h13 : n.val < 208
  · exact table_row lit0t 192 table_192 n c (by omega) (by omega)
  by_cases h14 : n.val < 224
  · exact table_row lit0t 208 table_208 n c (by omega) (by omega)
  by_cases h15 : n.val < 240
  · exact table_row lit0t 224 table_224 n c (by omega) (by omega)
  exact table_row lit0t 240 table_240 n c (by omega) (by omega)

theorem tri_apply (m : (ℓ : Loc nD τ sig) → Buf (Elt Ideal) ℓ) (c : Dev nD) (t : Fin cfg0.N) (s k : Fin 256) :
    iblk m c 2 t (ix2 s k) = if s < k then (1 : EReal) else 0 := by
  rw [iblk2_apply m c t s k, table_entry s k]
  by_cases h : s.val < k.val
  · rw [if_pos h, if_pos (show s < k from h)]; exact Ideal.ofBits_one_bf16
  · rw [if_neg h, if_neg (show ¬ s < k from h)]; exact Ideal.ofBits_zero_bf16

end Cert.KernelIdeal.Tile

end
-- ==== Proof.Sb.Whole.lean ====
module

public import proofs.«01_k».proof.Proof.Sb.Attn
public import proofs.«01_k».proof.Proof.Sb.First
public import proofs.«01_k».proof.Proof.Sb.Tri

/-!
The whole result array of the stick-breaking kernel: every entry is the weighted sum of the values over the
keys before the query.
-/

@[expose] public section

set_option maxRecDepth 16384
noncomputable section
open Idealize.ShloMosaic Idealize.ShloMosaic.TcCoe Idealize.SL.Sem
namespace Cert.KernelIdeal.Tile
open Cert.KernelIdeal Cert.KernelIdeal.Gen

section
variable (Q K : ℕ → ℕ → ℝ) (V : ℕ → ℕ → EReal)

/-- The four heads, each at the same first key. -/
def AllAt (i lo : ℕ) (st : St Ideal) : Prop :=
  HeadAt Q K V 0 i lo st.1 st.2.1 ∧ HeadAt Q K V 1 i lo st.2.2.1 st.2.2.2.1
    ∧ HeadAt Q K V 2 i lo st.2.2.2.2.1 st.2.2.2.2.2.1 ∧ HeadAt Q K V 3 i lo st.2.2.2.2.2.2.1 st.2.2.2.2.2.2.2

variable (q : Vec Ideal S1x256x256 .f32) (tri : Vec Ideal S256x256 .bf16) (Kb Vb : Vec Ideal S8x256x256 .bf16) (i : grid0.Coords)
  (hq : ∀ r f : Fin 256, q (ix3 0 r f) = ((Q (256 * (i 1).val + r.val) f.val : ℝ) : EReal))
  (htri : ∀ s k : Fin 256, tri (ix2 s k) = if s < k then (1 : EReal) else 0)
  (hK : ∀ (j : Fin 8) (s f : Fin 256), Kb (ix3 j s f) = ((K (256 * j.val + s.val) f.val : ℝ) : EReal))
  (hV : ∀ (j : Fin 8) (f s : Fin 256), Vb (ix3 j f s) = V (256 * j.val + s.val) f.val)

include hK in
theorem keys_real (off : Fin 3 → ℕ) (h : ∀ a, off a + S1x256x256.size a ≤ S8x256x256.size a) (j : ℕ) (hj : j < 8)
    (e : off = ![j, 0, 0]) (s f : Fin 256) : keysOf Kb off h (ix2 s f) = ((K (256 * j + s.val) f.val : ℝ) : EReal) := by
  rw [keysOf_apply Kb off h ⟨j, hj⟩ e s f, hK]

include hV in
theorem vals_at (off : Fin 3 → ℕ) (h : ∀ a, off a + S1x64x256.size a ≤ S8x256x256.size a) (j : ℕ) (hj : j < 8)
    (hd : Fin 4) (e : off = ![j, 64 * hd.val, 0]) (d : Fin 64) (s : Fin 256) :
    valsOf Vb off h (ix2 d s) = V (256 * j + s.val) (64 * hd.val + d.val) := by
  rw [valsOf_apply Vb off h ⟨j, hj⟩ (64 * hd.val) (by omega) e d s, hV]

theorem zero_row (r : Fin 256) : (broadcast S1x256 (Scalar.ofBits (F := Ideal) .f32 0x00000000#32) : FVec Ideal S1x256 .f32) (ix2 0 r) = (0 : EReal) := Ideal.ofBits_zero_f32
theorem zero_tile (d : Fin 64) (r : Fin 256) : (broadcast S64x256 (Scalar.ofBits (F := Ideal) .f32 0x00000000#32) : FVec Ideal S64x256 .f32) (ix2 d r) = (0 : EReal) := Ideal.ofBits_zero_f32

include hq htri hK hV in
theorem init_at : AllAt Q K V (i 1).val (256 * (i 1).val)
    (initS Kb Vb (k0_pay103 q) (k0_pay104 q) (k0_pay105 q) (k0_pay107 (k0_pay102 q) k0_pay106 3#32) tri i) := by
  have hi : (i 1).val < 8 := (i 1).isLt
  refine ⟨?_, ?_, ?_, ?_⟩
  · exact diag_head Q K V 0 _ _ _ tri _ htri (fun f r => by rw [head0, hq]; rfl) _ (mask_apply i)
      (keys_real K Kb hK _ _ _ hi (off5 i)) (vals_at V Vb hV _ _ _ hi 0 (off1 i)) _ _ zero_row zero_tile
  · exact diag_head Q K V 1 _ _ _ tri _ htri (fun f r => by rw [head1, hq]; rfl) _ (mask_apply i)
      (keys_real K Kb hK _ _ _ hi (off5 i)) (vals_at V Vb hV _ _ _ hi 1 (off2 i)) _ _ zero_row zero_tile
  · exact diag_head Q K V 2 _ _ _ tri _ htri (fun f r => by rw [head2, hq]; rfl) _ (mask_apply i)
      (keys_real K Kb hK _ _ _ hi (off5 i)) (vals_at V Vb hV _ _ _ hi 2 (off3 i)) _ _ zero_row zero_tile
  · exact diag_head Q K V 3 _ _ _ tri _ htri (fun f r => by rw [head3, hq]; rfl) _ (mask_apply i)
      (keys_real K Kb hK _ _ _ hi (off5 i)) (vals_at V Vb hV _ _ _ hi 3 (off4 i)) _ _ zero_row zero_tile

include hq htri hK hV in
theorem loop_at (k : ℕ) (hk : k ≤ (i 1).val) : AllAt Q K V (i 1).val (256 * ((i 1).val - k))
    (loopS Kb Vb (k0_pay103 q) (k0_pay104 q) (k0_pay105 q) (k0_pay107 (k0_pay102 q) k0_pay106 3#32) tri i
      (initS Kb Vb (k0_pay103 q) (k0_pay104 q) (k0_pay105 q) (k0_pay107 (k0_pay102 q) k0_pay106 3#32) tri i) k) := by
  have hi : (i 1).val < 8 := (i 1).isLt
  induction k with
  | zero => exact init_at Q K V q tri Kb Vb i hq htri hK hV
  | succ k ih =>
    have ht : k < (k0_t1_loop i).trips := by rw [trips1]; omega
    have hj : (i 1).val - 1 - k < 8 := by omega
    have e : (i 1).val - (k + 1) = (i 1).val - 1 - k := by omega
    have e' : 256 * ((i 1).val - k) = 256 * ((i 1).val - 1 - k) + 256 := by omega
    rw [loopS, dif_pos ht, e]
    obtain ⟨h0, h1, h2, h3⟩ := ih (by omega)
    rw [e'] at h0 h1 h2 h3
    refine ⟨?_, ?_, ?_, ?_⟩
    · exact tile_head Q K V 0 _ _ _ tri _ htri (fun f r => by rw [head0, hq]; rfl) _ (by omega)
        (keys_real K Kb hK _ _ _ hj (off10 i ⟨k, ht⟩)) (vals_at V Vb hV _ _ _ hj 0 (off6 i ⟨k, ht⟩)) _ _ h0
    · exact tile_head Q K V 1 _ _ _ tri _ htri (fun f r => by rw [head1, hq]; rfl) _ (by omega)
        (keys_real K Kb hK _ _ _ hj (off10 i ⟨k, ht⟩)) (vals_at V Vb hV _ _ _ hj 1 (off7 i ⟨k, ht⟩)) _ _ h1
    · exact tile_head Q K V 2 _ _ _ tri _ htri (fun f r => by rw [head2, hq]; rfl) _ (by omega)
        (keys_real K Kb hK _ _ _ hj (off10 i ⟨k, ht⟩)) (vals_at V Vb hV _ _ _ hj 2 (off8 i ⟨k, ht⟩)) _ _ h2
    · exact tile_head Q K V 3 _ _ _ tri _ htri (fun f r => by rw [head3, hq]; rfl) _ (by omega)
        (keys_real K Kb hK _ _ _ hj (off10 i ⟨k, ht⟩)) (vals_at V Vb hV _ _ _ hj 3 (off9 i ⟨k, ht⟩)) _ _ h3

include hq htri hK hV in
theorem point_at (r : Fin 256) (h : Fin 4) (d : Fin 64) :
    pointOut q tri Kb Vb i (ix3 0 r (⟨64 * h.val + d.val, by omega⟩ : Fin 256))
      = Sb.mix (score Q K h.val (256 * (i 1).val + r.val)) (fun s => V s (64 * h.val + d.val)) (256 * (i 1).val + r.val) 0 := by
  unfold pointOut
  rw [out_apply]
  obtain ⟨h0, h1, h2, h3⟩ := loop_at Q K V q tri Kb Vb i hq htri hK hV (i 1).val le_rfl
  rw [Nat.sub_self, Nat.mul_zero] at h0 h1 h2 h3
  unfold pointS
  rw [trips1]
  match h with
  | 0 => exact h0.mix r d
  | 1 => exact h1.mix r d
  | 2 => exact h2.mix r d
  | 3 => exact h3.mix r d

end

section
variable (m : (ℓ : Loc nD τ sig) → Buf (Elt Ideal) ℓ)

theorem out_eq (c : Dev nD) (t : Fin cfg0.N) : (outsAt0 m c t.val t.isLt).1
    = pointOut (iblk m c 0 t) (iblk m c 2 t) (outsAt0 m c t.val t.isLt).2.1 (outsAt0 m c t.val t.isLt).2.2 (grid0.coords t) := by
  by_cases h : t.val % 8 = 0
  · exact outA_eq m c t h
  · have e1 : (outsAt0 m c t.val t.isLt).2.1 = (outsAt0 m c (t.val - 1) (Nat.lt_of_le_of_lt (Nat.sub_le _ _) t.isLt)).2.1 := by
      rw [outsAt0_B m c t h]; rfl
    have e2 : (outsAt0 m c t.val t.isLt).2.2 = (outsAt0 m c (t.val - 1) (Nat.lt_of_le_of_lt (Nat.sub_le _ _) t.isLt)).2.2 := by
      rw [outsAt0_B m c t h]; rfl
    rw [e1, e2]
    exact outB_eq m c t h

/-- The queries, keys and values of a memory, as functions of sequence, position and feature. -/
structure Holds (c : Dev nD) (Q K : ℕ → ℕ → ℕ → ℝ) (V : ℕ → ℕ → ℕ → EReal) : Prop where
  q : ∀ (b : Fin 8) (t : Fin 2048) (f : Fin 256), m ((c : Thread nD τ).loc main_arg0) (ix3 b t f) = ((Q b.val t.val f.val : ℝ) : EReal)
  k : ∀ (b : Fin 8) (t : Fin 2048) (f : Fin 256),
    m ((c : Thread nD τ).loc main_arg1) (ix3 b t (⟨f.val, by omega⟩ : Fin 512)) = ((K b.val t.val f.val : ℝ) : EReal)
  v : ∀ (b : Fin 8) (t : Fin 2048) (f : Fin 256),
    m ((c : Thread nD τ).loc main_arg1) (ix3 b t (⟨256 + f.val, by omega⟩ : Fin 512)) = V b.val t.val f.val

/-- The result of the stick-breaking attention. -/
def result (Q K : ℕ → ℕ → ℕ → ℝ) (V : ℕ → ℕ → ℕ → EReal) (b t f : ℕ) : EReal :=
  Sb.mix (score (Q b) (K b) (f / 64) t) (fun s => V b s f) t 0

theorem block_at (c : Dev nD) (Q K : ℕ → ℕ → ℕ → ℝ) (V : ℕ → ℕ → ℕ → EReal) (H : Holds m c Q K V) (t : Fin cfg0.N) (r f : Fin 256) :
    (outsAt0 m c t.val t.isLt).1 (ix3 0 r f) = result Q K V (t.val / 8) (256 * (t.val % 8) + r.val) f.val := by
  have p := point_at (Q (t.val / 8)) (K (t.val / 8)) (V (t.val / 8)) (iblk m c 0 t) (iblk m c 2 t) (outsAt0 m c t.val t.isLt).2.1
    (outsAt0 m c t.val t.isLt).2.2 (grid0.coords t)
    (fun r f => by rw [iblk0_apply, H.q, coord1])
    (tri_apply m c t)
    (fun j s f => by rw [heldK]; exact H.k _ _ _)
    (fun j f s => by rw [heldV]; exact H.v _ _ _)
    r (⟨f.val / 64, by omega⟩ : Fin 4) (⟨f.val % 64, by omega⟩ : Fin 64)
  have ef : (⟨64 * (f.val / 64) + f.val % 64, by omega⟩ : Fin 256) = f := Fin.ext (Nat.div_add_mod _ _)
  rw [out_eq]
  dsimp only at p
  rw [ef, coord1, Nat.div_add_mod] at p
  exact p

theorem one_block (y : S1x256x256.Idx) : y = ix3 (0 : Fin 1) (y 1 : Fin 256) (y 2 : Fin 256) := by
  funext a
  match a with
  | 0 => exact Subsingleton.elim (α := Fin 1) _ _
  | 1 => rfl
  | 2 => rfl

theorem array_at (c : Dev nD) (Q K : ℕ → ℕ → ℕ → ℝ) (V : ℕ → ℕ → ℕ → EReal) (H : Holds m c Q K V) :
    (dats m 0 c).arrAt 3 cfg0.N = fun y : S8x2048x256.Idx => result Q K V (y 0).val (y 1).val (y 2).val := by
  refine (dats m 0 c).arrAt_eq_of_covers 3 _ (by decide +kernel) fun t hf y => ?_
  blk_simp
  rw [after0_3]
  obtain ⟨_, _, _, e3⟩ := idx_facts t
  have e0 : win0_3.index t 0 = t.val / 8 := congrFun e3 0
  have e1 : win0_3.index t 1 = t.val % 8 := congrFun e3 1
  have e2 : win0_3.index t 2 = 0 := congrFun e3 2
  rw [e0, e1, e2, Nat.mul_comm, Nat.zero_mul, Nat.zero_add]
  exact (congrArg (outsAt0 m c t.val t.isLt).1 (one_block y)).trans (block_at m c Q K V H t (y 1) (y 2))

end

end Cert.KernelIdeal.Tile

end
-- ==== Proof.Sb.Window.lean ====
module

public import proofs.«01_k».proof.Proof.Sb.Tile

/-!
A running sum from the far end of the last axis, written as sums over windows, read at an index.
-/

@[expose] public section

set_option maxRecDepth 16384
noncomputable section
open Idealize.ShloMosaic
namespace Sb

abbrev Big : Shape := ⟨4, ![8, 4, 2048, 2048]⟩
abbrev Row : Shape := ⟨4, ![1, 1, 1, 2048]⟩

theorem row_numel : Row.numel = 2048 := by decide +kernel

/-- The place along the last axis of a position in the window. -/
theorem row_last (n : Fin Row.numel) : (Row.rowMajor.symm n 3).val = n.val := by
  have h : (Row.rowMajor (Row.rowMajor.symm n)).val = n.val := by rw [Equiv.apply_symm_apply]
  have h0 := (Row.rowMajor.symm n 0).isLt
  have h1 := (Row.rowMajor.symm n 1).isLt
  have h2 := (Row.rowMajor.symm n 2).isLt
  have e0 : (Row.rowMajor.symm n 0).val = 0 := Nat.lt_one_iff.mp h0
  have e1 : (Row.rowMajor.symm n 1).val = 0 := Nat.lt_one_iff.mp h1
  have e2 : (Row.rowMajor.symm n 2).val = 0 := Nat.lt_one_iff.mp h2
  rw [Shape.rowMajor_val_four, e0, e1, e2] at h
  simpa using h

theorem row_first (n : Fin Row.numel) (a : Fin 4) (h : a ≠ 3) : (Row.rowMajor.symm n a).val = 0 := by
  have e := (Row.rowMajor.symm n a).isLt
  match a with
  | 0 => exact Nat.lt_one_iff.mp e
  | 1 => exact Nat.lt_one_iff.mp e
  | 2 => exact Nat.lt_one_iff.mp e
  | 3 => exact absurd rfl h

theorem foldl_add {n : ℕ} (f : Fin n → EReal) (x : EReal) :
    (List.finRange n).foldl (fun r k => r + f k) x = x + ∑ k : Fin n, f k := by
  have g : ∀ (l : List (Fin n)) (y : EReal), l.foldl (fun r k => r + f k) y = y + (l.map f).sum := by
    intro l
    induction l with
    | nil => intro y; simp
    | cons a l ih => intro y; rw [List.foldl_cons, ih, List.map_cons, List.sum_cons, add_assoc]
  rw [g, ← List.ofFn_eq_map, List.sum_ofFn]

/-- The sum over the window that starts at `s` is the sum over the places from `s` on. -/
theorem sum_shift (g : Fin 2048 → EReal) (s : Fin 2048) :
    (∑ k : Fin 2048, if e : s.val + k.val < 2048 then g ⟨s.val + k.val, e⟩ else 0)
      = ∑ k : Fin 2048, if s.val ≤ k.val then g k else 0 := by
  rw [← Finset.sum_filter_add_sum_filter_not Finset.univ (fun k : Fin 2048 => s.val + k.val < 2048),
    ← Finset.sum_filter (fun k : Fin 2048 => s.val ≤ k.val)]
  rw [Finset.sum_eq_zero (s := Finset.univ.filter fun k : Fin 2048 => ¬ s.val + k.val < 2048) (fun k hk => by
    rw [dif_neg (Finset.mem_filter.mp hk).2]), add_zero]
  refine Finset.sum_bij' (fun k hk => (⟨s.val + k.val, (Finset.mem_filter.mp hk).2⟩ : Fin 2048))
    (fun k _ => (⟨k.val - s.val, by omega⟩ : Fin 2048)) ?_ ?_ ?_ ?_ ?_
  · intro k hk; simp only [Finset.mem_filter, Finset.mem_univ, true_and]; omega
  · intro k hk; simp only [Finset.mem_filter, Finset.mem_univ, true_and] at hk ⊢; have := k.isLt; omega
  · intro k hk; ext; dsimp only; omega
  · intro k hk; simp only [Finset.mem_filter, Finset.mem_univ, true_and] at hk; ext; dsimp only; omega
  · intro k hk; rw [dif_pos (Finset.mem_filter.mp hk).2]

theorem window_sum (x : Big.Idx → EReal) (init : EReal) (hinit : init = 0)
    (hw : Big.ReduceWindows ![1, 1, 1, 2048] ![1, 1, 1, 1] ![0, 0, 0, 0] ![0, 0, 0, 2047] Big)
    (b : Fin 8) (h : Fin 4) (t s : Fin 2048) :
    Ideal.hostReduceWindowAdd ![1, 1, 1, 2048] ![1, 1, 1, 1] ![0, 0, 0, 0] ![0, 0, 0, 2047] hw x init (ix4 b h t s)
      = ∑ k : Fin 2048, if s.val ≤ k.val then x (ix4 b h t k) else 0 := by
  unfold Ideal.hostReduceWindowAdd Host.reduceWindow
  dsimp only
  rw [foldl_add, hinit, zero_add, ← sum_shift (fun k => x (ix4 b h t k)) s]
  refine Fintype.sum_equiv (finCongr row_numel) _ _ fun n => ?_
  have l3 : ((⟨4, ![1, 1, 1, 2048]⟩ : Shape).rowMajor.symm n 3).val = n.val := row_last n
  have l0 : ((⟨4, ![1, 1, 1, 2048]⟩ : Shape).rowMajor.symm n 0).val = 0 := row_first n 0 (by decide)
  have l1 : ((⟨4, ![1, 1, 1, 2048]⟩ : Shape).rowMajor.symm n 1).val = 0 := row_first n 1 (by decide)
  have l2 : ((⟨4, ![1, 1, 1, 2048]⟩ : Shape).rowMajor.symm n 2).val = 0 := row_first n 2 (by decide)
  by_cases e : s.val + n.val < 2048
  · rw [dif_pos (show s.val + (finCongr row_numel n).val < 2048 from e), dif_pos]
    · refine congrArg x (funext fun a => Fin.ext ?_)
      match a with
      | 0 => show b.val * 1 + _ - 0 = b.val; rw [l0]; omega
      | 1 => show h.val * 1 + _ - 0 = h.val; rw [l1]; omega
      | 2 => show t.val * 1 + _ - 0 = t.val; rw [l2]; omega
      | 3 => show s.val * 1 + _ - 0 = s.val + n.val; rw [l3]; omega
    · intro a
      match a with
      | 0 => show 0 ≤ b.val * 1 + _ ∧ b.val * 1 + _ - 0 < 8; rw [l0]; omega
      | 1 => show 0 ≤ h.val * 1 + _ ∧ h.val * 1 + _ - 0 < 4; rw [l1]; omega
      | 2 => show 0 ≤ t.val * 1 + _ ∧ t.val * 1 + _ - 0 < 2048; rw [l2]; omega
      | 3 => show 0 ≤ s.val * 1 + _ ∧ s.val * 1 + _ - 0 < 2048; rw [l3]; omega
  · rw [dif_neg (show ¬ s.val + (finCongr row_numel n).val < 2048 from e), dif_neg]
    intro hin
    have h3 := hin 3
    change 0 ≤ s.val * 1 + _ ∧ s.val * 1 + _ - 0 < 2048 at h3
    rw [l3] at h3
    omega

end Sb

end
-- ==== Proof.Sb.Steps.lean ====
module

public import proofs.«01_k».proof.Proof.Gen.ReferenceIdeal.Run
public import proofs.«01_k».proof.Proof.Sb.Attn
public import proofs.«01_k».proof.Proof.Sb.Window
public import Idealize.ShloMosaic.Lib.Tactic.CleanTypes
public import Idealize.ShloMosaic.Lib.WordCmp

/-!
The reference of the stick-breaking attention, cut into its steps and read at an index.
-/

@[expose] public section

set_option maxRecDepth 16384
noncomputable section
open Idealize.ShloMosaic Idealize.ShloMosaic.TcCoe Idealize.SL.Sem
namespace Cert.ReferenceIdeal.Steps
open Cert.ReferenceIdeal Cert.ReferenceIdeal.Gen Cert.ReferenceIdeal.Value

/-- Zero at every entry. -/
def zeros : FVec Ideal S8x4x2048x2048 .f32 := broadcastInDim S8x4x2048x2048 ![] bcast_S_S8x4x2048x2048 (constant S_ .f32 0x00000000#32)

/-- The scores. -/
def scores (q : FVec Ideal S8x2048x256 .f32) (kv : FVec Ideal S8x2048x512 .f32) : FVec Ideal S8x4x2048x2048 .f32 :=
  mulf (Host.dotGeneral dot_S8x2048x4x64_S8x2048x4x64_S8x4x2048x2048_3_3_1_1_02_02 none (shapeCast S8x2048x4x64 q shapeCasts_S8x2048x256_S8x2048x4x64)
    (shapeCast S8x2048x4x64 (extractStridedSlice S8x2048x256 ![0, 0, 0] kv slices_S8x2048x512_S8x2048x256_0_0_0) shapeCasts_S8x2048x256_S8x2048x4x64))
    (broadcastInDim S8x4x2048x2048 ![] bcast_S_S8x4x2048x2048 (constant S_ .f32 0x3E000000#32))

/-- The logarithm of the logistic function. -/
def logSig (x : FVec Ideal S8x4x2048x2048 .f32) : FVec Ideal S8x4x2048x2048 .f32 :=
  Host.negf (select (cmpf .une (subf (Host.negf x) zeros) (subf (Host.negf x) zeros)) (addf (Host.negf x) zeros)
    (addf (maximumf (Host.negf x) zeros) (Host.log1p (Host.exp (Host.negf (Host.absf (subf (Host.negf x) zeros)))))))

/-- The mask of the keys before the query. -/
def mask : IVec S8x4x2048x2048 1 :=
  broadcastInDim S8x4x2048x2048 ![0, 1, 2, 3] bcast_S1x1x2048x2048_S8x4x2048x2048_0_1_2_3 (broadcastInDim S1x1x2048x2048 ![2, 3] bcast_S2048x2048_S1x1x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))

/-- The masked logarithms of one minus the logistic function. -/
def keep (z : FVec Ideal S8x4x2048x2048 .f32) : FVec Ideal S8x4x2048x2048 .f32 := select mask (logSig (Host.negf z)) zeros

/-- Their sums from each key on. -/
def sums (x : FVec Ideal S8x4x2048x2048 .f32) : FVec Ideal S8x4x2048x2048 .f32 :=
  Host.reduceWindowAdd ![1, 1, 1, 2048] ![1, 1, 1, 1] ![0, 0, 0, 0] ![0, 0, 0, 2047] x
    (broadcastInDim S_ ![] bcast_S_S_ (constant S_ .f32 0x00000000#32)) reduceWindows_S8x4x2048x2048_S8x4x2048x2048_w1s1p0_0_w1s1p0_0_w1s1p0_0_w2048s1p0_2047 h_S_

/-- The weights. -/
def weights (z : FVec Ideal S8x4x2048x2048 .f32) : FVec Ideal S8x4x2048x2048 .f32 :=
  select mask (Host.exp (addf (logSig z) (subf (sums (keep z)) (keep z)))) zeros

/-- The whole reference. -/
def whole (q : FVec Ideal S8x2048x256 .f32) (kv : FVec Ideal S8x2048x512 .f32) : FVec Ideal S8x2048x256 .f32 :=
  shapeCast S8x2048x256 (transpose S8x2048x4x64 [0, 3, 1, 2] (Host.dotGeneral dot_S8x2048x4x64_S8x4x2048x2048_S8x4x64x2048_1_3_3_2_02_01 none
    (shapeCast S8x2048x4x64 (extractStridedSlice S8x2048x256 ![0, 0, 256] kv slices_S8x2048x512_S8x2048x256_0_0_256) shapeCasts_S8x2048x256_S8x2048x4x64)
    (weights (scores q kv))) transposes_S8x4x64x2048_S8x2048x4x64_0_3_1_2) shapeCasts_S8x2048x4x64_S8x2048x256

theorem whole_eq (m : (ℓ : Loc nD τ sig) → Buf (Elt Ideal) ℓ) (c : Dev nD) :
    res_main_v26 m c = whole (m ((c.tc : Thread nD τ).loc main_arg0)) (m ((c.tc : Thread nD τ).loc main_arg1)) := by
  unfold res_main_v26
  rfl

theorem eq_zero_of_ne_one {w : BitVec 1} (h : ¬ w = 1#1) : w = 0#1 := by
  rcases BitVec.eq_zero_or_eq_one w with e | e
  · exact e
  · exact absurd e h

theorem zeros_apply (j : S8x4x2048x2048.Idx) : zeros j = (0 : EReal) := Ideal.ofBits_zero_f32

theorem mask_apply (b : Fin 8) (h : Fin 4) (t s : Fin 2048) : mask (ix4 b h t s) = 1#1 ↔ s.val < t.val := by
  pointwise [mask]
  rw [WordCmp.cmpi_slt_ofNat_eq_one_iff (by omega) (by omega)]

theorem logSig_apply (x : FVec Ideal S8x4x2048x2048 .f32) (j : S8x4x2048x2048.Idx) (r : ℝ) (h : x j = (r : EReal)) :
    logSig x j = ((Sb.lb r : ℝ) : EReal) := by
  have ha : ∀ y : EReal, (FloatOps.absf (φ := .f32) y : Ideal .f32) = max y (-y) := fun _ => rfl
  have hp : ∀ y : EReal, Ideal.log1p y = Ideal.log (1 + y) := fun _ => rfl
  pointwise [logSig]
  rw [if_neg (by simp), ha, hp, h, zeros_apply, sub_zero, ← EReal.coe_neg, ← EReal.coe_neg, ← EReal.coe_zero,
    ← Cert.KernelIdeal.Tile.coe_max, ← Cert.KernelIdeal.Tile.coe_max, ← EReal.coe_neg, Cert.KernelIdeal.Tile.exp_coe, ← EReal.coe_one, ← EReal.coe_add,
    Cert.KernelIdeal.Tile.log_coe _ (by positivity), ← EReal.coe_add, ← EReal.coe_neg, Sb.lb_softplus]
  congr 5
  rw [neg_neg, abs, sup_comm]

/-- The masked logarithm of one minus the logistic function, for one query. -/
def kept (z : ℕ → ℝ) (t s : ℕ) : ℝ := if s < t then Sb.lk (z s) else 0

theorem first_zero : (broadcastInDim S_ ![] bcast_S_S_ (constant (F := Ideal) S_ .f32 0x00000000#32)) (Shape.Idx.first h_S_) = (0 : EReal) :=
  Ideal.ofBits_zero_f32

theorem sums_at (x : FVec Ideal S8x4x2048x2048 .f32) (b : Fin 8) (h : Fin 4) (t s : Fin 2048) :
    sums x (ix4 b h t s) = ∑ k : Fin 2048, if s.val ≤ k.val then x (ix4 b h t k) else 0 := by
  unfold sums Host.reduceWindowAdd
  exact Sb.window_sum x _ first_zero reduceWindows_S8x4x2048x2048_S8x4x2048x2048_w1s1p0_0_w1s1p0_0_w1s1p0_0_w2048s1p0_2047 b h t s

section
variable (z : FVec Ideal S8x4x2048x2048 .f32) (b : Fin 8) (h : Fin 4) (t : Fin 2048) (x : ℕ → ℝ)
  (hz : ∀ s : Fin 2048, z (ix4 b h t s) = ((x s.val : ℝ) : EReal))
include hz

theorem keep_apply (s : Fin 2048) : keep z (ix4 b h t s) = ((kept x t.val s.val : ℝ) : EReal) := by
  have e : logSig (Host.negf z) (ix4 b h t s) = ((Sb.lb (-x s.val) : ℝ) : EReal) := by
    refine logSig_apply _ _ _ ?_
    pointwise
    rw [hz, EReal.coe_neg]
  show Scalar.select (mask (ix4 b h t s)) (logSig (Host.negf z) (ix4 b h t s)) (zeros (ix4 b h t s)) = _
  unfold kept
  by_cases m : s.val < t.val
  · rw [(mask_apply b h t s).mpr m, if_pos m, e, Sb.lk_eq]; rfl
  · rw [eq_zero_of_ne_one (fun w => m ((mask_apply b h t s).mp w)), if_neg m, zeros_apply]; rfl

theorem sums_apply (s : Fin 2048) (hs : s.val < t.val) :
    subf (sums (keep z)) (keep z) (ix4 b h t s) = ((Sb.tail x t.val (s.val + 1) : ℝ) : EReal) := by
  have e := sums_at (keep z) b h t s
  show sums (keep z) (ix4 b h t s) - keep z (ix4 b h t s) = _
  rw [e, keep_apply z b h t x hz s, Finset.sum_congr rfl fun k _ => show _ = (((if s.val ≤ k.val then kept x t.val k.val else 0 : ℝ)) : EReal) by
    rw [keep_apply z b h t x hz k]; split <;> simp, ← Cert.KernelIdeal.Tile.coe_sum, ← EReal.coe_sub]
  refine congrArg (fun r : ℝ => (r : EReal)) ?_
  unfold kept Sb.tail
  rw [Fin.sum_univ_eq_sum_range (fun k => if s.val ≤ k then (if k < t.val then Sb.lk (x k) else 0) else 0) 2048, if_pos hs]
  have q : ∀ k, (if s.val ≤ k then (if k < t.val then Sb.lk (x k) else 0) else 0) = if s.val ≤ k ∧ k < t.val then Sb.lk (x k) else 0 := by
    intro k; by_cases p1 : s.val ≤ k <;> by_cases p2 : k < t.val <;> simp [p1, p2]
  simp only [q]
  rw [← Finset.sum_filter, show (Finset.range 2048).filter (fun k => s.val ≤ k ∧ k < t.val) = Finset.Ico s.val t.val by
    ext k; simp only [Finset.mem_filter, Finset.mem_range, Finset.mem_Ico]; omega, Finset.sum_eq_sum_Ico_succ_bot hs]
  ring

theorem weights_apply (s : Fin 2048) :
    weights z (ix4 b h t s) = (((if s.val < t.val then Sb.wt x t.val s.val else 0 : ℝ)) : EReal) := by
  show Scalar.select (mask (ix4 b h t s)) (Ideal.exp (logSig z (ix4 b h t s) + subf (sums (keep z)) (keep z) (ix4 b h t s))) (zeros (ix4 b h t s)) = _
  by_cases m : s.val < t.val
  · rw [(mask_apply b h t s).mpr m, if_pos m, sums_apply z b h t x hz s m, logSig_apply z _ _ (hz s), ← EReal.coe_add, Cert.KernelIdeal.Tile.exp_coe]; rfl
  · rw [eq_zero_of_ne_one (fun w => m ((mask_apply b h t s).mp w)), if_neg m, zeros_apply]; rfl

end

theorem scores_apply (q : FVec Ideal S8x2048x256 .f32) (kv : FVec Ideal S8x2048x512 .f32) (b : Fin 8) (h : Fin 4) (t s : Fin 2048)
    (Q K : ℕ → ℕ → ℝ) (hq : ∀ (t : Fin 2048) (f : Fin 256), q (ix3 b t f) = ((Q t.val f.val : ℝ) : EReal))
    (hk : ∀ (t : Fin 2048) (f : Fin 256), kv (ix3 b t (⟨f.val, by omega⟩ : Fin 512)) = ((K t.val f.val : ℝ) : EReal)) :
    scores q kv (ix4 b h t s) = ((Cert.KernelIdeal.Tile.score Q K h.val t.val s.val : ℝ) : EReal) := by
  pointwise [scores]
  unfold Cert.KernelIdeal.Tile.score
  rw [EReal.coe_mul, Cert.KernelIdeal.Tile.coe_sum]
  refine congrArg₂ (· * ·) (Finset.sum_congr rfl fun d _ => ?_) Cert.KernelIdeal.Tile.eighth_eq
  rw [hq, EReal.coe_mul, Nat.mul_comm 64]
  exact congrArg₂ (· * ·) rfl (hk s ⟨h.val * 64 + d.val, by omega⟩)

theorem whole_apply (q : FVec Ideal S8x2048x256 .f32) (kv : FVec Ideal S8x2048x512 .f32) (b : Fin 8) (t : Fin 2048) (f : Fin 256)
    (Q K : ℕ → ℕ → ℝ) (V : ℕ → ℕ → EReal) (hq : ∀ (t : Fin 2048) (f : Fin 256), q (ix3 b t f) = ((Q t.val f.val : ℝ) : EReal))
    (hk : ∀ (t : Fin 2048) (f : Fin 256), kv (ix3 b t (⟨f.val, by omega⟩ : Fin 512)) = ((K t.val f.val : ℝ) : EReal))
    (hv : ∀ (t : Fin 2048) (f : Fin 256), kv (ix3 b t (⟨256 + f.val, by omega⟩ : Fin 512)) = V t.val f.val) :
    whole q kv (ix3 b t f) = Sb.mix (Cert.KernelIdeal.Tile.score Q K (f.val / 64) t.val) (fun s => V s f.val) t.val 0 := by
  have hw := fun s : Fin 2048 => weights_apply (scores q kv) b (⟨f.val / 64, by omega⟩ : Fin 4) t
    (Cert.KernelIdeal.Tile.score Q K (f.val / 64) t.val) (fun s => scores_apply q kv b ⟨f.val / 64, by omega⟩ t s Q K hq hk) s
  unfold whole
  generalize weights (scores q kv) = w at hw
  pointwise
  unfold Sb.mix
  have e : ∀ s : Fin 2048, kv (ix3 b s (⟨256 + f.val, by omega⟩ : Fin 512)) * w (ix4 b (⟨f.val / 64, by omega⟩ : Fin 4) t s)
      = (fun s : ℕ => if s < t.val then V s f.val * ((Sb.wt (Cert.KernelIdeal.Tile.score Q K (f.val / 64) t.val) t.val s : ℝ) : EReal) else 0) s.val := by
    intro s
    rw [hw, hv]
    dsimp only
    split
    · rfl
    · rw [EReal.coe_zero, mul_zero]
  refine (Finset.sum_congr rfl fun s _ => e s).trans ?_
  rw [Fin.sum_univ_eq_sum_range (fun s : ℕ => if s < t.val then V s f.val * ((Sb.wt (Cert.KernelIdeal.Tile.score Q K (f.val / 64) t.val) t.val s : ℝ) : EReal) else 0) 2048,
    ← Finset.sum_filter]
  refine Finset.sum_congr ?_ fun _ _ => rfl
  ext k
  have := t.isLt
  simp only [Finset.mem_filter, Finset.mem_range, Finset.mem_Ico]
  omega

end Cert.ReferenceIdeal.Steps

end
-- ==== Proof.Sb.Meet.lean ====
module

public import proofs.«01_k».proof.Defs
public import proofs.«01_k».proof.Proof.Sb.Whole
public import proofs.«01_k».proof.Proof.Sb.Steps

/-!
The precondition as real queries and keys, and the two programs' results side by side.
-/

@[expose] public section

set_option maxRecDepth 16384
noncomputable section
open Idealize.ShloMosaic Idealize.ShloMosaic.TcCoe Idealize.SL.Sem

namespace Cert.Pre_finite_inputs

instance facts : Facts where
  bcast_S_S8x2048x256 := by decide
  reducesTo_S8x2048x256_S_d0_1_2 := by decide
  h_S_ := by decide
  slices_S8x2048x512_S8x2048x256_0_0_0 := by decide

theorem inf_eq : Ideal.ofBits .f32 0x7F800000#32 = (⊤ : EReal) := by
  simp [Ideal.ofBits, Ideal.ieee]

theorem real_of_abs (x : EReal) (h : max x (-x) < ⊤) : x = ((x.toReal : ℝ) : EReal) := by
  refine (EReal.coe_toReal ?_ ?_).symm
  · rintro rfl; simp at h
  · rintro rfl; simp at h

theorem and_one : ∀ x y : BitVec 1, IntOp.andi x y = 1#1 → x = 1#1 ∧ y = 1#1 := by decide

theorem bool_one (p : Bool) (h : BitVec.ofBool p = 1#1) : p = true := by
  cases p
  · exact absurd h (by decide)
  · rfl

theorem all_one {ι : Type} (S : Finset ι) (p : ι → BitVec 1) (h : Finset.fold IntOp.andi (1#1) p S = 1#1) :
    ∀ k ∈ S, p k = 1#1 := by
  induction S using Finset.cons_induction with
  | empty => intro k hk; exact absurd hk (Finset.notMem_empty k)
  | cons a S ha ih =>
    rw [Finset.fold_cons] at h
    obtain ⟨h1, h2⟩ := and_one _ _ h
    intro k hk
    rcases Finset.mem_cons.mp hk with rfl | hk
    · exact h1
    · exact ih h2 k hk

theorem each_one {ι : Type} [Fintype ι] (p : ι → BitVec 1) (h : Finset.fold IntOp.andi (1#1) p Finset.univ = 1#1) (k : ι) : p k = 1#1 :=
  all_one Finset.univ p h k (Finset.mem_univ k)

theorem unpack (q : FVec Ideal S8x2048x256 .f32) (kv : FVec Ideal S8x2048x512 .f32) (h : fn (F := Ideal) q kv = fun _ => 1#1) :
    (∀ (b : Fin 8) (t : Fin 2048) (f : Fin 256), max (q (ix3 b t f)) (-(q (ix3 b t f))) < (⊤ : EReal))
    ∧ ∀ (b : Fin 8) (t : Fin 2048) (f : Fin 256),
      max (kv (ix3 b t (⟨f.val, by omega⟩ : Fin 512))) (-(kv (ix3 b t (⟨f.val, by omega⟩ : Fin 512)))) < (⊤ : EReal) := by
  have h0 := congrFun h ix0
  unfold fn at h0
  dsimp only at h0
  pointwise at h0
  obtain ⟨h1, h2⟩ := and_one _ _ h0
  refine ⟨fun b t f => ?_, fun b t f => ?_⟩
  · have e := each_one _ h1 (b, t, f)
    rw [← inf_eq]
    exact of_decide_eq_true (bool_one _ e)
  · have e := each_one _ h2 (b, t, f)
    rw [← inf_eq]
    exact of_decide_eq_true (bool_one _ e)

end Cert.Pre_finite_inputs

namespace Cert.Meet

/-- A function of three bounded places as one of three numbers. -/
def spread {α : Type} [Zero α] (g : Fin 8 → Fin 2048 → Fin 256 → α) (b t f : ℕ) : α :=
  if h : b < 8 ∧ t < 2048 ∧ f < 256 then g ⟨b, h.1⟩ ⟨t, h.2.1⟩ ⟨f, h.2.2⟩ else 0

theorem spread_apply {α : Type} [Zero α] (g : Fin 8 → Fin 2048 → Fin 256 → α) (b : Fin 8) (t : Fin 2048) (f : Fin 256) :
    spread g b.val t.val f.val = g b t f := by
  unfold spread
  rw [dif_pos ⟨b.isLt, t.isLt, f.isLt⟩]

theorem core (q : FVec Ideal KernelIdeal.S8x2048x256 .f32) (kv : FVec Ideal KernelIdeal.S8x2048x512 .f32)
    (hc : Pre_finite_inputs.fn (F := Ideal) q kv = fun _ => 1#1) (A : FVec Ideal KernelIdeal.S8x2048x256 .f32)
    (hA : ∀ (Q K : ℕ → ℕ → ℕ → ℝ) (V : ℕ → ℕ → ℕ → EReal),
      (∀ (b : Fin 8) (t : Fin 2048) (f : Fin 256), q (ix3 b t f) = ((Q b.val t.val f.val : ℝ) : EReal)) →
      (∀ (b : Fin 8) (t : Fin 2048) (f : Fin 256), kv (ix3 b t (⟨f.val, by omega⟩ : Fin 512)) = ((K b.val t.val f.val : ℝ) : EReal)) →
      (∀ (b : Fin 8) (t : Fin 2048) (f : Fin 256), kv (ix3 b t (⟨256 + f.val, by omega⟩ : Fin 512)) = V b.val t.val f.val) →
      A = fun y => KernelIdeal.Tile.result Q K V (y 0).val (y 1).val (y 2).val) :
    A = ReferenceIdeal.Steps.whole q kv := by
  obtain ⟨fq, fk⟩ := Pre_finite_inputs.unpack q kv hc
  have eq : ∀ (b : Fin 8) (t : Fin 2048) (f : Fin 256),
      q (ix3 b t f) = ((spread (fun b t f => EReal.toReal (q (ix3 b t f))) b.val t.val f.val : ℝ) : EReal) := by
    intro b t f
    rw [spread_apply]; exact Pre_finite_inputs.real_of_abs _ (fq b t f)
  have ek : ∀ (b : Fin 8) (t : Fin 2048) (f : Fin 256), kv (ix3 b t (⟨f.val, by omega⟩ : Fin 512))
      = ((spread (fun b t f => EReal.toReal (kv (ix3 b t (⟨f.val, by omega⟩ : Fin 512)))) b.val t.val f.val : ℝ) : EReal) := by
    intro b t f
    rw [spread_apply]; exact Pre_finite_inputs.real_of_abs _ (fk b t f)
  have ev : ∀ (b : Fin 8) (t : Fin 2048) (f : Fin 256), kv (ix3 b t (⟨256 + f.val, by omega⟩ : Fin 512))
      = spread (α := EReal) (fun b t f => kv (ix3 b t (⟨256 + f.val, by omega⟩ : Fin 512))) b.val t.val f.val := by
    intro b t f
    rw [spread_apply]
  rw [hA _ _ _ eq ek ev]
  funext y
  obtain ⟨b, t, f, rfl⟩ : ∃ (b : Fin 8) (t : Fin 2048) (f : Fin 256), y = ix3 b t f := ⟨y 0, y 1, y 2, eq_ix3 y⟩
  exact (ReferenceIdeal.Steps.whole_apply q kv b t f _ _ _ (eq b) (ek b) (ev b)).symm

/-- Where the precondition holds, the kernel's result array is the reference's. -/
theorem arrays (m : (ℓ : Loc KernelIdeal.nD KernelIdeal.τ KernelIdeal.sig) → Buf (Elt Ideal) ℓ) (hp : Pre_KernelIdeal_finite_inputs m)
    (c : Dev KernelIdeal.nD) :
    (KernelIdeal.Gen.dats m 0 c).arrAt 3 KernelIdeal.cfg0.N
      = ReferenceIdeal.Steps.whole (m ((c : Thread KernelIdeal.nD KernelIdeal.τ).loc KernelIdeal.main_arg0))
        (m ((c : Thread KernelIdeal.nD KernelIdeal.τ).loc KernelIdeal.main_arg1)) :=
  core _ _ (hp c) _ fun Q K V eq ek ev => KernelIdeal.Tile.array_at m c Q K V ⟨eq, ek, ev⟩

end Cert.Meet

end
-- ==== Proof.Ffn.Spec.lean ====
module

public import Idealize.ShloMosaic.Lib.Pipeline.ValueKit
public import Mathlib.Algebra.BigOperators.Fin

/-!
The gated feed-forward half of a layer, one row at a time, in plain mathematics: normalise the row,
take the gated hidden row, and add half of its projection to the row.
-/

@[expose] public section

noncomputable section
open Idealize.ShloMosaic
namespace Cert.Ffn

/-- The factor a row is scaled by, from the sum of its squares. -/
def inv (s : EReal) : EReal := Ideal.rsqrt (Ideal.div s (Ideal.ofBits .f32 0x44800000#32) + Ideal.ofBits .f32 0x358637BD#32)

/-- The normalised row. -/
def norm (x g : Fin 1024 → EReal) (k : Fin 1024) : EReal := x k * inv (∑ j, x j * x j) * g k

/-- A row times a column. -/
def lin (h w : Fin 1024 → EReal) : EReal := ∑ k, h k * w k

/-- A gate and an upper value to the gated value. -/
def act (z u : EReal) : EReal := z * Ideal.logistic z * u

/-- The part of a projected value that the hidden place `j` gives. -/
def part (h : Fin 1024 → EReal) (W : Fin 1024 → Fin 5632 → EReal) (D : Fin 2816 → EReal) (j : Fin 2816) : EReal :=
  act (lin h fun k => W k ⟨j.val, by omega⟩) (lin h fun k => W k ⟨2816 + j.val, by omega⟩) * D j

/-- One value of the result. -/
def row (x g : Fin 1024 → EReal) (W : Fin 1024 → Fin 5632 → EReal) (D : Fin 2816 → Fin 1024 → EReal) (c : Fin 1024) : EReal :=
  x c + Ideal.ofBits .f32 0x3F000000#32 * ∑ j, part (norm x g) W (fun j => D j c) j

/-- The parts before a place. -/
def upto (p : Fin 2816 → EReal) (n : ℕ) : EReal := ∑ j ∈ Finset.range n, if h : j < 2816 then p ⟨j, h⟩ else 0

theorem upto_all (p : Fin 2816 → EReal) : upto p 2816 = ∑ j, p j := by
  unfold upto
  rw [Finset.sum_range]
  exact Finset.sum_congr rfl fun j _ => dif_pos j.isLt

theorem upto_add (p : Fin 2816 → EReal) (n : ℕ) (hn : n + 256 ≤ 2816) :
    upto p (n + 256) = upto p n + ∑ j : Fin 256, p ⟨n + j.val, by omega⟩ := by
  unfold upto
  rw [Finset.sum_range_add]
  congr 1
  rw [Finset.sum_range]
  exact Finset.sum_congr rfl fun j _ => dif_pos (show n + j.val < 2816 by omega)

theorem upto_first (p : Fin 2816 → EReal) : upto p 256 = ∑ j : Fin 256, p ⟨j.val, by omega⟩ := by
  unfold upto
  rw [Finset.sum_range]
  exact Finset.sum_congr rfl fun j _ => dif_pos (show j.val < 2816 by omega)

end Cert.Ffn

end
-- ==== Proof.Ffn.Tile.lean ====
module

public import proofs.«01_k».proof.Proof.Gen.Kernel2Ideal.Value
public import proofs.«01_k».proof.Proof.Ffn.Spec
public import Idealize.ShloMosaic.Lib.Pipeline.ValueKit
public import Idealize.ShloMosaic.Lib.Pipeline.ReadBack

/-!
What the feed-forward kernel's body computes at an index, and what it leaves in its output block.
-/

@[expose] public section

set_option maxRecDepth 16384
noncomputable section
open Idealize.ShloMosaic Idealize.ShloMosaic.TcCoe Idealize.SL.Sem
namespace Cert.Kernel2Ideal.Tile
open Cert.Kernel2Ideal Cert.Kernel2Ideal.Gen Cert.Ffn

theorem pay3_apply (x : FVec Ideal S512x1024 .f32) (g : FVec Ideal S1x1x1024 .f32) (r : Fin 512) (k : Fin 1024) :
    k0_pay3 (F := Ideal) x g (ix2 r k) = norm (fun j => x (ix2 r j)) (fun j => g (ix3 (0 : Fin 1) (0 : Fin 1) j)) k := by
  pointwise [k0_pay3]
  rfl

theorem pay4_apply (h : FVec Ideal S512x1024 .bf16) (wg wu : FVec Ideal S1x1024x256 .bf16) (wd : FVec Ideal S1x256x1024 .bf16)
    (r : Fin 512) (c : Fin 1024) :
    k0_pay4 (F := Ideal) h wg wu wd (ix2 r c)
      = ∑ j : Fin 256, act (lin (fun k => h (ix2 r k)) fun k => wg (ix3 (0 : Fin 1) k j))
        (lin (fun k => h (ix2 r k)) fun k => wu (ix3 (0 : Fin 1) k j)) * wd (ix3 (0 : Fin 1) j c) := by
  pointwise [k0_pay4]
  rfl

theorem pay5_eq (a : FVec Ideal S512x1024 .f32) : k0_pay5 (F := Ideal) a = a := by
  funext i
  obtain ⟨r, c, rfl⟩ : ∃ (r : Fin 512) (c : Fin 1024), i = ix2 r c := ⟨i 0, i 1, eq_ix2 i⟩
  pointwise [k0_pay5]

theorem pay6_eq (h : FVec Ideal S512x1024 .bf16) (wg wu : FVec Ideal S1x1024x256 .bf16) (wd : FVec Ideal S1x256x1024 .bf16)
    (a : FVec Ideal S512x1024 .f32) : k0_pay6 (F := Ideal) h wg wu wd a = k0_pay5 (addf a (k0_pay4 h wg wu wd)) := rfl

end Cert.Kernel2Ideal.Tile

end
-- ==== Proof.Ffn.Out.lean ====
module

public import proofs.«01_k».proof.Proof.Ffn.Tile

/-!
What the feed-forward kernel leaves in its output block at a grid point.
-/

@[expose] public section

set_option maxRecDepth 16384
noncomputable section
open Idealize.ShloMosaic Idealize.ShloMosaic.TcCoe Idealize.SL.Sem
namespace Cert.Kernel2Ideal.Tile
open Cert.Kernel2Ideal Cert.Kernel2Ideal.Gen Cert.Ffn
variable {F : FTy → Type} [FloatOps F]

/-- A chunk of columns of the first weight. -/
def colsOf (W : Vec F S1x1024x5632 .bf16) (off : Fin 3 → ℕ) (h : ∀ a, off a + S1x1024x256.size a ≤ S1x1024x5632.size a) :
    Vec F S1x1024x256 .bf16 := View.ld W (Rect.unit (s := S1x1024x5632) off S1x1024x256.size h)

/-- A chunk of rows of the second weight. -/
def rowsOf (D : Vec F S1x2816x1024 .bf16) (off : Fin 3 → ℕ) (h : ∀ a, off a + S1x256x1024.size a ≤ S1x2816x1024.size a) :
    Vec F S1x256x1024 .bf16 := View.ld D (Rect.unit (s := S1x2816x1024) off S1x256x1024.size h)

/-- One more chunk added to what the chunks before left. -/
def more (h : FVec F S512x1024 .bf16) (W : Vec F S1x1024x5632 .bf16) (D : Vec F S1x2816x1024 .bf16) (og ou od : Fin 3 → ℕ)
    (hg : ∀ a, og a + S1x1024x256.size a ≤ S1x1024x5632.size a) (hu : ∀ a, ou a + S1x1024x256.size a ≤ S1x1024x5632.size a)
    (hd : ∀ a, od a + S1x256x1024.size a ≤ S1x2816x1024.size a) (a : FVec F S512x1024 .f32) : FVec F S512x1024 .f32 :=
  k0_pay6 h (colsOf W og hg) (colsOf W ou hu) (rowsOf D od hd) a

/-- What the first chunk leaves. -/
def sum0 (h : FVec F S512x1024 .bf16) (W : Vec F S1x1024x5632 .bf16) (D : Vec F S1x2816x1024 .bf16) : FVec F S512x1024 .f32 :=
  k0_pay5 (k0_pay4 h (colsOf W ![0, 0, 0] inb_S1x1024x5632_S1x1024x256_0_0_0) (colsOf W ![0, 0, 2816] inb_S1x1024x5632_S1x1024x256_0_0_2816)
    (rowsOf D ![0, 0, 0] inb_S1x2816x1024_S1x256x1024_0_0_0))

/-- What the chunks up to chunk 1 leave. -/
def sum1 (h : FVec F S512x1024 .bf16) (W : Vec F S1x1024x5632 .bf16) (D : Vec F S1x2816x1024 .bf16) : FVec F S512x1024 .f32 :=
  more h W D ![0, 0, 256] ![0, 0, 3072] ![0, 256, 0] inb_S1x1024x5632_S1x1024x256_0_0_256 inb_S1x1024x5632_S1x1024x256_0_0_3072
    inb_S1x2816x1024_S1x256x1024_0_256_0 (sum0 h W D)

/-- What the chunks up to chunk 2 leave. -/
def sum2 (h : FVec F S512x1024 .bf16) (W : Vec F S1x1024x5632 .bf16) (D : Vec F S1x2816x1024 .bf16) : FVec F S512x1024 .f32 :=
  more h W D ![0, 0, 512] ![0, 0, 3328] ![0, 512, 0] inb_S1x1024x5632_S1x1024x256_0_0_512 inb_S1x1024x5632_S1x1024x256_0_0_3328
    inb_S1x2816x1024_S1x256x1024_0_512_0 (sum1 h W D)

/-- What the chunks up to chunk 3 leave. -/
def sum3 (h : FVec F S512x1024 .bf16) (W : Vec F S1x1024x5632 .bf16) (D : Vec F S1x2816x1024 .bf16) : FVec F S512x1024 .f32 :=
  more h W D ![0, 0, 768] ![0, 0, 3584] ![0, 768, 0] inb_S1x1024x5632_S1x1024x256_0_0_768 inb_S1x1024x5632_S1x1024x256_0_0_3584
    inb_S1x2816x1024_S1x256x1024_0_768_0 (sum2 h W D)

/-- What the chunks up to chunk 4 leave. -/
def sum4 (h : FVec F S512x1024 .bf16) (W : Vec F S1x1024x5632 .bf16) (D : Vec F S1x2816x1024 .bf16) : FVec F S512x1024 .f32 :=
  more h W D ![0, 0, 1024] ![0, 0, 3840] ![0, 1024, 0] inb_S1x1024x5632_S1x1024x256_0_0_1024 inb_S1x1024x5632_S1x1024x256_0_0_3840
    inb_S1x2816x1024_S1x256x1024_0_1024_0 (sum3 h W D)

/-- What the chunks up to chunk 5 leave. -/
def sum5 (h : FVec F S512x1024 .bf16) (W : Vec F S1x1024x5632 .bf16) (D : Vec F S1x2816x1024 .bf16) : FVec F S512x1024 .f32 :=
  more h W D ![0, 0, 1280] ![0, 0, 4096] ![0, 1280, 0] inb_S1x1024x5632_S1x1024x256_0_0_1280 inb_S1x1024x5632_S1x1024x256_0_0_4096
    inb_S1x2816x1024_S1x256x1024_0_1280_0 (sum4 h W D)

/-- What the chunks up to chunk 6 leave. -/
def sum6 (h : FVec F S512x1024 .bf16) (W : Vec F S1x1024x5632 .bf16) (D : Vec F S1x2816x1024 .bf16) : FVec F S512x1024 .f32 :=
  more h W D ![0, 0, 1536] ![0, 0, 4352] ![0, 1536, 0] inb_S1x1024x5632_S1x1024x256_0_0_1536 inb_S1x1024x5632_S1x1024x256_0_0_4352
    inb_S1x2816x1024_S1x256x1024_0_1536_0 (sum5 h W D)

/-- What the chunks up to chunk 7 leave. -/
def sum7 (h : FVec F S512x1024 .bf16) (W : Vec F S1x1024x5632 .bf16) (D : Vec F S1x2816x1024 .bf16) : FVec F S512x1024 .f32 :=
  more h W D ![0, 0, 1792] ![0, 0, 4608] ![0, 1792, 0] inb_S1x1024x5632_S1x1024x256_0_0_1792 inb_S1x1024x5632_S1x1024x256_0_0_4608
    inb_S1x2816x1024_S1x256x1024_0_1792_0 (sum6 h W D)

/-- What the chunks up to chunk 8 leave. -/
def sum8 (h : FVec F S512x1024 .bf16) (W : Vec F S1x1024x5632 .bf16) (D : Vec F S1x2816x1024 .bf16) : FVec F S512x1024 .f32 :=
  more h W D ![0, 0, 2048] ![0, 0, 4864] ![0, 2048, 0] inb_S1x1024x5632_S1x1024x256_0_0_2048 inb_S1x1024x5632_S1x1024x256_0_0_4864
    inb_S1x2816x1024_S1x256x1024_0_2048_0 (sum7 h W D)

/-- What the chunks up to chunk 9 leave. -/
def sum9 (h : FVec F S512x1024 .bf16) (W : Vec F S1x1024x5632 .bf16) (D : Vec F S1x2816x1024 .bf16) : FVec F S512x1024 .f32 :=
  more h W D ![0, 0, 2304] ![0, 0, 5120] ![0, 2304, 0] inb_S1x1024x5632_S1x1024x256_0_0_2304 inb_S1x1024x5632_S1x1024x256_0_0_5120
    inb_S1x2816x1024_S1x256x1024_0_2304_0 (sum8 h W D)

/-- What the chunks up to chunk 10 leave. -/
def sum10 (h : FVec F S512x1024 .bf16) (W : Vec F S1x1024x5632 .bf16) (D : Vec F S1x2816x1024 .bf16) : FVec F S512x1024 .f32 :=
  more h W D ![0, 0, 2560] ![0, 0, 5376] ![0, 2560, 0] inb_S1x1024x5632_S1x1024x256_0_0_2560 inb_S1x1024x5632_S1x1024x256_0_0_5376
    inb_S1x2816x1024_S1x256x1024_0_2560_0 (sum9 h W D)

variable (m : (ℓ : Loc nD τ sig) → Buf (Elt F) ℓ)

theorem out_eq (c : Dev nD) (t : Fin cfg0.N) : outsAt0 m c t
    = k0_pay2 (iblk m c 0 t) (sum10 (k0_pay3 (iblk m c 0 t) (iblk m c 1 t)) (iblk m c 2 t) (iblk m c 3 t)) := by
  unfold outsAt0
  frame_out
  rfl

theorem colsOf_apply (W : FVec Ideal S1x1024x5632 .bf16) (n : ℕ) (h : ∀ a, (![0, 0, n] : Fin 3 → ℕ) a + S1x1024x256.size a ≤ S1x1024x5632.size a)
    (hn : n + 256 ≤ 5632) (k : Fin 1024) (j : Fin 256) :
    colsOf (F := Ideal) W ![0, 0, n] h (ix3 (0 : Fin 1) k j) = W (ix3 (0 : Fin 1) k ⟨n + j.val, by omega⟩) := by
  unfold colsOf
  rw [View.ld_apply]
  refine congrArg W ?_
  funext a
  apply Fin.ext
  rw [Rect.idx_unit_val]
  match a with
  | 0 => show 0 + 0 = 0; rfl
  | 1 => show 0 + k.val = k.val; omega
  | 2 => rfl

theorem rowsOf_apply (D : FVec Ideal S1x2816x1024 .bf16) (n : ℕ) (h : ∀ a, (![0, n, 0] : Fin 3 → ℕ) a + S1x256x1024.size a ≤ S1x2816x1024.size a)
    (hn : n + 256 ≤ 2816) (j : Fin 256) (c : Fin 1024) :
    rowsOf (F := Ideal) D ![0, n, 0] h (ix3 (0 : Fin 1) j c) = D (ix3 (0 : Fin 1) ⟨n + j.val, by omega⟩ c) := by
  unfold rowsOf
  rw [View.ld_apply]
  refine congrArg D ?_
  funext a
  apply Fin.ext
  rw [Rect.idx_unit_val]
  match a with
  | 0 => show 0 + 0 = 0; rfl
  | 1 => rfl
  | 2 => show 0 + c.val = c.val; omega

/-- The parts of a result's projected value, hidden place by hidden place. -/
def parts (h : FVec Ideal S512x1024 .bf16) (W : FVec Ideal S1x1024x5632 .bf16) (D : FVec Ideal S1x2816x1024 .bf16)
    (r : Fin 512) (c : Fin 1024) : Fin 2816 → EReal :=
  part (fun k => h (ix2 r k)) (fun k j => W (ix3 (0 : Fin 1) k j)) (fun j => D (ix3 (0 : Fin 1) j c))

theorem chunk_apply (h : FVec Ideal S512x1024 .bf16) (W : FVec Ideal S1x1024x5632 .bf16) (D : FVec Ideal S1x2816x1024 .bf16)
    (n u : ℕ) (hn : n + 256 ≤ 2816) (hu : u = 2816 + n) (hg) (hu') (hd) (r : Fin 512) (c : Fin 1024) :
    k0_pay4 (F := Ideal) h (colsOf W ![0, 0, n] hg) (colsOf W ![0, 0, u] hu') (rowsOf D ![0, n, 0] hd) (ix2 r c)
      = ∑ j : Fin 256, parts h W D r c ⟨n + j.val, by omega⟩ := by
  subst hu
  rw [pay4_apply]
  refine Finset.sum_congr rfl fun j _ => ?_
  rw [rowsOf_apply D n hd hn]
  simp only [fun k => colsOf_apply W n hg (by omega) k j, fun k => colsOf_apply W (2816 + n) hu' (by omega) k j]
  unfold parts part
  simp only [Nat.add_assoc]

theorem more_apply (h : FVec Ideal S512x1024 .bf16) (W : FVec Ideal S1x1024x5632 .bf16) (D : FVec Ideal S1x2816x1024 .bf16)
    (n u : ℕ) (hn : n + 256 ≤ 2816) (hu : u = 2816 + n) (hg) (hu') (hd) (a : FVec Ideal S512x1024 .f32) (r : Fin 512) (c : Fin 1024)
    (ha : a (ix2 r c) = upto (parts h W D r c) n) :
    more (F := Ideal) h W D ![0, 0, n] ![0, 0, u] ![0, n, 0] hg hu' hd a (ix2 r c) = upto (parts h W D r c) (n + 256) := by
  unfold more
  rw [pay6_eq, pay5_eq]
  show a (ix2 r c) + k0_pay4 (F := Ideal) h (colsOf W ![0, 0, n] hg) (colsOf W ![0, 0, u] hu') (rowsOf D ![0, n, 0] hd) (ix2 r c) = _
  rw [chunk_apply h W D n u hn hu hg hu' hd, ha, upto_add _ n hn]

variable (h : FVec Ideal S512x1024 .bf16) (W : FVec Ideal S1x1024x5632 .bf16) (D : FVec Ideal S1x2816x1024 .bf16) (r : Fin 512) (c : Fin 1024)

theorem sum0_apply : sum0 (F := Ideal) h W D (ix2 r c) = upto (parts h W D r c) 256 := by
  unfold sum0
  rw [pay5_eq, chunk_apply h W D 0 2816 (by omega) rfl, upto_first]
  refine Finset.sum_congr rfl fun j _ => ?_
  simp only [Nat.zero_add]

theorem sum1_apply : sum1 (F := Ideal) h W D (ix2 r c) = upto (parts h W D r c) 512 :=
  more_apply h W D 256 3072 (by omega) rfl _ _ _ _ r c (sum0_apply h W D r c)

theorem sum2_apply : sum2 (F := Ideal) h W D (ix2 r c) = upto (parts h W D r c) 768 :=
  more_apply h W D 512 3328 (by omega) rfl _ _ _ _ r c (sum1_apply h W D r c)

theorem sum3_apply : sum3 (F := Ideal) h W D (ix2 r c) = upto (parts h W D r c) 1024 :=
  more_apply h W D 768 3584 (by omega) rfl _ _ _ _ r c (sum2_apply h W D r c)

theorem sum4_apply : sum4 (F := Ideal) h W D (ix2 r c) = upto (parts h W D r c) 1280 :=
  more_apply h W D 1024 3840 (by omega) rfl _ _ _ _ r c (sum3_apply h W D r c)

theorem sum5_apply : sum5 (F := Ideal) h W D (ix2 r c) = upto (parts h W D r c) 1536 :=
  more_apply h W D 1280 4096 (by omega) rfl _ _ _ _ r c (sum4_apply h W D r c)

theorem sum6_apply : sum6 (F := Ideal) h W D (ix2 r c) = upto (parts h W D r c) 1792 :=
  more_apply h W D 1536 4352 (by omega) rfl _ _ _ _ r c (sum5_apply h W D r c)

theorem sum7_apply : sum7 (F := Ideal) h W D (ix2 r c) = upto (parts h W D r c) 2048 :=
  more_apply h W D 1792 4608 (by omega) rfl _ _ _ _ r c (sum6_apply h W D r c)

theorem sum8_apply : sum8 (F := Ideal) h W D (ix2 r c) = upto (parts h W D r c) 2304 :=
  more_apply h W D 2048 4864 (by omega) rfl _ _ _ _ r c (sum7_apply h W D r c)

theorem sum9_apply : sum9 (F := Ideal) h W D (ix2 r c) = upto (parts h W D r c) 2560 :=
  more_apply h W D 2304 5120 (by omega) rfl _ _ _ _ r c (sum8_apply h W D r c)

theorem sum10_apply : sum10 (F := Ideal) h W D (ix2 r c) = upto (parts h W D r c) 2816 :=
  more_apply h W D 2560 5376 (by omega) rfl _ _ _ _ r c (sum9_apply h W D r c)

theorem sum_apply : sum10 (F := Ideal) h W D (ix2 r c) = ∑ j, parts h W D r c j :=
  (sum10_apply h W D r c).trans (upto_all _)

theorem pay2_apply (x a : FVec Ideal S512x1024 .f32) :
    k0_pay2 (F := Ideal) x a (ix2 r c) = x (ix2 r c) + Ideal.ofBits .f32 0x3F000000#32 * a (ix2 r c) := rfl

/-- A value of the output block, from the four input blocks. -/
theorem block_apply (x : FVec Ideal S512x1024 .f32) (g : FVec Ideal S1x1x1024 .f32) (W : FVec Ideal S1x1024x5632 .bf16)
    (D : FVec Ideal S1x2816x1024 .bf16) (r : Fin 512) (c : Fin 1024) :
    k0_pay2 (F := Ideal) x (sum10 (F := Ideal) (k0_pay3 (F := Ideal) x g) W D) (ix2 r c)
      = row (fun k => x (ix2 r k)) (fun k => g (ix3 (0 : Fin 1) (0 : Fin 1) k)) (fun k j => W (ix3 (0 : Fin 1) k j))
        (fun j c => D (ix3 (0 : Fin 1) j c)) c := by
  rw [pay2_apply, sum_apply]
  unfold row parts
  simp only [pay3_apply]

end Cert.Kernel2Ideal.Tile

end
-- ==== Proof.Ffn.Array.lean ====
module

public import proofs.«01_k».proof.Proof.Ffn.Out

/-!
The feed-forward kernel's result array, as a function of its arguments.
-/

@[expose] public section

set_option maxRecDepth 16384
noncomputable section
open Idealize.ShloMosaic Idealize.ShloMosaic.TcCoe Idealize.SL.Sem
namespace Cert.Kernel2Ideal.Tile
open Cert.Kernel2Ideal Cert.Kernel2Ideal.Gen Cert.Ffn

theorem idx_facts : ∀ t : Fin cfg0.N,
    win0_0.index t = ![t.val, 0] ∧ win0_1.index t = ![0, 0, 0] ∧
    win0_2.index t = ![0, 0, 0] ∧ win0_3.index t = ![0, 0, 0] ∧ win0_4.index t = ![t.val, 0] :=
  (by decide +kernel : ∀ t : Fin grid0.N,
    win0_0.index t = ![t.val, 0] ∧ win0_1.index t = ![0, 0, 0] ∧
    win0_2.index t = ![0, 0, 0] ∧ win0_3.index t = ![0, 0, 0] ∧ win0_4.index t = ![t.val, 0])

theorem lt_32 (t : Fin cfg0.N) : t.val < 32 := lt_of_lt_of_eq t.isLt (show cfg0.N = 32 from N_0)

variable (m : (ℓ : Loc nD τ sig) → Buf (Elt Ideal) ℓ)

theorem iblk0_apply (c : Dev nD) (t : Fin cfg0.N) (r : Fin 512) (k : Fin 1024) :
    iblk m c 0 t (ix2 r k)
      = m ((c : Thread nD τ).loc main_arg0) (ix2 (⟨t.val * 512 + r.val, by have := lt_32 t; omega⟩ : Fin 16384) k) := by
  blk_ext [iblk, V, idx_facts t]

theorem iblk1_apply (c : Dev nD) (t : Fin cfg0.N) (k : Fin 1024) :
    iblk m c 1 t (ix3 (0 : Fin 1) (0 : Fin 1) k) = m ((c : Thread nD τ).loc main_arg1) (ix2 (0 : Fin 4) k) := by
  unfold iblk
  blk_simp [idx_facts t]
  have e : (win0_1.blk t).view.emb (ix3 (0 : Fin 1) (0 : Fin 1) k) = ix3 (0 : Fin 4) (0 : Fin 1) k := by blk_ext [idx_facts t]
  rw [e]
  entry_read
  pointwise

theorem iblk2_apply (c : Dev nD) (t : Fin cfg0.N) (k : Fin 1024) (j : Fin 5632) :
    iblk m c 2 t (ix3 (0 : Fin 1) k j) = m ((c : Thread nD τ).loc main_arg2) (ix3 (0 : Fin 4) k j) := by
  unfold iblk
  blk_simp [idx_facts t]
  have e : (win0_2.blk t).view.emb (ix3 (0 : Fin 1) k j) = ix3 (0 : Fin 4) k j := by blk_ext [idx_facts t]
  rw [e]
  entry_read
  rfl

theorem iblk3_apply (c : Dev nD) (t : Fin cfg0.N) (j : Fin 2816) (k : Fin 1024) :
    iblk m c 3 t (ix3 (0 : Fin 1) j k) = m ((c : Thread nD τ).loc main_arg3) (ix3 (0 : Fin 4) j k) := by
  unfold iblk
  blk_simp [idx_facts t]
  have e : (win0_3.blk t).view.emb (ix3 (0 : Fin 1) j k) = ix3 (0 : Fin 4) j k := by blk_ext [idx_facts t]
  rw [e]
  entry_read
  rfl

/-- The result array from the four argument arrays. -/
def result (x : FVec Ideal S16384x1024 .f32) (g : FVec Ideal S4x1024 .f32) (W : FVec Ideal S4x1024x5632 .f32)
    (D : FVec Ideal S4x2816x1024 .f32) : FVec Ideal S16384x1024 .f32 := fun y =>
  row (fun k => x (ix2 (y 0) k)) (fun k => g (ix2 (0 : Fin 4) k)) (fun k j => W (ix3 (0 : Fin 4) k j))
    (fun j c => D (ix3 (0 : Fin 4) j c)) (y 1)

theorem out_apply (c : Dev nD) (t : Fin cfg0.N) (r : Fin 512) (k : Fin 1024) :
    outsAt0 m c t (ix2 r k)
      = result (m ((c : Thread nD τ).loc main_arg0)) (m ((c : Thread nD τ).loc main_arg1)) (m ((c : Thread nD τ).loc main_arg2))
        (m ((c : Thread nD τ).loc main_arg3)) (ix2 (⟨t.val * 512 + r.val, by have := lt_32 t; omega⟩ : Fin 16384) k) := by
  rw [out_eq]
  refine (block_apply _ _ _ _ r k).trans ?_
  simp only [iblk0_apply, iblk1_apply, iblk2_apply, iblk3_apply]
  rfl

theorem array_eq (c : Dev nD) : (dats m 0 c).arrAt 4 cfg0.N
    = result (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  obtain ⟨r, k, rfl⟩ : ∃ (r : Fin 512) (k : Fin 1024), y = ix2 r k := ⟨y 0, y 1, eq_ix2 y⟩
  have e : (win0_4.blk t).view.emb (ix2 r k) = ix2 (⟨t.val * 512 + r.val, by have := lt_32 t; omega⟩ : Fin 16384) k := by
    blk_ext [idx_facts t]
  refine (out_apply m c t r k).trans ?_
  exact congrArg _ e.symm

end Cert.Kernel2Ideal.Tile

end
-- ==== Proof.Ffn.Steps.lean ====
module

public import proofs.«01_k».proof.Proof.Gen.Reference2Ideal.Run
public import proofs.«01_k».proof.Proof.Ffn.Spec
public import Idealize.ShloMosaic.Lib.Pipeline.ValueKit

/-!
The reference's feed-forward half in steps, read at an index.
-/

@[expose] public section

set_option maxRecDepth 16384
noncomputable section
open Idealize.ShloMosaic Idealize.ShloMosaic.TcCoe Idealize.SL.Sem
namespace Cert.Reference2Ideal.Steps
open Cert.Reference2Ideal Cert.Reference2Ideal.Gen Cert.Reference2Ideal.Value Cert.Ffn
variable {F : FTy → Type} [FloatOps F]

/-- The normalised rows. -/
def normed (x : FVec F S16384x1024 .f32) (g : FVec F S4x1024 .f32) : FVec F S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast S1024 (extractStridedSlice S1x1024 ![0, 0] g slices_S4x1024_S1x1024_0_0) shapeCasts_S1x1024_S1024)))

/-- The hidden rows before the gate. -/
def hidden (h : FVec F S16384x1024 .f32) (W : FVec F S4x1024x5632 .f32) : FVec F S16384x5632 .f32 :=
  Host.dotGeneral dot_S16384x1024_S1024x5632_S16384x5632_1_0_0_1_n_n none h (shapeCast S1024x5632 (extractStridedSlice S1x1024x5632 ![0, 0, 0] W slices_S4x1024x5632_S1x1024x5632_0_0_0) shapeCasts_S1x1024x5632_S1024x5632)

/-- The gated hidden rows. -/
def gated (u : FVec F S16384x5632 .f32) : FVec F S16384x2816 .f32 :=
  mulf (mulf (extractStridedSlice S16384x2816 ![0, 0] u slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] u slices_S16384x5632_S16384x2816_0_0)))))) (extractStridedSlice S16384x2816 ![0, 2816] u slices_S16384x5632_S16384x2816_0_2816)

/-- The rows and half of the gated rows' projection. -/
def closing (x : FVec F S16384x1024 .f32) (a : FVec F S16384x2816 .f32) (D : FVec F S4x2816x1024 .f32) : FVec F S16384x1024 .f32 :=
  addf x (mulf (broadcastInDim S16384x1024 ![] bcast_S_S16384x1024 (constant S_ .f32 0x3F000000#32)) (Host.dotGeneral dot_S16384x2816_S2816x1024_S16384x1024_1_0_0_1_n_n none a (shapeCast S2816x1024 (extractStridedSlice S1x2816x1024 ![0, 0, 0] D slices_S4x2816x1024_S1x2816x1024_0_0_0) shapeCasts_S1x2816x1024_S2816x1024)))

/-- The whole reference. -/
def whole (x : FVec F S16384x1024 .f32) (g : FVec F S4x1024 .f32) (W : FVec F S4x1024x5632 .f32) (D : FVec F S4x2816x1024 .f32) :
    FVec F S16384x1024 .f32 := closing x (gated (hidden (normed x g) W)) D

theorem whole_eq (m : (ℓ : Loc nD τ sig) → Buf (Elt F) ℓ) (c : Dev nD) : res_main_v27 m c
    = whole (m ((c.tc : Thread nD τ).loc main_arg0)) (m ((c.tc : Thread nD τ).loc main_arg1)) (m ((c.tc : Thread nD τ).loc main_arg2))
      (m ((c.tc : Thread nD τ).loc main_arg3)) := by
  unfold res_main_v27
  rfl

theorem normed_apply (x : FVec Ideal S16384x1024 .f32) (g : FVec Ideal S4x1024 .f32) (r : Fin 16384) (k : Fin 1024) :
    normed (F := Ideal) x g (ix2 r k) = norm (fun j => x (ix2 r j)) (fun j => g (ix2 (0 : Fin 4) j)) k := by
  pointwise [normed]
  rfl

theorem hidden_apply (h : FVec Ideal S16384x1024 .f32) (W : FVec Ideal S4x1024x5632 .f32) (r : Fin 16384) (j : Fin 5632) :
    hidden (F := Ideal) h W (ix2 r j) = lin (fun k => h (ix2 r k)) fun k => W (ix3 (0 : Fin 4) k j) := by
  pointwise [hidden]
  rfl

theorem gated_apply (u : FVec Ideal S16384x5632 .f32) (r : Fin 16384) (j : Fin 2816) :
    gated (F := Ideal) u (ix2 r j) = act (u (ix2 r (⟨j.val, by omega⟩ : Fin 5632))) (u (ix2 r (⟨2816 + j.val, by omega⟩ : Fin 5632))) := by
  pointwise [gated]
  rfl

theorem closing_apply (x : FVec Ideal S16384x1024 .f32) (a : FVec Ideal S16384x2816 .f32) (D : FVec Ideal S4x2816x1024 .f32)
    (r : Fin 16384) (c : Fin 1024) :
    closing (F := Ideal) x a D (ix2 r c)
      = x (ix2 r c) + Ideal.ofBits .f32 0x3F000000#32 * ∑ j : Fin 2816, a (ix2 r j) * D (ix3 (0 : Fin 4) j c) := by
  pointwise [closing]

theorem whole_apply (x : FVec Ideal S16384x1024 .f32) (g : FVec Ideal S4x1024 .f32) (W : FVec Ideal S4x1024x5632 .f32)
    (D : FVec Ideal S4x2816x1024 .f32) (r : Fin 16384) (c : Fin 1024) :
    whole (F := Ideal) x g W D (ix2 r c)
      = row (fun k => x (ix2 r k)) (fun k => g (ix2 (0 : Fin 4) k)) (fun k j => W (ix3 (0 : Fin 4) k j))
        (fun j c => D (ix3 (0 : Fin 4) j c)) c := by
  unfold whole row part
  rw [closing_apply]
  simp only [gated_apply, hidden_apply, normed_apply]

end Cert.Reference2Ideal.Steps

end
-- ==== Proof.Ffn.Meet.lean ====
module

public import proofs.«01_k».proof.Proof.Ffn.Array
public import proofs.«01_k».proof.Proof.Ffn.Steps

/-!
The feed-forward kernel's result array is the reference's.
-/

@[expose] public section

set_option maxRecDepth 16384
noncomputable section
open Idealize.ShloMosaic Idealize.ShloMosaic.TcCoe Idealize.SL.Sem
namespace Cert.Ffn

theorem core (x : FVec Ideal Kernel2Ideal.S16384x1024 .f32) (g : FVec Ideal Kernel2Ideal.S4x1024 .f32)
    (W : FVec Ideal Kernel2Ideal.S4x1024x5632 .f32) (D : FVec Ideal Kernel2Ideal.S4x2816x1024 .f32) :
    Kernel2Ideal.Tile.result x g W D = Reference2Ideal.Steps.whole (F := Ideal) x g W D := by
  funext y
  obtain ⟨r, c, rfl⟩ : ∃ (r : Fin 16384) (c : Fin 1024), y = ix2 r c := ⟨y 0, y 1, eq_ix2 y⟩
  exact (Reference2Ideal.Steps.whole_apply x g W D r c).symm

theorem arrays (m : (ℓ : Loc Kernel2Ideal.nD Kernel2Ideal.τ Kernel2Ideal.sig) → Buf (Elt Ideal) ℓ) (c : Dev Kernel2Ideal.nD) :
    (Kernel2Ideal.Gen.dats m 0 c).arrAt 4 Kernel2Ideal.cfg0.N
      = Reference2Ideal.Steps.whole (F := Ideal) (m ((c : Thread Kernel2Ideal.nD Kernel2Ideal.τ).loc Kernel2Ideal.main_arg0))
        (m ((c : Thread Kernel2Ideal.nD Kernel2Ideal.τ).loc Kernel2Ideal.main_arg1))
        (m ((c : Thread Kernel2Ideal.nD Kernel2Ideal.τ).loc Kernel2Ideal.main_arg2))
        (m ((c : Thread Kernel2Ideal.nD Kernel2Ideal.τ).loc Kernel2Ideal.main_arg3)) :=
  (Kernel2Ideal.Tile.array_eq m c).trans (core _ _ _ _)

end Cert.Ffn

end
-- ==== Proof.Merge.Spec.lean ====
module

public import proofs.«01_k».proof.Proof.Ffn.Spec

/-!
The merge of a layer's four branches, one row at a time, in plain mathematics: normalise the row,
gate each branch's projection, add the four, and add their projection to the row.
-/

@[expose] public section

noncomputable section
open Idealize.ShloMosaic
namespace Cert.Merge

/-- A gated value of one branch: the gate's column and bias, the branch's row and its weight's column. -/
def gated (h w : Fin 1024 → EReal) (b : EReal) (y v : Fin 256 → EReal) : EReal :=
  Ideal.logistic (Cert.Ffn.lin h w + b) * ∑ k, y k * v k

/-- A gated value of branch `n` at place `d`. -/
def branch (h : Fin 1024 → EReal) (W : Fin 1024 → Fin 4096 → EReal) (b : Fin 4096 → EReal) (y : Fin 4 → Fin 256 → EReal)
    (B : Fin 4 → Fin 256 → Fin 1024 → EReal) (n : Fin 4) (d : Fin 1024) : EReal :=
  gated h (fun k => W k ⟨1024 * n.val + d.val, by omega⟩) (b ⟨1024 * n.val + d.val, by omega⟩) (y n) (fun k => B n k d)

/-- One value of the result. -/
def row (x g : Fin 1024 → EReal) (W : Fin 1024 → Fin 4096 → EReal) (b : Fin 4096 → EReal) (y : Fin 4 → Fin 256 → EReal)
    (B : Fin 4 → Fin 256 → Fin 1024 → EReal) (O : Fin 1024 → Fin 1024 → EReal) (c : Fin 1024) : EReal :=
  x c + ∑ d, (∑ n, branch (Cert.Ffn.norm x g) W b y B n d) * O d c

end Cert.Merge

end
-- ==== Proof.Merge.Tile.lean ====
module

public import proofs.«01_k».proof.Proof.Gen.Kernel3Ideal.Value
public import proofs.«01_k».proof.Proof.Merge.Spec
public import Idealize.ShloMosaic.Lib.Pipeline.ValueKit
public import Idealize.ShloMosaic.Lib.Pipeline.ReadBack

/-!
What the merge kernel's body computes at an index, and what it leaves in its output block.
-/

@[expose] public section

set_option maxRecDepth 16384
noncomputable section
open Idealize.ShloMosaic Idealize.ShloMosaic.TcCoe Idealize.SL.Sem
namespace Cert.Kernel3Ideal.Tile
open Cert.Kernel3Ideal Cert.Kernel3Ideal.Gen Cert.Ffn Cert.Merge

/-- One branch's gated block at an index, from the loaded pieces. -/
def at_ (h : FVec Ideal S512x1024 .bf16) (w : FVec Ideal S1x1024x1024 .bf16) (b : FVec Ideal S1x1x1024 .f32)
    (y : FVec Ideal S512x256 .f32) (v : FVec Ideal S1x1x256x1024 .bf16) (r : Fin 512) (d : Fin 1024) : EReal :=
  gated (fun k => h (ix2 r k)) (fun k => w (ix3 (0 : Fin 1) k d)) (b (ix3 (0 : Fin 1) (0 : Fin 1) d)) (fun k => y (ix2 r k))
    (fun k => v (ix4 (0 : Fin 1) (0 : Fin 1) k d))

theorem pay2_apply (x : FVec Ideal S512x1024 .f32) (g : FVec Ideal S1x1x1024 .f32) (r : Fin 512) (k : Fin 1024) :
    k0_pay2 (F := Ideal) x g (ix2 r k) = norm (fun j => x (ix2 r j)) (fun j => g (ix3 (0 : Fin 1) (0 : Fin 1) j)) k := by
  pointwise [k0_pay2]
  rfl

variable (x : FVec Ideal S512x1024 .f32) (g : FVec Ideal S1x1x1024 .f32) (h : FVec Ideal S512x1024 .bf16)
  (w w' : FVec Ideal S1x1024x1024 .bf16) (b b' : FVec Ideal S1x1x1024 .f32) (y y' : FVec Ideal S512x256 .f32)
  (v v' : FVec Ideal S1x1x256x1024 .bf16) (a : FVec Ideal S512x1024 .f32) (r : Fin 512) (d : Fin 1024)

theorem pay3_apply : k0_pay3 (F := Ideal) x g w b y v (ix2 r d) = at_ (k0_pay2 (F := Ideal) x g) w b y v r d := by
  unfold k0_pay3
  generalize k0_pay2 (F := Ideal) x g = h
  pointwise
  rfl

theorem pay4_apply : k0_pay4 (F := Ideal) h a w b y v w' b' y' v' (ix2 r d)
    = a (ix2 r d) + at_ h w b y v r d + at_ h w' b' y' v' r d := by
  pointwise [k0_pay4]
  rfl

theorem pay1_apply (o : FVec Ideal S1x1024x1024 .bf16) :
    k0_pay1 (F := Ideal) x h a (k0_pay5 (F := Ideal) w) (constant S512x1024 .f32 0x00000000#32) b y v o (ix2 r d)
      = x (ix2 r d) + ∑ k : Fin 1024, (a (ix2 r k) + at_ h w b y v r k) * o (ix3 (0 : Fin 1) k d) := by
  pointwise [k0_pay1, k0_pay5]
  rfl

end Cert.Kernel3Ideal.Tile

end
-- ==== Proof.Merge.Out.lean ====
module

public import proofs.«01_k».proof.Proof.Merge.Tile

/-!
What the merge kernel leaves in its output block at a grid point.
-/

@[expose] public section

set_option maxRecDepth 16384
noncomputable section
open Idealize.ShloMosaic Idealize.ShloMosaic.TcCoe Idealize.SL.Sem
namespace Cert.Kernel3Ideal.Tile
open Cert.Kernel3Ideal Cert.Kernel3Ideal.Gen Cert.Ffn Cert.Merge
variable {F : FTy → Type} [FloatOps F]

/-- A branch's columns of the gates' weight. -/
def colsOf (W : Vec F S1x1024x4096 .bf16) (off : Fin 3 → ℕ) (h : ∀ a, off a + S1x1024x1024.size a ≤ S1x1024x4096.size a) :
    Vec F S1x1024x1024 .bf16 := View.ld W (Rect.unit (s := S1x1024x4096) off S1x1024x1024.size h)

/-- A branch's part of the gates' bias. -/
def biasOf (b : Vec F S1x1x4096 .f32) (off : Fin 3 → ℕ) (h : ∀ a, off a + S1x1x1024.size a ≤ S1x1x4096.size a) :
    Vec F S1x1x1024 .f32 := View.ld b (Rect.unit (s := S1x1x4096) off S1x1x1024.size h)

/-- A branch's weight. -/
def pageOf (B : Vec F S1x4x256x1024 .bf16) (off : Fin 4 → ℕ) (h : ∀ a, off a + S1x1x256x1024.size a ≤ S1x4x256x1024.size a) :
    Vec F S1x1x256x1024 .bf16 := View.ld B (Rect.unit (s := S1x4x256x1024) off S1x1x256x1024.size h)

theorem out_eq (x0 : Vec F S512x1024 .f32) (x1 x2 x3 x4 : Vec F S512x256 .f32) (x5 : Vec F S1x1x1024 .f32)
    (x6 : Vec F S1x1024x4096 .bf16) (x7 : Vec F S1x1x4096 .f32) (x8 : Vec F S1x4x256x1024 .bf16) (x9 : Vec F S1x1024x1024 .bf16) :
    out0_10 x0 x1 x2 x3 x4 x5 x6 x7 x8 x9
      = k0_pay1 x0 (k0_pay2 x0 x5)
        (k0_pay4 (k0_pay2 x0 x5)
          (k0_pay3 x0 x5 (colsOf x6 ![0, 0, 0] inb_S1x1024x4096_S1x1024x1024_0_0_0) (biasOf x7 ![0, 0, 0] inb_S1x1x4096_S1x1x1024_0_0_0) x1
            (pageOf x8 ![0, 0, 0, 0] inb_S1x4x256x1024_S1x1x256x1024_0_0_0_0))
          (colsOf x6 ![0, 0, 1024] inb_S1x1024x4096_S1x1024x1024_0_0_1024) (biasOf x7 ![0, 0, 1024] inb_S1x1x4096_S1x1x1024_0_0_1024) x2
          (pageOf x8 ![0, 1, 0, 0] inb_S1x4x256x1024_S1x1x256x1024_0_1_0_0)
          (colsOf x6 ![0, 0, 2048] inb_S1x1024x4096_S1x1024x1024_0_0_2048) (biasOf x7 ![0, 0, 2048] inb_S1x1x4096_S1x1x1024_0_0_2048) x3
          (pageOf x8 ![0, 2, 0, 0] inb_S1x4x256x1024_S1x1x256x1024_0_2_0_0))
        (k0_pay5 (colsOf x6 ![0, 0, 3072] inb_S1x1024x4096_S1x1024x1024_0_0_3072)) (constant S512x1024 .f32 0x00000000#32)
        (biasOf x7 ![0, 0, 3072] inb_S1x1x4096_S1x1x1024_0_0_3072) x4 (pageOf x8 ![0, 3, 0, 0] inb_S1x4x256x1024_S1x1x256x1024_0_3_0_0) x9 := by
  unfold out0_10 k0_pay6
  frame_out
  rfl

theorem colsOf_apply (W : FVec Ideal S1x1024x4096 .bf16) (n : ℕ) (h : ∀ a, (![0, 0, n] : Fin 3 → ℕ) a + S1x1024x1024.size a ≤ S1x1024x4096.size a)
    (hn : n + 1024 ≤ 4096) (k j : Fin 1024) :
    colsOf (F := Ideal) W ![0, 0, n] h (ix3 (0 : Fin 1) k j) = W (ix3 (0 : Fin 1) k ⟨n + j.val, by omega⟩) := by
  unfold colsOf
  rw [View.ld_apply]
  refine congrArg W ?_
  funext a
  apply Fin.ext
  rw [Rect.idx_unit_val]
  match a with
  | 0 => show 0 + 0 = 0; rfl
  | 1 => show 0 + k.val = k.val; omega
  | 2 => rfl

theorem biasOf_apply (b : FVec Ideal S1x1x4096 .f32) (n : ℕ) (h : ∀ a, (![0, 0, n] : Fin 3 → ℕ) a + S1x1x1024.size a ≤ S1x1x4096.size a)
    (hn : n + 1024 ≤ 4096) (j : Fin 1024) :
    biasOf (F := Ideal) b ![0, 0, n] h (ix3 (0 : Fin 1) (0 : Fin 1) j) = b (ix3 (0 : Fin 1) (0 : Fin 1) ⟨n + j.val, by omega⟩) := by
  unfold biasOf
  rw [View.ld_apply]
  refine congrArg b ?_
  funext a
  apply Fin.ext
  rw [Rect.idx_unit_val]
  match a with
  | 0 => show 0 + 0 = 0; rfl
  | 1 => show 0 + 0 = 0; rfl
  | 2 => rfl

theorem pageOf_apply (B : FVec Ideal S1x4x256x1024 .bf16) (n : ℕ) (h : ∀ a, (![0, n, 0, 0] : Fin 4 → ℕ) a + S1x1x256x1024.size a ≤ S1x4x256x1024.size a)
    (hn : n < 4) (k : Fin 256) (j : Fin 1024) :
    pageOf (F := Ideal) B ![0, n, 0, 0] h (ix4 (0 : Fin 1) (0 : Fin 1) k j) = B (ix4 (0 : Fin 1) (⟨n, hn⟩ : Fin 4) k j) := by
  unfold pageOf
  rw [View.ld_apply]
  refine congrArg B ?_
  funext a
  apply Fin.ext
  rw [Rect.idx_unit_val]
  match a with
  | 0 => show 0 + 0 = 0; rfl
  | 1 => show n + 0 = n; rfl
  | 2 => show 0 + k.val = k.val; omega
  | 3 => show 0 + j.val = j.val; omega

theorem at_eq (h : FVec Ideal S512x1024 .bf16) (W : FVec Ideal S1x1024x4096 .bf16) (b : FVec Ideal S1x1x4096 .f32)
    (Y : Fin 4 → FVec Ideal S512x256 .f32) (B : FVec Ideal S1x4x256x1024 .bf16) (n o : ℕ) (hn : n < 4) (ho : o = 1024 * n) (hw) (hb) (hB)
    (r : Fin 512) (d : Fin 1024) :
    at_ h (colsOf (F := Ideal) W ![0, 0, o] hw) (biasOf (F := Ideal) b ![0, 0, o] hb) (Y ⟨n, hn⟩) (pageOf (F := Ideal) B ![0, n, 0, 0] hB) r d
      = branch (fun k => h (ix2 r k)) (fun k j => W (ix3 (0 : Fin 1) k j)) (fun j => b (ix3 (0 : Fin 1) (0 : Fin 1) j))
        (fun n k => Y n (ix2 r k)) (fun n k d => B (ix4 (0 : Fin 1) n k d)) ⟨n, hn⟩ d := by
  subst ho
  unfold at_ branch
  simp only [fun k => colsOf_apply W (1024 * n) hw (by omega) k d, biasOf_apply b (1024 * n) hb (by omega) d,
    fun k => pageOf_apply B n hB hn k d]

/-- A value of the output block, from the ten input blocks. -/
theorem block_apply (x : FVec Ideal S512x1024 .f32) (ya yb yc yd : FVec Ideal S512x256 .f32) (g : FVec Ideal S1x1x1024 .f32)
    (W : FVec Ideal S1x1024x4096 .bf16) (b : FVec Ideal S1x1x4096 .f32) (B : FVec Ideal S1x4x256x1024 .bf16) (O : FVec Ideal S1x1024x1024 .bf16)
    (r : Fin 512) (c : Fin 1024) :
    out0_10 (F := Ideal) x ya yb yc yd g W b B O (ix2 r c)
      = Cert.Merge.row (fun k => x (ix2 r k)) (fun k => g (ix3 (0 : Fin 1) (0 : Fin 1) k)) (fun k j => W (ix3 (0 : Fin 1) k j))
        (fun j => b (ix3 (0 : Fin 1) (0 : Fin 1) j)) (fun n k => (![ya, yb, yc, yd] : Fin 4 → FVec Ideal S512x256 .f32) n (ix2 r k))
        (fun n k d => B (ix4 (0 : Fin 1) n k d)) (fun d c => O (ix3 (0 : Fin 1) d c)) c := by
  rw [out_eq, pay1_apply]
  unfold Cert.Merge.row
  refine congrArg (fun z => x (ix2 r c) + z) (Finset.sum_congr rfl fun d _ => ?_)
  rw [pay4_apply, pay3_apply, Fin.sum_univ_four]
  have hn : (fun k => k0_pay2 (F := Ideal) x g (ix2 r k)) = norm (fun k => x (ix2 r k)) (fun k => g (ix3 (0 : Fin 1) (0 : Fin 1) k)) :=
    funext fun k => pay2_apply x g r k
  rw [← hn]
  refine congrArg (fun z => z * O (ix3 (0 : Fin 1) d c)) ?_
  refine congrArg₂ (· + ·) (congrArg₂ (· + ·) (congrArg₂ (· + ·) ?_ ?_) ?_) ?_
  · exact at_eq _ W b ![ya, yb, yc, yd] B 0 0 (by omega) rfl _ _ _ r d
  · exact at_eq _ W b ![ya, yb, yc, yd] B 1 1024 (by omega) rfl _ _ _ r d
  · exact at_eq _ W b ![ya, yb, yc, yd] B 2 2048 (by omega) rfl _ _ _ r d
  · exact at_eq _ W b ![ya, yb, yc, yd] B 3 3072 (by omega) rfl _ _ _ r d

end Cert.Kernel3Ideal.Tile

end
-- ==== Proof.Merge.Array.lean ====
module

public import proofs.«01_k».proof.Proof.Merge.Out

/-!
The merge kernel's result array, as a function of its arguments.
-/

@[expose] public section

set_option maxRecDepth 16384
noncomputable section
open Idealize.ShloMosaic Idealize.ShloMosaic.TcCoe Idealize.SL.Sem
namespace Cert.Kernel3Ideal.Tile
open Cert.Kernel3Ideal Cert.Kernel3Ideal.Gen

theorem idx_facts : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![0, 0, 0] ∧ win0_6.index t = ![0, 0, 0] ∧ win0_7.index t = ![0, 0, 0] ∧ win0_8.index t = ![0, 0, 0, 0] ∧ win0_9.index t = ![0, 0, 0] ∧ win0_10.index t = ![t.val, 0] :=
  (by decide +kernel : ∀ t : Fin grid0.N,
    win0_0.index t = ![t.val, 0] ∧ win0_1.index t = ![t.val, 0] ∧ win0_2.index t = ![t.val, 0] ∧ win0_3.index t = ![t.val, 0] ∧ win0_4.index t = ![t.val, 0] ∧ win0_5.index t = ![0, 0, 0] ∧ win0_6.index t = ![0, 0, 0] ∧ win0_7.index t = ![0, 0, 0] ∧ win0_8.index t = ![0, 0, 0, 0] ∧ win0_9.index t = ![0, 0, 0] ∧ win0_10.index t = ![t.val, 0])

theorem lt_32 (t : Fin cfg0.N) : t.val < 32 := lt_of_lt_of_eq t.isLt (show cfg0.N = 32 from N_0)

variable (m : (ℓ : Loc nD τ sig) → Buf (Elt Ideal) ℓ)

theorem iblk0_apply (c : Dev nD) (t : Fin cfg0.N) (r : Fin 512) (k : Fin 1024) :
    iblk m c 0 t (ix2 r k)
      = m ((c : Thread nD τ).loc main_arg0) (ix2 (⟨t.val * 512 + r.val, by have := lt_32 t; omega⟩ : Fin 16384) k) := by
  blk_ext [iblk, V, idx_facts t]

theorem iblk1_apply (c : Dev nD) (t : Fin cfg0.N) (r : Fin 512) (k : Fin 256) :
    iblk m c 1 t (ix2 r k)
      = m ((c : Thread nD τ).loc main_arg1) (ix2 (⟨t.val * 512 + r.val, by have := lt_32 t; omega⟩ : Fin 16384) k) := by
  blk_ext [iblk, V, idx_facts t]

theorem iblk2_apply (c : Dev nD) (t : Fin cfg0.N) (r : Fin 512) (k : Fin 256) :
    iblk m c 2 t (ix2 r k)
      = m ((c : Thread nD τ).loc main_arg2) (ix2 (⟨t.val * 512 + r.val, by have := lt_32 t; omega⟩ : Fin 16384) k) := by
  blk_ext [iblk, V, idx_facts t]

theorem iblk3_apply (c : Dev nD) (t : Fin cfg0.N) (r : Fin 512) (k : Fin 256) :
    iblk m c 3 t (ix2 r k)
      = m ((c : Thread nD τ).loc main_arg3) (ix2 (⟨t.val * 512 + r.val, by have := lt_32 t; omega⟩ : Fin 16384) k) := by
  blk_ext [iblk, V, idx_facts t]

theorem iblk4_apply (c : Dev nD) (t : Fin cfg0.N) (r : Fin 512) (k : Fin 256) :
    iblk m c 4 t (ix2 r k)
      = m ((c : Thread nD τ).loc main_arg4) (ix2 (⟨t.val * 512 + r.val, by have := lt_32 t; omega⟩ : Fin 16384) k) := by
  blk_ext [iblk, V, idx_facts t]

theorem iblk5_apply (c : Dev nD) (t : Fin cfg0.N) (k : Fin 1024) :
    iblk m c 5 t (ix3 (0 : Fin 1) (0 : Fin 1) k) = m ((c : Thread nD τ).loc main_arg5) (ix2 (0 : Fin 4) k) := by
  unfold iblk
  blk_simp [idx_facts t]
  have e : (win0_5.blk t).view.emb (ix3 (0 : Fin 1) (0 : Fin 1) k) = ix3 (0 : Fin 4) (0 : Fin 1) k := by blk_ext [idx_facts t]
  rw [e]
  entry_read
  pointwise

theorem iblk6_apply (c : Dev nD) (t : Fin cfg0.N) (k : Fin 1024) (j : Fin 4096) :
    iblk m c 6 t (ix3 (0 : Fin 1) k j) = m ((c : Thread nD τ).loc main_arg6) (ix3 (0 : Fin 4) k j) := by
  unfold iblk
  blk_simp [idx_facts t]
  have e : (win0_6.blk t).view.emb (ix3 (0 : Fin 1) k j) = ix3 (0 : Fin 4) k j := by blk_ext [idx_facts t]
  rw [e]
  entry_read
  rfl

theorem iblk7_apply (c : Dev nD) (t : Fin cfg0.N) (k : Fin 4096) :
    iblk m c 7 t (ix3 (0 : Fin 1) (0 : Fin 1) k) = m ((c : Thread nD τ).loc main_arg7) (ix2 (0 : Fin 4) k) := by
  unfold iblk
  blk_simp [idx_facts t]
  have e : (win0_7.blk t).view.emb (ix3 (0 : Fin 1) (0 : Fin 1) k) = ix3 (0 : Fin 4) (0 : Fin 1) k := by blk_ext [idx_facts t]
  rw [e]
  entry_read
  pointwise

theorem iblk8_apply (c : Dev nD) (t : Fin cfg0.N) (n : Fin 4) (k : Fin 256) (d : Fin 1024) :
    iblk m c 8 t (ix4 (0 : Fin 1) n k d) = m ((c : Thread nD τ).loc main_arg8) (ix4 (0 : Fin 4) n k d) := by
  unfold iblk
  blk_simp [idx_facts t]
  have e : (win0_8.blk t).view.emb (ix4 (0 : Fin 1) n k d) = ix4 (0 : Fin 4) n k d := by blk_ext [idx_facts t]
  rw [e]
  entry_read
  rfl

theorem iblk9_apply (c : Dev nD) (t : Fin cfg0.N) (k d : Fin 1024) :
    iblk m c 9 t (ix3 (0 : Fin 1) k d) = m ((c : Thread nD τ).loc main_arg9) (ix3 (0 : Fin 4) k d) := by
  unfold iblk
  blk_simp [idx_facts t]
  have e : (win0_9.blk t).view.emb (ix3 (0 : Fin 1) k d) = ix3 (0 : Fin 4) k d := by blk_ext [idx_facts t]
  rw [e]
  entry_read
  rfl

/-- The result array from the ten argument arrays. -/
def result (x : FVec Ideal S16384x1024 .f32) (ya yb yc yd : FVec Ideal S16384x256 .f32) (g : FVec Ideal S4x1024 .f32)
    (W : FVec Ideal S4x1024x4096 .f32) (b : FVec Ideal S4x4096 .f32) (B : FVec Ideal S4x4x256x1024 .f32) (O : FVec Ideal S4x1024x1024 .f32) :
    FVec Ideal S16384x1024 .f32 := fun y =>
  Cert.Merge.row (fun k => x (ix2 (y 0) k)) (fun k => g (ix2 (0 : Fin 4) k)) (fun k j => W (ix3 (0 : Fin 4) k j))
    (fun j => b (ix2 (0 : Fin 4) j)) (fun n k => (![ya, yb, yc, yd] : Fin 4 → FVec Ideal S16384x256 .f32) n (ix2 (y 0) k))
    (fun n k d => B (ix4 (0 : Fin 4) n k d)) (fun d c => O (ix3 (0 : Fin 4) d c)) (y 1)

theorem branches_apply (c : Dev nD) (t : Fin cfg0.N) (r : Fin 512) (n : Fin 4) (k : Fin 256) :
    (![iblk m c 1 t, iblk m c 2 t, iblk m c 3 t, iblk m c 4 t] : Fin 4 → FVec Ideal S512x256 .f32) n (ix2 r k)
      = (![m ((c : Thread nD τ).loc main_arg1), m ((c : Thread nD τ).loc main_arg2), m ((c : Thread nD τ).loc main_arg3),
          m ((c : Thread nD τ).loc main_arg4)] : Fin 4 → FVec Ideal S16384x256 .f32) n
        (ix2 (⟨t.val * 512 + r.val, by have := lt_32 t; omega⟩ : Fin 16384) k) := by
  match n with
  | 0 => exact iblk1_apply m c t r k
  | 1 => exact iblk2_apply m c t r k
  | 2 => exact iblk3_apply m c t r k
  | 3 => exact iblk4_apply m c t r k

theorem out_apply (c : Dev nD) (t : Fin cfg0.N) (r : Fin 512) (k : Fin 1024) :
    out0_10 (F := Ideal) (iblk m c 0 t) (iblk m c 1 t) (iblk m c 2 t) (iblk m c 3 t) (iblk m c 4 t) (iblk m c 5 t) (iblk m c 6 t) (iblk m c 7 t)
        (iblk m c 8 t) (iblk m c 9 t) (ix2 r k)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
        (ix2 (⟨t.val * 512 + r.val, by have := lt_32 t; omega⟩ : Fin 16384) k) := by
  refine (block_apply _ _ _ _ _ _ _ _ _ _ r k).trans ?_
  simp only [iblk0_apply, branches_apply, iblk5_apply, iblk6_apply, iblk7_apply, iblk8_apply, iblk9_apply]
  rfl

theorem array_eq (c : Dev nD) : (dats m 0 c).arrAt 10 cfg0.N
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  blk_simp
  rw [after0_10]
  obtain ⟨r, k, rfl⟩ : ∃ (r : Fin 512) (k : Fin 1024), y = ix2 r k := ⟨y 0, y 1, eq_ix2 y⟩
  have e : (win0_10.blk t).view.emb (ix2 r k) = ix2 (⟨t.val * 512 + r.val, by have := lt_32 t; omega⟩ : Fin 16384) k := by
    blk_ext [idx_facts t]
  refine (out_apply m c t r k).trans ?_
  exact congrArg _ e.symm

end Cert.Kernel3Ideal.Tile

end
-- ==== Proof.Merge.Steps.lean ====
module

public import proofs.«01_k».proof.Proof.Gen.Reference3Ideal.Run
public import proofs.«01_k».proof.Proof.Merge.Spec
public import Idealize.ShloMosaic.Lib.Pipeline.ValueKit

/-!
The reference's merge in steps, read at an index.
-/

@[expose] public section

set_option maxRecDepth 16384
noncomputable section
open Idealize.ShloMosaic Idealize.ShloMosaic.TcCoe Idealize.SL.Sem
namespace Cert.Reference3Ideal.Steps
open Cert.Reference3Ideal Cert.Reference3Ideal.Gen Cert.Reference3Ideal.Value Cert.Ffn
variable {F : FTy → Type} [FloatOps F]

/-- The normalised rows. -/
def normed (x : FVec F S16384x1024 .f32) (g : FVec F S4x1024 .f32) : FVec F S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast S1024 (extractStridedSlice S1x1024 ![0, 0] g slices_S4x1024_S1x1024_0_0) shapeCasts_S1x1024_S1024)))

/-- The gates of the four branches side by side. -/
def gates (h : FVec F S16384x1024 .f32) (W : FVec F S4x1024x4096 .f32) (b : FVec F S4x4096 .f32) : FVec F S16384x4096 .f32 :=
  Host.divf (broadcastInDim S16384x4096 ![] bcast_S_S16384x4096 (constant S_ .f32 0x3F800000#32)) (addf (broadcastInDim S16384x4096 ![] bcast_S_S16384x4096 (constant S_ .f32 0x3F800000#32)) (Host.exp (Host.negf (addf (Host.dotGeneral dot_S16384x1024_S1024x4096_S16384x4096_1_0_0_1_n_n none h (shapeCast S1024x4096 (extractStridedSlice S1x1024x4096 ![0, 0, 0] W slices_S4x1024x4096_S1x1024x4096_0_0_0) shapeCasts_S1x1024x4096_S1024x4096)) (broadcastInDim S16384x4096 ![0, 1] bcast_S1x4096_S16384x4096_0_1 (broadcastInDim S1x4096 ![1] bcast_S4096_S1x4096_1 (shapeCast S4096 (extractStridedSlice S1x4096 ![0, 0] b slices_S4x4096_S1x4096_0_0) shapeCasts_S1x4096_S4096)))))))

/-- The four branches stacked. -/
def stacked (ya yb yc yd : FVec F S16384x256 .f32) : FVec F S16384x4x256 .f32 :=
  concatenate S16384x4x256 1 [⟨S16384x1x256, broadcastInDim S16384x1x256 ![0, 2] bcast_S16384x256_S16384x1x256_0_2 ya⟩, ⟨S16384x1x256, broadcastInDim S16384x1x256 ![0, 2] bcast_S16384x256_S16384x1x256_0_2 yb⟩, ⟨S16384x1x256, broadcastInDim S16384x1x256 ![0, 2] bcast_S16384x256_S16384x1x256_0_2 yc⟩, ⟨S16384x1x256, broadcastInDim S16384x1x256 ![0, 2] bcast_S16384x256_S16384x1x256_0_2 yd⟩] concatenates_S16384x1x256_S16384x1x256_S16384x1x256_S16384x1x256_S16384x4x256_d1

/-- The branches' projections. -/
def projected (Y : FVec F S16384x4x256 .f32) (B : FVec F S4x4x256x1024 .f32) : FVec F S16384x4x1024 .f32 :=
  transpose S16384x4x1024 [2, 0, 1] (Host.dotGeneral dot_S4x256x1024_S16384x4x256_S4x1024x16384_1_2_2_0_0_1 none (shapeCast S4x256x1024 (extractStridedSlice S1x4x256x1024 ![0, 0, 0, 0] B slices_S4x4x256x1024_S1x4x256x1024_0_0_0_0) shapeCasts_S1x4x256x1024_S4x256x1024) Y) transposes_S4x1024x16384_S16384x4x1024_2_0_1

/-- The gated projections added. -/
def merged (G : FVec F S16384x4096 .f32) (P : FVec F S16384x4x1024 .f32) : FVec F S16384x1024 .f32 :=
  Host.reduceAdd (mulf (shapeCast S16384x4x1024 G shapeCasts_S16384x4096_S16384x4x1024) P) (constant S_ .f32 0x00000000#32) reducesTo_S16384x4x1024_S16384x1024_d1 h_S_

/-- The rows and the merged rows' projection. -/
def closing (x M : FVec F S16384x1024 .f32) (O : FVec F S4x1024x1024 .f32) : FVec F S16384x1024 .f32 :=
  addf x (Host.dotGeneral dot_S16384x1024_S1024x1024_S16384x1024_1_0_0_1_n_n none M (shapeCast S1024x1024 (extractStridedSlice S1x1024x1024 ![0, 0, 0] O slices_S4x1024x1024_S1x1024x1024_0_0_0) shapeCasts_S1x1024x1024_S1024x1024))

/-- The whole reference. -/
def whole (x : FVec F S16384x1024 .f32) (ya yb yc yd : FVec F S16384x256 .f32) (g : FVec F S4x1024 .f32) (W : FVec F S4x1024x4096 .f32)
    (b : FVec F S4x4096 .f32) (B : FVec F S4x4x256x1024 .f32) (O : FVec F S4x1024x1024 .f32) : FVec F S16384x1024 .f32 :=
  closing x (merged (gates (normed x g) W b) (projected (stacked ya yb yc yd) B)) O

theorem run_whole (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = whole (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) :=
  (θ_run defs _ _).mono (fun _ h c => h c) (run (F := F) m ρ)

theorem normed_apply (x : FVec Ideal S16384x1024 .f32) (g : FVec Ideal S4x1024 .f32) (r : Fin 16384) (k : Fin 1024) :
    normed (F := Ideal) x g (ix2 r k) = norm (fun j => x (ix2 r j)) (fun j => g (ix2 (0 : Fin 4) j)) k := by
  pointwise [normed]
  rfl

theorem gates_apply (h : FVec Ideal S16384x1024 .f32) (W : FVec Ideal S4x1024x4096 .f32) (b : FVec Ideal S4x4096 .f32)
    (r : Fin 16384) (j : Fin 4096) : gates (F := Ideal) h W b (ix2 r j)
      = Ideal.logistic (lin (fun k => h (ix2 r k)) (fun k => W (ix3 (0 : Fin 4) k j)) + b (ix2 (0 : Fin 4) j)) := by
  pointwise [gates]
  rfl

theorem widen_apply (y : FVec Ideal S16384x256 .f32) (r : Fin 16384) (k : Fin 256) :
    broadcastInDim S16384x1x256 ![0, 2] bcast_S16384x256_S16384x1x256_0_2 y (ix3 r (0 : Fin 1) k) = y (ix2 r k) := by
  pointwise

theorem place (i : S16384x1x256.Idx) (r : Fin 16384) (k : Fin 256) (h0 : (i 0).val = r.val) (h1 : (i 1).val = 0) (h2 : (i 2).val = k.val) :
    i = ix3 r (0 : Fin 1) k := by
  funext a
  apply Fin.ext
  match a with
  | 0 => exact h0
  | 1 => exact h1
  | 2 => exact h2

theorem stacked_apply (ya yb yc yd : FVec Ideal S16384x256 .f32) (r : Fin 16384) (n : Fin 4) (k : Fin 256) :
    stacked (F := Ideal) ya yb yc yd (ix3 r n k) = (![ya, yb, yc, yd] : Fin 4 → FVec Ideal S16384x256 .f32) n (ix2 r k) := by
  unfold stacked
  concat_tiles i hi
  · obtain rfl : n = 0 := Fin.ext hi
    obtain rfl := place i r k hi0 hi1 hi2
    exact widen_apply ya r k
  · obtain rfl : n = 1 := Fin.ext hi
    obtain rfl := place i r k hi0 hi1 hi2
    exact widen_apply yb r k
  · obtain rfl : n = 2 := Fin.ext hi
    obtain rfl := place i r k hi0 hi1 hi2
    exact widen_apply yc r k
  · obtain rfl : n = 3 := Fin.ext hi
    obtain rfl := place i r k hi0 hi1 hi2
    exact widen_apply yd r k

theorem projected_apply (Y : FVec Ideal S16384x4x256 .f32) (B : FVec Ideal S4x4x256x1024 .f32) (r : Fin 16384) (n : Fin 4) (d : Fin 1024) :
    projected (F := Ideal) Y B (ix3 r n d) = ∑ k : Fin 256, Y (ix3 r n k) * B (ix4 (0 : Fin 4) n k d) := by
  pointwise [projected]
  exact Finset.sum_congr rfl fun k _ => mul_comm _ _

theorem merged_apply (G : FVec Ideal S16384x4096 .f32) (P : FVec Ideal S16384x4x1024 .f32) (r : Fin 16384) (d : Fin 1024) :
    merged (F := Ideal) G P (ix2 r d)
      = ∑ n : Fin 4, G (ix2 r (⟨1024 * n.val + d.val, by omega⟩ : Fin 4096)) * P (ix3 r n d) := by
  pointwise [merged]
  refine Finset.sum_congr rfl fun n _ => ?_
  have e : (⟨n.val * 1024 + d.val, by omega⟩ : Fin 4096) = ⟨1024 * n.val + d.val, by omega⟩ := Fin.ext (by
    show n.val * 1024 + d.val = 1024 * n.val + d.val
    omega)
  rw [e]

theorem closing_apply (x M : FVec Ideal S16384x1024 .f32) (O : FVec Ideal S4x1024x1024 .f32) (r : Fin 16384) (c : Fin 1024) :
    closing (F := Ideal) x M O (ix2 r c) = x (ix2 r c) + ∑ d : Fin 1024, M (ix2 r d) * O (ix3 (0 : Fin 4) d c) := by
  pointwise [closing]

theorem whole_apply (x : FVec Ideal S16384x1024 .f32) (ya yb yc yd : FVec Ideal S16384x256 .f32) (g : FVec Ideal S4x1024 .f32)
    (W : FVec Ideal S4x1024x4096 .f32) (b : FVec Ideal S4x4096 .f32) (B : FVec Ideal S4x4x256x1024 .f32) (O : FVec Ideal S4x1024x1024 .f32)
    (r : Fin 16384) (c : Fin 1024) :
    whole (F := Ideal) x ya yb yc yd g W b B O (ix2 r c)
      = Cert.Merge.row (fun k => x (ix2 r k)) (fun k => g (ix2 (0 : Fin 4) k)) (fun k j => W (ix3 (0 : Fin 4) k j))
        (fun j => b (ix2 (0 : Fin 4) j)) (fun n k => (![ya, yb, yc, yd] : Fin 4 → FVec Ideal S16384x256 .f32) n (ix2 r k))
        (fun n k d => B (ix4 (0 : Fin 4) n k d)) (fun d c => O (ix3 (0 : Fin 4) d c)) c := by
  unfold whole Cert.Merge.row Cert.Merge.branch Cert.Merge.gated
  rw [closing_apply]
  simp only [merged_apply, gates_apply, projected_apply, stacked_apply, normed_apply]

end Cert.Reference3Ideal.Steps

end
-- ==== Proof.Merge.Meet.lean ====
module

public import proofs.«01_k».proof.Proof.Merge.Array
public import proofs.«01_k».proof.Proof.Merge.Steps

/-!
The merge kernel's result array is the reference's.
-/

@[expose] public section

set_option maxRecDepth 16384
noncomputable section
open Idealize.ShloMosaic Idealize.ShloMosaic.TcCoe Idealize.SL.Sem
namespace Cert.Merge

theorem core (x : FVec Ideal Kernel3Ideal.S16384x1024 .f32) (ya yb yc yd : FVec Ideal Kernel3Ideal.S16384x256 .f32)
    (g : FVec Ideal Kernel3Ideal.S4x1024 .f32) (W : FVec Ideal Kernel3Ideal.S4x1024x4096 .f32) (b : FVec Ideal Kernel3Ideal.S4x4096 .f32)
    (B : FVec Ideal Kernel3Ideal.S4x4x256x1024 .f32) (O : FVec Ideal Kernel3Ideal.S4x1024x1024 .f32) :
    Kernel3Ideal.Tile.result x ya yb yc yd g W b B O = Reference3Ideal.Steps.whole (F := Ideal) x ya yb yc yd g W b B O := by
  funext y
  obtain ⟨r, c, rfl⟩ : ∃ (r : Fin 16384) (c : Fin 1024), y = ix2 r c := ⟨y 0, y 1, eq_ix2 y⟩
  exact (Reference3Ideal.Steps.whole_apply x ya yb yc yd g W b B O r c).symm

theorem arrays (m : (ℓ : Loc Kernel3Ideal.nD Kernel3Ideal.τ Kernel3Ideal.sig) → Buf (Elt Ideal) ℓ) (c : Dev Kernel3Ideal.nD) :
    (Kernel3Ideal.Gen.dats m 0 c).arrAt 10 Kernel3Ideal.cfg0.N
      = Reference3Ideal.Steps.whole (F := Ideal) (m ((c : Thread Kernel3Ideal.nD Kernel3Ideal.τ).loc Kernel3Ideal.main_arg0))
        (m ((c : Thread Kernel3Ideal.nD Kernel3Ideal.τ).loc Kernel3Ideal.main_arg1))
        (m ((c : Thread Kernel3Ideal.nD Kernel3Ideal.τ).loc Kernel3Ideal.main_arg2))
        (m ((c : Thread Kernel3Ideal.nD Kernel3Ideal.τ).loc Kernel3Ideal.main_arg3))
        (m ((c : Thread Kernel3Ideal.nD Kernel3Ideal.τ).loc Kernel3Ideal.main_arg4))
        (m ((c : Thread Kernel3Ideal.nD Kernel3Ideal.τ).loc Kernel3Ideal.main_arg5))
        (m ((c : Thread Kernel3Ideal.nD Kernel3Ideal.τ).loc Kernel3Ideal.main_arg6))
        (m ((c : Thread Kernel3Ideal.nD Kernel3Ideal.τ).loc Kernel3Ideal.main_arg7))
        (m ((c : Thread Kernel3Ideal.nD Kernel3Ideal.τ).loc Kernel3Ideal.main_arg8))
        (m ((c : Thread Kernel3Ideal.nD Kernel3Ideal.τ).loc Kernel3Ideal.main_arg9)) :=
  (Kernel3Ideal.Tile.array_eq m c).trans (core _ _ _ _ _ _ _ _ _ _)

end Cert.Merge

end
-- ==== Proof.Proj.Spec.lean ====
module

public import proofs.«01_k».proof.Proof.Ffn.Spec

/-!
The projections of a layer, one row at a time, in plain mathematics: normalise the row, multiply it by
the weight, normalise the heads of the queries and keys, and turn them by their place's angles.
-/

@[expose] public section

noncomputable section
open Idealize.ShloMosaic
namespace Cert.Proj
open Cert.Ffn

/-- The projected row, by column. -/
def cols (x g : Fin 1024 → EReal) (W : Fin 1024 → Fin 3840 → EReal) (c : ℕ) : EReal :=
  if h : c < 3840 then lin (norm x g) (fun k => W k ⟨c, h⟩) else 0

/-- The sum of squares of the head of place `c`. -/
def power (v : ℕ → EReal) (c : ℕ) : EReal := ∑ d : Fin 64, v (64 * (c / 64) + d.val) * v (64 * (c / 64) + d.val)

/-- The heads normalised. -/
def head (v G : ℕ → EReal) (c : ℕ) : EReal :=
  v c * Ideal.rsqrt (Ideal.div (power v c) (Ideal.ofBits .f32 0x42800000#32) + Ideal.ofBits .f32 0x358637BD#32) * G (c % 64)

/-- The heads turned, the first half of a head against its second. -/
def turned (v C S : ℕ → EReal) (c : ℕ) : EReal :=
  if c % 64 < 32 then v c * C (c % 32) - v (c + 32) * S (c % 32) else v c * C (c % 32) + v (c - 32) * S (c % 32)

/-- The angle of place `t` and pair `j`. -/
def angle (t j : ℕ) : EReal :=
  FloatOps.sitofp (F := Ideal) .f32 (BitVec.ofNat 32 t)
    * Ideal.exp (Ideal.div (Ideal.ofBits .f32 0xC1135D8E#32 * FloatOps.sitofp (F := Ideal) .f32 (BitVec.ofNat 32 j)) (Ideal.ofBits .f32 0x42000000#32))

/-- The cosines of place `t`. -/
def cosOf (t j : ℕ) : EReal := Ideal.cos (angle t j)

/-- The sines of place `t`. -/
def sinOf (t j : ℕ) : EReal := Ideal.sin (angle t j)

/-- Keys and values side by side: the keys normalised and turned, the values as they are. -/
def pair (v G C S : ℕ → EReal) (c : ℕ) : EReal := if c < 128 then turned (head v G) C S c else v c

/-- The part of a row from a column on. -/
def after (v : ℕ → EReal) (b c : ℕ) : EReal := v (b + c)

theorem sum_heads (n : ℕ) (f : ℕ → EReal) (a : ℕ) (ha : a < n) :
    ∑ j : Fin (n * 64), f j.val * (if j.val / 64 = a then 1 else 0) = ∑ d : Fin 64, f (64 * a + d.val) := by
  rw [← (finProdFinEquiv (m := n) (n := 64)).sum_comp, Fintype.sum_prod_type]
  rw [Finset.sum_eq_single (⟨a, ha⟩ : Fin n)]
  · refine Finset.sum_congr rfl fun d _ => ?_
    have e : (finProdFinEquiv ((⟨a, ha⟩ : Fin n), d)).val = 64 * a + d.val := by
      show d.val + 64 * a = _
      omega
    rw [e, if_pos (by omega), mul_one]
  · intro b _ hb
    refine Finset.sum_eq_zero fun d _ => ?_
    have e : (finProdFinEquiv (b, d)).val = d.val + 64 * b.val := rfl
    rw [e, if_neg ?_, mul_zero]
    intro h
    exact hb (Fin.ext (by show b.val = a; omega))
  · intro h
    exact absurd (Finset.mem_univ _) h

theorem scale_word : Ideal.ofBits .f32 0x3C800000#32 = (((1 / 64 : ℝ)) : EReal) := by
  simp [Ideal.ofBits, Ideal.ieee, -EReal.coe_mul, -EReal.coe_neg]; norm_num

theorem width_word : Ideal.ofBits .f32 0x42800000#32 = ((64 : ℝ) : EReal) := by
  simp [Ideal.ofBits, Ideal.ieee, -EReal.coe_mul, -EReal.coe_neg]; norm_num

/-- A mean taken as a product with a reciprocal. -/
theorem mean_eq (s : EReal) : s * Ideal.ofBits .f32 0x3C800000#32 = Ideal.div s (Ideal.ofBits .f32 0x42800000#32) := by
  rw [scale_word, width_word]
  unfold Ideal.div
  rw [if_neg (by norm_num), ← EReal.coe_inv]
  norm_num

theorem sub_self_coe (a : ℝ) : (a : EReal) - (a : EReal) = 0 := by
  rw [← EReal.coe_sub, sub_self]; rfl

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem thousand_word : Ideal.ofBits .f32 0x44800000#32 = ((1024 : ℝ) : EReal) := by
  simp [Ideal.ofBits, Ideal.ieee, -EReal.coe_mul, -EReal.coe_neg]; norm_num

theorem tiny_word : ∃ e : ℝ, 0 < e ∧ Ideal.ofBits .f32 0x358637BD#32 = (e : EReal) := by
  refine ⟨_, ?_, by simp [Ideal.ofBits, Ideal.ieee, -EReal.coe_mul, -EReal.coe_neg]; rfl⟩
  positivity

theorem inv_real (s : ℝ) (hs : 0 ≤ s) : ∃ y : ℝ, Cert.Ffn.inv (s : EReal) = (y : EReal) := by
  obtain ⟨e, he, hw⟩ := tiny_word
  unfold Cert.Ffn.inv
  rw [thousand_word, hw]
  unfold Ideal.div
  rw [if_neg (by norm_num), ← EReal.coe_inv, ← EReal.coe_mul, ← EReal.coe_add, Ideal.rsqrt_coe]
  have hp : 0 < s * (1024 : ℝ)⁻¹ + e := by positivity
  rw [if_neg (by linarith), if_neg hp.ne']
  exact ⟨_, rfl⟩

theorem square_nonneg (a : EReal) : 0 ≤ a * a := by
  induction a using EReal.rec with
  | bot => rw [EReal.bot_mul_bot]; exact le_top
  | top => rw [EReal.top_mul_top]; exact le_top
  | coe a => rw [← EReal.coe_mul]; exact EReal.coe_nonneg.mpr (mul_self_nonneg a)

theorem inv_top : Cert.Ffn.inv ⊤ = 0 := by
  obtain ⟨e, he, hw⟩ := tiny_word
  unfold Cert.Ffn.inv
  rw [thousand_word, hw]
  unfold Ideal.div
  rw [if_neg (by norm_num), ← EReal.coe_inv, EReal.top_mul_coe_of_pos (by norm_num), EReal.top_add_coe]
  rfl

/-- A normalised row is real, whatever the row. -/
theorem norm_real (x g : Fin 1024 → EReal) (hg : ∀ k, ∃ y : ℝ, g k = (y : EReal)) (k : Fin 1024) :
    ∃ y : ℝ, Cert.Ffn.norm x g k = (y : EReal) := by
  unfold Cert.Ffn.norm
  by_cases hx : ∀ k, ∃ y : ℝ, x k = (y : EReal)
  · choose x' hx using hx
    obtain ⟨g', hg⟩ := hg k
    obtain ⟨y, hy⟩ := inv_real (∑ j, x' j * x' j) (Finset.sum_nonneg fun j _ => mul_self_nonneg _)
    have e : ∑ j, x j * x j = ((∑ j, x' j * x' j : ℝ) : EReal) := by
      rw [← coe_sum]
      exact Finset.sum_congr rfl fun j _ => by rw [hx, EReal.coe_mul]
    rw [e, hy, hx, hg]
    exact ⟨x' k * y * g', by rw [EReal.coe_mul, EReal.coe_mul]⟩
  · obtain ⟨i, hi⟩ := not_forall.mp hx
    have ht : x i * x i = ⊤ := by
      generalize x i = a at hi
      induction a using EReal.rec with
      | bot => exact EReal.bot_mul_bot
      | top => exact EReal.top_mul_top
      | coe a => exact absurd ⟨a, rfl⟩ hi
    have e : ∑ j, x j * x j = ⊤ := by
      refine top_le_iff.mp ?_
      rw [← ht]
      exact Finset.single_le_sum (f := fun j => x j * x j) (fun j _ => square_nonneg (x j)) (Finset.mem_univ i)
    rw [e, inv_top, mul_zero, zero_mul]
    exact ⟨0, rfl⟩

/-- A projected column is real where the gains and the weight's column are. -/
theorem cols_real (x g : Fin 1024 → EReal) (W : Fin 1024 → Fin 3840 → EReal) (hg : ∀ k, ∃ y : ℝ, g k = (y : EReal))
    (c : ℕ) (hW : ∀ (k : Fin 1024) (h : c < 3840), ∃ y : ℝ, W k ⟨c, h⟩ = (y : EReal)) : ∃ y : ℝ, cols x g W c = (y : EReal) := by
  unfold cols
  split
  · rename_i h
    choose n hn using norm_real x g hg
    choose w hw using fun k => hW k h
    refine ⟨∑ k, n k * w k, ?_⟩
    unfold lin
    rw [← coe_sum]
    exact Finset.sum_congr rfl fun k _ => by dsimp only; rw [hn, hw, EReal.coe_mul]
  · exact ⟨0, rfl⟩

/-- The columns of the queries and keys whose heads are normalised. -/
def Headed (j : ℕ) : Prop := (768 ≤ j ∧ j < 1024) ∨ (1280 ≤ j ∧ j < 1408) ∨ (1536 ≤ j ∧ j < 1664)

end Cert.Proj

end
-- ==== Proof.Proj.Tile.lean ====
module

public import proofs.«01_k».proof.Proof.Gen.Kernel4Ideal.Skeleton
public import proofs.«01_k».proof.Proof.Proj.Spec
public import Idealize.ShloMosaic.Lib.Pipeline.ValueKit
public import Idealize.ShloMosaic.Lib.Pointwise

/-!
What the projection kernel's body computes at an index.
-/

@[expose] public section

set_option maxRecDepth 16384
noncomputable section
open Idealize.ShloMosaic Idealize.ShloMosaic.TcCoe Idealize.SL.Sem
namespace Cert.Kernel4Ideal.Tile
open Cert.Kernel4Ideal Cert.Kernel4Ideal.Gen Cert.Ffn Cert.Proj

/-- The rows times 256 of the weight's columns. -/
def dot256 (h : FVec Ideal S512x1024 .bf16) (W : FVec Ideal S1x1024x256 .bf16) (r : Fin 512) (c : Fin 256) : EReal :=
  lin (fun k => h (ix2 r k)) (fun k => W (ix3 (0 : Fin 1) k c))

theorem pay1_apply (x : FVec Ideal S512x1024 .f32) (g : FVec Ideal S1x1x1024 .f32) (r : Fin 512) (k : Fin 1024) :
    k0_pay1 (F := Ideal) x g (ix2 r k) = norm (fun j => x (ix2 r j)) (fun j => g (ix3 (0 : Fin 1) (0 : Fin 1) j)) k := by
  pointwise [k0_pay1]
  rfl

variable (x : FVec Ideal S512x1024 .f32) (g : FVec Ideal S1x1x1024 .f32) (h : FVec Ideal S512x1024 .bf16)
  (w w' : FVec Ideal S1x1024x256 .bf16) (r : Fin 512) (c : Fin 256)

theorem pay4_apply : k0_pay4 (F := Ideal) x g w (ix2 r c) = dot256 (k0_pay1 (F := Ideal) x g) w r c := by
  unfold k0_pay4
  generalize k0_pay1 (F := Ideal) x g = h
  pointwise
  rfl

theorem pay5_apply (w : FVec Ideal S1x1024x512 .bf16) (c : Fin 512) : k0_pay5 (F := Ideal) x g w (ix2 r c)
    = lin (fun k => k0_pay1 (F := Ideal) x g (ix2 r k)) (fun k => w (ix3 (0 : Fin 1) k c)) := by
  unfold k0_pay5
  generalize k0_pay1 (F := Ideal) x g = h
  pointwise
  rfl

theorem pay8_apply : k0_pay8 (F := Ideal) h w (ix2 r c) = dot256 h w r c := by
  pointwise [k0_pay8]
  rfl

theorem pay12_apply : k0_pay12 (F := Ideal) h w (ix2 r c) = dot256 h w r c := by
  pointwise [k0_pay12]
  rfl

theorem pay15_apply : k0_pay15 (F := Ideal) h w (ix2 r c) = dot256 h w r c := by
  pointwise [k0_pay15]
  rfl

theorem pay14_apply (c : Fin 128) : k0_pay14 (F := Ideal) h w (ix2 r c) = dot256 h w r ⟨128 + c.val, by omega⟩ := by
  pointwise [k0_pay14, k0_pay12]
  rfl

theorem pay17_apply (c : Fin 128) : k0_pay17 (F := Ideal) h w (ix2 r c) = dot256 h w r ⟨128 + c.val, by omega⟩ := by
  pointwise [k0_pay17, k0_pay15]
  rfl

theorem pay18_apply (w : FVec Ideal S1x1024x768 .bf16) (c : Fin 768) : k0_pay18 (F := Ideal) h w (ix2 r c)
    = Ideal.logistic (lin (fun k => h (ix2 r k)) (fun k => w (ix3 (0 : Fin 1) k c))) := by
  pointwise [k0_pay18]
  rfl

theorem pay19_apply : k0_pay19 (F := Ideal) h w (ix2 r c) = dot256 h w r c := by
  pointwise [k0_pay19]
  rfl

theorem pay20_apply : k0_pay20 (F := Ideal) h w w' (ix2 r c) = dot256 h w r c * dot256 h w' r c := by
  pointwise [k0_pay20]
  rfl

theorem pay21_apply : k0_pay21 (F := Ideal) h w w' (ix2 r c) = dot256 h w r c * Ideal.logistic (dot256 h w' r c) := by
  pointwise [k0_pay21]
  rfl

end Cert.Kernel4Ideal.Tile

end
-- ==== Proof.Proj.Heads.lean ====
module

public import proofs.«01_k».proof.Proof.Proj.Tile

/-!
The heads as the projection kernel normalises and turns them.
-/

@[expose] public section

set_option maxRecDepth 16384
noncomputable section
open Idealize.ShloMosaic Idealize.ShloMosaic.TcCoe Idealize.SL.Sem
namespace Cert.Kernel4Ideal.Tile
open Cert.Kernel4Ideal Cert.Kernel4Ideal.Gen Cert.Ffn Cert.Proj

/-- Which half of its head a place is in, as the kernel computes it. -/
theorem half_word : ∀ c : Fin 256, IntOp.cmpi CmpIPredicate.slt (IntOp.andi (BitVec.ofNat 32 c.val) 63#32) 32#32 = 1#1 ↔ c.val % 64 < 32 := by
  decide +kernel

theorem half_select (c : ℕ) (hc : c < 256) (a b : EReal) :
    Scalar.select (IntOp.cmpi CmpIPredicate.slt (IntOp.andi (BitVec.ofNat 32 c) 63#32) 32#32) a b = if c % 64 < 32 then a else b := by
  by_cases e : c % 64 < 32
  · rw [(half_word ⟨c, hc⟩).mpr e, if_pos e]; rfl
  · rw [if_neg e]; exact if_neg fun e' => e ((half_word ⟨c, hc⟩).mp e')

variable (p : ℕ → ℝ)

theorem head_of (n : ℕ) (c : ℕ) (hc : c < n * 64) (v G : ℕ → EReal) (hv : ∀ j < n * 64, v j = (p j : EReal)) :
    v c * Ideal.rsqrt (((∑ j : Fin (n * 64), v j.val * v j.val * (if j.val / 64 = c / 64 then 1 else 0))
      + ∑ j : Fin (n * 64), (v j.val * v j.val - v j.val * v j.val) * (if j.val / 64 = c / 64 then 1 else 0))
        * Ideal.ofBits .f32 0x3C800000#32 + Ideal.ofBits .f32 0x358637BD#32) * G (c % 64) = head v G c := by
  have e0 : ∑ j : Fin (n * 64), (v j.val * v j.val - v j.val * v j.val) * (if j.val / 64 = c / 64 then (1 : EReal) else 0) = 0 := by
    refine Finset.sum_eq_zero fun j _ => ?_
    rw [hv _ j.isLt, ← EReal.coe_mul, sub_self_coe, zero_mul]
  rw [e0, add_zero, mean_eq, sum_heads n (fun j => v j * v j) (c / 64) (by omega)]
  rfl

/-- The heads of 256 columns normalised, from the columns. -/
def norm256 {F : FTy → Type} [FloatOps F] (X : FVec F S512x256 .f32) (bd : FVec F S256x256 .bf16) (g : FVec F S1x1x256 .f32) : FVec F S512x256 .f32 :=
  have hi : FVec F S512x256 .bf16 := truncf .bf16 (mulf X X) bitsLt_bf16_f32
  mulf (mulf X (rsqrt (addf (mulf (addf (matmul dot_S512x256_S256x256_S512x256_1_0_0_1_n_n none hi bd (constant S512x256 .f32 0x00000000#32))
    (matmul dot_S512x256_S256x256_S512x256_1_0_0_1_n_n none (truncf .bf16 (subf (mulf X X) (extf .f32 hi bitsLt_bf16_f32)) bitsLt_bf16_f32) bd (constant S512x256 .f32 0x00000000#32)))
    (broadcast S512x256 (Scalar.ofBits .f32 0x3C800000#32))) (broadcast S512x256 (Scalar.ofBits .f32 0x358637BD#32)))))
    (broadcastTo S512x256 (shapeCast S1x256 g shapeCasts_S1x1x256_S1x256) broadcasts_S1x256_S512x256)

/-- The heads of 128 columns normalised, from the columns. -/
def norm128 {F : FTy → Type} [FloatOps F] (X : FVec F S512x128 .f32) (bd : FVec F S128x128 .bf16) (g : FVec F S1x1x128 .f32) : FVec F S512x128 .f32 :=
  have hi : FVec F S512x128 .bf16 := truncf .bf16 (mulf X X) bitsLt_bf16_f32
  mulf (mulf X (rsqrt (addf (mulf (addf (matmul dot_S512x128_S128x128_S512x128_1_0_0_1_n_n none hi bd (constant S512x128 .f32 0x00000000#32))
    (matmul dot_S512x128_S128x128_S512x128_1_0_0_1_n_n none (truncf .bf16 (subf (mulf X X) (extf .f32 hi bitsLt_bf16_f32)) bitsLt_bf16_f32) bd (constant S512x128 .f32 0x00000000#32)))
    (broadcast S512x128 (Scalar.ofBits .f32 0x3C800000#32))) (broadcast S512x128 (Scalar.ofBits .f32 0x358637BD#32)))))
    (broadcastTo S512x128 (shapeCast S1x128 g shapeCasts_S1x1x128_S1x128) broadcasts_S1x128_S512x128)

/-- The heads of 256 columns turned. -/
def turn256 {F : FTy → Type} [FloatOps F] (v C S : FVec F S512x256 .f32) : FVec F S512x256 .f32 :=
  addf (mulf v C) (mulf (select (cmpi .slt (andi (iota .tc S512x256 32 [1] iota_S512x256_d1_w32) (broadcast S512x256 63#32)) (broadcast S512x256 32#32))
    (dynamicRotate 1 224#32 none v rotates_S512x256_d1) (dynamicRotate 1 32#32 none v rotates_S512x256_d1)) S)

/-- The heads of 128 columns turned. -/
def turn128 {F : FTy → Type} [FloatOps F] (v C S : FVec F S512x128 .f32) : FVec F S512x128 .f32 :=
  addf (mulf v C) (mulf (select (cmpi .slt (andi (iota .tc S512x128 32 [1] iota_S512x128_d1_w32) (broadcast S512x128 63#32)) (broadcast S512x128 32#32))
    (dynamicRotate 1 96#32 none v rotates_S512x128_d1) (dynamicRotate 1 32#32 none v rotates_S512x128_d1)) S)

theorem norm256_apply (X : FVec Ideal S512x256 .f32) (bd : FVec Ideal S256x256 .bf16) (g : FVec Ideal S1x1x256 .f32) (r : Fin 512)
    (v G : ℕ → EReal) (hv : ∀ j < 256, v j = (p j : EReal)) (hX : ∀ c : Fin 256, X (ix2 r c) = v c.val)
    (hb : ∀ j c : Fin 256, bd (ix2 j c) = if j.val / 64 = c.val / 64 then 1 else 0)
    (hg : ∀ c : Fin 256, g (ix3 (0 : Fin 1) (0 : Fin 1) c) = G (c.val % 64)) (c : Fin 256) :
    norm256 (F := Ideal) X bd g (ix2 r c) = head v G c.val := by
  refine Eq.trans ?_ (head_of p 4 c.val c.isLt v G hv)
  pointwise [norm256]
  simp only [hX, hb, hg]

theorem norm128_apply (X : FVec Ideal S512x128 .f32) (bd : FVec Ideal S128x128 .bf16) (g : FVec Ideal S1x1x128 .f32) (r : Fin 512)
    (v G : ℕ → EReal) (hv : ∀ j < 128, v j = (p j : EReal)) (hX : ∀ c : Fin 128, X (ix2 r c) = v c.val)
    (hb : ∀ j c : Fin 128, bd (ix2 j c) = if j.val / 64 = c.val / 64 then 1 else 0)
    (hg : ∀ c : Fin 128, g (ix3 (0 : Fin 1) (0 : Fin 1) c) = G (c.val % 64)) (c : Fin 128) :
    norm128 (F := Ideal) X bd g (ix2 r c) = head v G c.val := by
  refine Eq.trans ?_ (head_of p 2 c.val c.isLt v G hv)
  pointwise [norm128]
  simp only [hX, hb, hg]

theorem turned_of (v : ℕ → EReal) (a b s C : EReal) (D S : ℕ → EReal) (c : ℕ) (hC : C = D (c % 32)) (hs : s = if c % 64 < 32 then -(S (c % 32)) else S (c % 32))
    (ha : c % 64 < 32 → a = v (c + 32)) (hb : ¬ c % 64 < 32 → b = v (c - 32)) :
    v c * C + (if c % 64 < 32 then a else b) * s = turned v D S c := by
  unfold turned
  by_cases e : c % 64 < 32
  · rw [if_pos e, if_pos e, hs, if_pos e, ha e, hC, mul_neg, sub_eq_add_neg]
  · rw [if_neg e, if_neg e, hs, if_neg e, hb e, hC]

theorem turn256_apply (q C S : FVec Ideal S512x256 .f32) (r : Fin 512) (v D E : ℕ → EReal) (hq : ∀ c : Fin 256, q (ix2 r c) = v c.val)
    (hC : ∀ c : Fin 256, C (ix2 r c) = D (c.val % 32))
    (hS : ∀ c : Fin 256, S (ix2 r c) = if c.val % 64 < 32 then -(E (c.val % 32)) else E (c.val % 32)) (c : Fin 256) :
    turn256 (F := Ideal) q C S (ix2 r c) = turned v D E c.val := by
  pointwise [turn256]
  simp only [hq]
  rw [half_select c.val c.isLt]
  refine turned_of v _ _ _ _ D E c.val (hC c) (hS c) (fun e => congrArg v ?_) (fun e => congrArg v ?_)
  · have := c.isLt
    show (c.val + 256 - (224 + 0) % 256) % 256 = c.val + 32
    omega
  · have := c.isLt
    show (c.val + 256 - (32 + 0) % 256) % 256 = c.val - 32
    omega

theorem turn128_apply (q C S : FVec Ideal S512x128 .f32) (r : Fin 512) (v D E : ℕ → EReal) (hq : ∀ c : Fin 128, q (ix2 r c) = v c.val)
    (hC : ∀ c : Fin 128, C (ix2 r c) = D (c.val % 32))
    (hS : ∀ c : Fin 128, S (ix2 r c) = if c.val % 64 < 32 then -(E (c.val % 32)) else E (c.val % 32)) (c : Fin 128) :
    turn128 (F := Ideal) q C S (ix2 r c) = turned v D E c.val := by
  pointwise [turn128]
  simp only [hq]
  rw [half_select c.val (by omega)]
  refine turned_of v _ _ _ _ D E c.val (hC c) (hS c) (fun e => congrArg v ?_) (fun e => congrArg v ?_)
  · have := c.isLt
    show (c.val + 128 - (96 + 0) % 128) % 128 = c.val + 32
    omega
  · have := c.isLt
    show (c.val + 128 - (32 + 0) % 128) % 128 = c.val - 32
    omega

theorem pay6_eq {F : FTy → Type} [FloatOps F] (h : FVec F S512x1024 .bf16) (bd : FVec F S256x256 .bf16) (w : FVec F S1x1024x256 .bf16) (g : FVec F S1x1x256 .f32) :
    k0_pay6 h bd w g = norm256 (k0_pay8 h w) bd g := rfl

theorem pay7_eq {F : FTy → Type} [FloatOps F] (h : FVec F S512x1024 .bf16) (C S : FVec F S512x256 .f32) (bd : FVec F S256x256 .bf16) (w : FVec F S1x1024x256 .bf16) (g : FVec F S1x1x256 .f32) :
    k0_pay7 h C S bd w g = turn256 (k0_pay6 h bd w g) C S := rfl

theorem pay13_eq {F : FTy → Type} [FloatOps F] (h : FVec F S512x1024 .bf16) (C S : FVec F S512x256 .f32) (bd : FVec F S256x256 .bf16) (w : FVec F S1x1024x256 .bf16) (g : FVec F S1x1x128 .f32) :
    k0_pay13 h C S bd w g = turn128 (norm128 (extractStridedSlice S512x128 ![0, 0] (k0_pay12 h w) slices_S512x256_o0_0_S512x128) (k0_pay9 bd) g) (k0_pay10 C) (k0_pay11 S) := rfl

theorem pay16_eq {F : FTy → Type} [FloatOps F] (h : FVec F S512x1024 .bf16) (C S : FVec F S512x128 .f32) (bd : FVec F S128x128 .bf16) (w : FVec F S1x1024x256 .bf16) (g : FVec F S1x1x128 .f32) :
    k0_pay16 h bd C S w g = turn128 (norm128 (extractStridedSlice S512x128 ![0, 0] (k0_pay12 h w) slices_S512x256_o0_0_S512x128) bd g) C S := rfl

theorem pay9_apply (bd : FVec Ideal S256x256 .bf16) (j c : Fin 128) : k0_pay9 (F := Ideal) bd (ix2 j c) = bd (ix2 (⟨j.val, by omega⟩ : Fin 256) (⟨c.val, by omega⟩ : Fin 256)) := by
  pointwise [k0_pay9]

theorem pay10_apply (C : FVec Ideal S512x256 .f32) (r : Fin 512) (c : Fin 128) : k0_pay10 (F := Ideal) C (ix2 r c) = C (ix2 r (⟨c.val, by omega⟩ : Fin 256)) := by
  pointwise [k0_pay10]

theorem pay11_apply (C : FVec Ideal S512x256 .f32) (r : Fin 512) (c : Fin 128) : k0_pay11 (F := Ideal) C (ix2 r c) = C (ix2 r (⟨c.val, by omega⟩ : Fin 256)) := by
  pointwise [k0_pay11]

theorem first_apply (X : FVec Ideal S512x256 .f32) (r : Fin 512) (c : Fin 128) :
    extractStridedSlice S512x128 ![0, 0] X slices_S512x256_o0_0_S512x128 (ix2 r c) = X (ix2 r (⟨c.val, by omega⟩ : Fin 256)) := by
  pointwise

end Cert.Kernel4Ideal.Tile

end
-- ==== Proof.Proj.Out.lean ====
module

public import proofs.«01_k».proof.Proof.Gen.Kernel4Ideal.Value
public import proofs.«01_k».proof.Proof.Proj.Heads
public import Idealize.ShloMosaic.Lib.Pipeline.ReadBack

/-!
What the projection kernel leaves in its output blocks at a grid point.
-/

@[expose] public section

set_option maxRecDepth 16384
noncomputable section
open Idealize.ShloMosaic Idealize.ShloMosaic.TcCoe Idealize.SL.Sem
namespace Cert.Kernel4Ideal.Tile
open Cert.Kernel4Ideal Cert.Kernel4Ideal.Gen Cert.Ffn Cert.Proj

section
variable {F : FTy → Type} [FloatOps F]

/-- 256 of the weight's columns. -/
def colsOf (W : Vec F S1x1024x3840 .bf16) (n : ℕ) (h : ∀ a, (![0, 0, n] : Fin 3 → ℕ) a + S1x1024x256.size a ≤ S1x1024x3840.size a) :
    Vec F S1x1024x256 .bf16 := View.ld W (Rect.unit (s := S1x1024x3840) ![0, 0, n] S1x1024x256.size h)

/-- 512 of the weight's columns. -/
def colsOf512 (W : Vec F S1x1024x3840 .bf16) (n : ℕ) (h : ∀ a, (![0, 0, n] : Fin 3 → ℕ) a + S1x1024x512.size a ≤ S1x1024x3840.size a) :
    Vec F S1x1024x512 .bf16 := View.ld W (Rect.unit (s := S1x1024x3840) ![0, 0, n] S1x1024x512.size h)

/-- 768 of the weight's columns. -/
def colsOf768 (W : Vec F S1x1024x3840 .bf16) (n : ℕ) (h : ∀ a, (![0, 0, n] : Fin 3 → ℕ) a + S1x1024x768.size a ≤ S1x1024x3840.size a) :
    Vec F S1x1024x768 .bf16 := View.ld W (Rect.unit (s := S1x1024x3840) ![0, 0, n] S1x1024x768.size h)

variable (m : (ℓ : Loc nD τ sig) → Buf (Elt F) ℓ)

theorem out8_eq (c : Dev nD) (t : Fin cfg0.N) : (outsAt0 m c t).1 = k0_pay4 (iblk m c 0 t) (iblk m c 1 t) (colsOf (iblk m c 2 t) 0 inb_S1x1024x3840_S1x1024x256_0_0_0) := by
  unfold outsAt0
  frame_out
  rfl

theorem out9_eq (c : Dev nD) (t : Fin cfg0.N) : (outsAt0 m c t).2.1 = k0_pay5 (iblk m c 0 t) (iblk m c 1 t) (colsOf512 (iblk m c 2 t) 256 inb_S1x1024x3840_S1x1024x512_0_0_256) := by
  unfold outsAt0
  frame_out
  rfl

theorem out10_eq (c : Dev nD) (t : Fin cfg0.N) : (outsAt0 m c t).2.2.1 = k0_pay6 (k0_pay1 (iblk m c 0 t) (iblk m c 1 t)) (iblk m c 7 t) (colsOf (iblk m c 2 t) 768 inb_S1x1024x3840_S1x1024x256_0_0_768) (iblk m c 5 t) := by
  unfold outsAt0
  frame_out
  rfl

theorem out11_eq (c : Dev nD) (t : Fin cfg0.N) : (outsAt0 m c t).2.2.2.1 = k0_pay7 (k0_pay1 (iblk m c 0 t) (iblk m c 1 t)) (k0_pay2 (iblk m c 3 t)) (k0_pay3 (iblk m c 4 t)) (iblk m c 7 t) (colsOf (iblk m c 2 t) 768 inb_S1x1024x3840_S1x1024x256_0_0_768) (iblk m c 5 t) := by
  unfold outsAt0
  frame_out
  rfl

theorem out12_eq (c : Dev nD) (t : Fin cfg0.N) : (outsAt0 m c t).2.2.2.2.1 = k0_pay8 (k0_pay1 (iblk m c 0 t) (iblk m c 1 t)) (colsOf (iblk m c 2 t) 1024 inb_S1x1024x3840_S1x1024x256_0_0_1024) := by
  unfold outsAt0
  frame_out
  rfl

theorem out15_eq (c : Dev nD) (t : Fin cfg0.N) : (outsAt0 m c t).2.2.2.2.2.2.2.1 = k0_pay18 (k0_pay1 (iblk m c 0 t) (iblk m c 1 t)) (colsOf768 (iblk m c 2 t) 1792 inb_S1x1024x3840_S1x1024x768_0_0_1792) := by
  unfold outsAt0
  frame_out
  rfl

theorem out16_eq (c : Dev nD) (t : Fin cfg0.N) : (outsAt0 m c t).2.2.2.2.2.2.2.2.1 = k0_pay19 (k0_pay1 (iblk m c 0 t) (iblk m c 1 t)) (colsOf (iblk m c 2 t) 2560 inb_S1x1024x3840_S1x1024x256_0_0_2560) := by
  unfold outsAt0
  frame_out
  rfl

theorem out17_eq (c : Dev nD) (t : Fin cfg0.N) : (outsAt0 m c t).2.2.2.2.2.2.2.2.2.1 = k0_pay20 (k0_pay1 (iblk m c 0 t) (iblk m c 1 t)) (colsOf (iblk m c 2 t) 2816 inb_S1x1024x3840_S1x1024x256_0_0_2816) (colsOf (iblk m c 2 t) 3072 inb_S1x1024x3840_S1x1024x256_0_0_3072) := by
  unfold outsAt0
  frame_out
  rfl

theorem out18_eq (c : Dev nD) (t : Fin cfg0.N) : (outsAt0 m c t).2.2.2.2.2.2.2.2.2.2.1 = k0_pay21 (k0_pay1 (iblk m c 0 t) (iblk m c 1 t)) (colsOf (iblk m c 2 t) 3328 inb_S1x1024x3840_S1x1024x256_0_0_3328) (colsOf (iblk m c 2 t) 3584 inb_S1x1024x3840_S1x1024x256_0_0_3584) := by
  unfold outsAt0
  frame_out
  rfl

theorem out19_eq (c : Dev nD) (t : Fin cfg0.N) : (outsAt0 m c t).2.2.2.2.2.2.2.2.2.2.2.1 = k0_pay22 (outsAt0 m c t).2.1 := by
  unfold outsAt0
  frame_out

theorem out20_eq (c : Dev nD) (t : Fin cfg0.N) : (outsAt0 m c t).2.2.2.2.2.2.2.2.2.2.2.2.1 = k0_pay23 (outsAt0 m c t).2.2.2.2.1 := by
  unfold outsAt0
  frame_out

end

end Cert.Kernel4Ideal.Tile

end
-- ==== Proof.Proj.OutKv.lean ====
module

public import proofs.«01_k».proof.Proof.Proj.Out

/-!
What the projection kernel leaves in its blocks of keys beside values, and in its transposed blocks.
-/

@[expose] public section

set_option maxRecDepth 16384
noncomputable section
open Idealize.ShloMosaic Idealize.ShloMosaic.TcCoe Idealize.SL.Sem
namespace Cert.Kernel4Ideal.Tile
open Cert.Kernel4Ideal Cert.Kernel4Ideal.Gen Cert.Ffn Cert.Proj

section
variable {F : FTy → Type} [FloatOps F] (m : (ℓ : Loc nD τ sig) → Buf (Elt F) ℓ)

theorem out13_eq (c : Dev nD) (t : Fin cfg0.N) (r : Fin 512) (j : Fin 256) : (outsAt0 m c t).2.2.2.2.2.1 (ix2 r j)
    = if h : j.val < 128 then k0_pay13 (k0_pay1 (iblk m c 0 t) (iblk m c 1 t)) (k0_pay2 (iblk m c 3 t)) (k0_pay3 (iblk m c 4 t)) (iblk m c 7 t) (colsOf (iblk m c 2 t) 1280 inb_S1x1024x3840_S1x1024x256_0_0_1280) (iblk m c 6 t) (ix2 r (⟨j.val, h⟩ : Fin 128))
      else k0_pay14 (k0_pay1 (iblk m c 0 t) (iblk m c 1 t)) (colsOf (iblk m c 2 t) 1280 inb_S1x1024x3840_S1x1024x256_0_0_1280) (ix2 r (⟨j.val - 128, by omega⟩ : Fin 128)) := by
  unfold outsAt0
  frame_out
  canon_tiles x hx
  · have e0 : r = x 0 := Fin.ext hx0
    have e1 : j.val = 128 + (x 1).val := hx1
    rw [dif_neg (by omega)]
    have e : x = ix2 r (⟨j.val - 128, by omega⟩ : Fin 128) := by
      refine (eq_ix2 x).trans (congrArg₂ ix2 e0.symm (Fin.ext ?_))
      show (x 1).val = j.val - 128
      omega
    refine (congrArg _ e).trans ?_
    rfl
  · have e0 : r = x 0 := Fin.ext hx0
    have e1 : j.val = (x 1).val := hx1
    have l1 : (x 1).val < 128 := (x 1).isLt
    rw [dif_pos (by omega)]
    have e : x = ix2 r (⟨j.val, by omega⟩ : Fin 128) := by
      exact (eq_ix2 x).trans (congrArg₂ ix2 e0.symm (Fin.ext e1.symm))
    refine (congrArg _ e).trans ?_
    rfl

theorem out14_eq (c : Dev nD) (t : Fin cfg0.N) (r : Fin 512) (j : Fin 256) : (outsAt0 m c t).2.2.2.2.2.2.1 (ix2 r j)
    = if h : j.val < 128 then k0_pay16 (k0_pay1 (iblk m c 0 t) (iblk m c 1 t)) (k0_pay9 (iblk m c 7 t)) (k0_pay10 (k0_pay2 (iblk m c 3 t))) (k0_pay11 (k0_pay3 (iblk m c 4 t))) (colsOf (iblk m c 2 t) 1536 inb_S1x1024x3840_S1x1024x256_0_0_1536) (iblk m c 6 t) (ix2 r (⟨j.val, h⟩ : Fin 128))
      else k0_pay17 (k0_pay1 (iblk m c 0 t) (iblk m c 1 t)) (colsOf (iblk m c 2 t) 1536 inb_S1x1024x3840_S1x1024x256_0_0_1536) (ix2 r (⟨j.val - 128, by omega⟩ : Fin 128)) := by
  unfold outsAt0
  frame_out
  canon_tiles x hx
  · have e0 : r = x 0 := Fin.ext hx0
    have e1 : j.val = 128 + (x 1).val := hx1
    rw [dif_neg (by omega)]
    have e : x = ix2 r (⟨j.val - 128, by omega⟩ : Fin 128) := by
      refine (eq_ix2 x).trans (congrArg₂ ix2 e0.symm (Fin.ext ?_))
      show (x 1).val = j.val - 128
      omega
    refine (congrArg _ e).trans ?_
    rfl
  · have e0 : r = x 0 := Fin.ext hx0
    have e1 : j.val = (x 1).val := hx1
    have l1 : (x 1).val < 128 := (x 1).isLt
    rw [dif_pos (by omega)]
    have e : x = ix2 r (⟨j.val, by omega⟩ : Fin 128) := by
      exact (eq_ix2 x).trans (congrArg₂ ix2 e0.symm (Fin.ext e1.symm))
    refine (congrArg _ e).trans ?_
    rfl

theorem out21_eq (c : Dev nD) (t : Fin cfg0.N) : (outsAt0 m c t).2.2.2.2.2.2.2.2.2.2.2.2.2.1 = k0_pay24 (outsAt0 m c t).2.2.2.2.2.1 := by
  unfold outsAt0
  frame_out
  refine congrArg _ ?_
  rw [View.readCov_eq_canon']
  funext j
  refine congrArg _ ?_
  show (Rect.unit (s := S512x256) ![0, 0] S512x256.size inb_S512x256_S512x256_0_0).idx j = j
  funext a
  apply Fin.ext
  rw [Rect.idx_unit_val]
  match a with
  | 0 => exact Nat.zero_add _
  | 1 => exact Nat.zero_add _

theorem out22_eq (c : Dev nD) (t : Fin cfg0.N) : (outsAt0 m c t).2.2.2.2.2.2.2.2.2.2.2.2.2.2 = k0_pay25 (outsAt0 m c t).2.2.2.2.2.2.1 := by
  unfold outsAt0
  frame_out
  refine congrArg _ ?_
  rw [View.readCov_eq_canon']
  funext j
  refine congrArg _ ?_
  show (Rect.unit (s := S512x256) ![0, 0] S512x256.size inb_S512x256_S512x256_0_0).idx j = j
  funext a
  apply Fin.ext
  rw [Rect.idx_unit_val]
  match a with
  | 0 => exact Nat.zero_add _
  | 1 => exact Nat.zero_add _

end

end Cert.Kernel4Ideal.Tile

end
-- ==== Proof.Proj.Table0.lean ====
module

public import proofs.«01_k».proof.Kernel4Ideal

/-!
The table of ones where two places share a head, entry by entry: rows 0 to 63.
-/

@[expose] public section

set_option maxRecDepth 16384
namespace Cert.Kernel4Ideal.Tile

theorem table_0 : ∀ (n : Fin 16) (c : Fin 256), lit0t (256 * (0 + n.val) + c.val) = if (0 + n.val) / 64 = c.val / 64 then 0x3F80#16 else 0x0000#16 := by
  decide +kernel

theorem table_16 : ∀ (n : Fin 16) (c : Fin 256), lit0t (256 * (16 + n.val) + c.val) = if (16 + n.val) / 64 = c.val / 64 then 0x3F80#16 else 0x0000#16 := by
  decide +kernel

theorem table_32 : ∀ (n : Fin 16) (c : Fin 256), lit0t (256 * (32 + n.val) + c.val) = if (32 + n.val) / 64 = c.val / 64 then 0x3F80#16 else 0x0000#16 := by
  decide +kernel

theorem table_48 : ∀ (n : Fin 16) (c : Fin 256), lit0t (256 * (48 + n.val) + c.val) = if (48 + n.val) / 64 = c.val / 64 then 0x3F80#16 else 0x0000#16 := by
  decide +kernel

end Cert.Kernel4Ideal.Tile
-- ==== Proof.Proj.Table1.lean ====
module

public import proofs.«01_k».proof.Kernel4Ideal

/-!
The table of ones where two places share a head, entry by entry: rows 64 to 127.
-/

@[expose] public section

set_option maxRecDepth 16384
namespace Cert.Kernel4Ideal.Tile

theorem table_64 : ∀ (n : Fin 16) (c : Fin 256), lit0t (256 * (64 + n.val) + c.val) = if (64 + n.val) / 64 = c.val / 64 then 0x3F80#16 else 0x0000#16 := by
  decide +kernel

theorem table_80 : ∀ (n : Fin 16) (c : Fin 256), lit0t (256 * (80 + n.val) + c.val) = if (80 + n.val) / 64 = c.val / 64 then 0x3F80#16 else 0x0000#16 := by
  decide +kernel

theorem table_96 : ∀ (n : Fin 16) (c : Fin 256), lit0t (256 * (96 + n.val) + c.val) = if (96 + n.val) / 64 = c.val / 64 then 0x3F80#16 else 0x0000#16 := by
  decide +kernel

theorem table_112 : ∀ (n : Fin 16) (c : Fin 256), lit0t (256 * (112 + n.val) + c.val) = if (112 + n.val) / 64 = c.val / 64 then 0x3F80#16 else 0x0000#16 := by
  decide +kernel

end Cert.Kernel4Ideal.Tile
-- ==== Proof.Proj.Table2.lean ====
module

public import proofs.«01_k».proof.Kernel4Ideal

/-!
The table of ones where two places share a head, entry by entry: rows 128 to 191.
-/

@[expose] public section

set_option maxRecDepth 16384
namespace Cert.Kernel4Ideal.Tile

theorem table_128 : ∀ (n : Fin 16) (c : Fin 256), lit0t (256 * (128 + n.val) + c.val) = if (128 + n.val) / 64 = c.val / 64 then 0x3F80#16 else 0x0000#16 := by
  decide +kernel

theorem table_144 : ∀ (n : Fin 16) (c : Fin 256), lit0t (256 * (144 + n.val) + c.val) = if (144 + n.val) / 64 = c.val / 64 then 0x3F80#16 else 0x0000#16 := by
  decide +kernel

theorem table_160 : ∀ (n : Fin 16) (c : Fin 256), lit0t (256 * (160 + n.val) + c.val) = if (160 + n.val) / 64 = c.val / 64 then 0x3F80#16 else 0x0000#16 := by
  decide +kernel

theorem table_176 : ∀ (n : Fin 16) (c : Fin 256), lit0t (256 * (176 + n.val) + c.val) = if (176 + n.val) / 64 = c.val / 64 then 0x3F80#16 else 0x0000#16 := by
  decide +kernel

end Cert.Kernel4Ideal.Tile
-- ==== Proof.Proj.Table3.lean ====
module

public import proofs.«01_k».proof.Kernel4Ideal

/-!
The table of ones where two places share a head, entry by entry: rows 192 to 255.
-/

@[expose] public section

set_option maxRecDepth 16384
namespace Cert.Kernel4Ideal.Tile

theorem table_192 : ∀ (n : Fin 16) (c : Fin 256), lit0t (256 * (192 + n.val) + c.val) = if (192 + n.val) / 64 = c.val / 64 then 0x3F80#16 else 0x0000#16 := by
  decide +kernel

theorem table_208 : ∀ (n : Fin 16) (c : Fin 256), lit0t (256 * (208 + n.val) + c.val) = if (208 + n.val) / 64 = c.val / 64 then 0x3F80#16 else 0x0000#16 := by
  decide +kernel

theorem table_224 : ∀ (n : Fin 16) (c : Fin 256), lit0t (256 * (224 + n.val) + c.val) = if (224 + n.val) / 64 = c.val / 64 then 0x3F80#16 else 0x0000#16 := by
  decide +kernel

theorem table_240 : ∀ (n : Fin 16) (c : Fin 256), lit0t (256 * (240 + n.val) + c.val) = if (240 + n.val) / 64 = c.val / 64 then 0x3F80#16 else 0x0000#16 := by
  decide +kernel

end Cert.Kernel4Ideal.Tile
-- ==== Proof.Proj.Table.lean ====
module

public import proofs.«01_k».proof.Proof.Proj.Table0
public import proofs.«01_k».proof.Proof.Proj.Table1
public import proofs.«01_k».proof.Proof.Proj.Table2
public import proofs.«01_k».proof.Proof.Proj.Table3

/-!
The table of ones where two places share a head, as the kernel holds it.
-/

@[expose] public section

set_option maxRecDepth 16384
namespace Cert.Kernel4Ideal.Tile

theorem table_row (T : ℕ → BitVec 16) (b : ℕ)
    (H : ∀ (n : Fin 16) (c : Fin 256), T (256 * (b + n.val) + c.val) = if (b + n.val) / 64 = c.val / 64 then 0x3F80#16 else 0x0000#16)
    (n c : Fin 256) (h1 : b ≤ n.val) (h2 : n.val < b + 16) :
    T (256 * n.val + c.val) = if n.val / 64 = c.val / 64 then 0x3F80#16 else 0x0000#16 := by
  have h := H ⟨n.val - b, by omega⟩ c
  dsimp only at h
  rw [Nat.add_sub_cancel' h1] at h
  exact h

theorem table_entry (n c : Fin 256) : lit0t (256 * n.val + c.val) = if n.val / 64 = c.val / 64 then 0x3F80#16 else 0x0000#16 := by
  by_cases h1 : n.val < 16
  · exact table_row lit0t 0 table_0 n c (by omega) (by omega)
  by_cases h2 : n.val < 32
  · exact table_row lit0t 16 table_16 n c (by omega) (by omega)
  by_cases h3 : n.val < 48
  · exact table_row lit0t 32 table_32 n c (by omega) (by omega)
  by_cases h4 : n.val < 64
  · exact table_row lit0t 48 table_48 n c (by omega) (by omega)
  by_cases h5 : n.val < 80
  · exact table_row lit0t 64 table_64 n c (by omega) (by omega)
  by_cases h6 : n.val < 96
  · exact table_row lit0t 80 table_80 n c (by omega) (by omega)
  by_cases h7 : n.val < 112
  · exact table_row lit0t 96 table_96 n c (by omega) (by omega)
  by_cases h8 : n.val < 128
  · exact table_row lit0t 112 table_112 n c (by omega) (by omega)
  by_cases h9 : n.val < 144
  · exact table_row lit0t 128 table_128 n c (by omega) (by omega)
  by_cases h10 : n.val < 160
  · exact table_row lit0t 144 table_144 n c (by omega) (by omega)
  by_cases h11 : n.val < 176
  · exact table_row lit0t 160 table_160 n c (by omega) (by omega)
  by_cases h12 : n.val < 192
  · exact table_row lit0t 176 table_176 n c (by omega) (by omega)
  by_cases h13 : n.val < 208
  · exact table_row lit0t 192 table_192 n c (by omega) (by omega)
  by_cases h14 : n.val < 224
  · exact table_row lit0t 208 table_208 n c (by omega) (by omega)
  by_cases h15 : n.val < 240
  · exact table_row lit0t 224 table_224 n c (by omega) (by omega)
  exact table_row lit0t 240 table_240 n c (by omega) (by omega)

end Cert.Kernel4Ideal.Tile
-- ==== Proof.Proj.Angles.lean ====
module

public import proofs.«01_k».proof.Proof.Gen.Kernel4Ideal.Skeleton
public import proofs.«01_k».proof.Proof.Proj.Table
public import proofs.«01_k».proof.Proof.Proj.Spec
public import Idealize.ShloMosaic.Lib.Pipeline.ValueKit
public import Idealize.ShloMosaic.Lib.Pointwise

/-!
The tables of cosines, of signed sines, and of ones that the projection kernel is given.
-/

@[expose] public section

set_option maxRecDepth 16384
noncomputable section
open Idealize.ShloMosaic Idealize.ShloMosaic.TcCoe Idealize.SL.Sem

namespace Cert.Kernel4Ideal.Tile
open Cert.Kernel4Ideal Cert.Kernel4Ideal.Gen Cert.Proj

/-- The angles. -/
def angles : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.exp (Host.divf (mulf (broadcastInDim S32 ![] bcast_S_S32 (constant S_ .f32 0xC1135D8E#32)) (sitofp .f32 (iotaInDim S32 32 0))) (broadcastInDim S32 ![] bcast_S_S32 (constant S_ .f32 0x42000000#32))))))

/-- Two halves repeated over the heads. -/
def tile (a b : FVec Ideal S2048x32 .f32) : FVec Ideal S2048x256 .f32 :=
  shapeCast S2048x256 (broadcastInDim S1x2048x4x64 ![0, 1, 2, 3] bcast_S1x2048x1x64_S1x2048x4x64_0_1_2_3 (shapeCast S1x2048x1x64 (concatenate S2048x64 1 [⟨S2048x32, a⟩, ⟨S2048x32, b⟩] concatenates_S2048x32_S2048x32_S2048x64_d1) shapeCasts_S2048x64_S1x2048x1x64)) shapeCasts_S1x2048x4x64_S2048x256

theorem angles_apply (t : Fin 2048) (j : Fin 32) : angles (ix2 t j) = angle t.val j.val := by
  pointwise [angles]
  rfl

theorem cat_apply (a b : FVec Ideal S2048x32 .f32) (t : Fin 2048) (c : Fin 64) :
    concatenate S2048x64 1 [⟨S2048x32, a⟩, ⟨S2048x32, b⟩] concatenates_S2048x32_S2048x32_S2048x64_d1 (ix2 t c)
      = if c.val < 32 then a (ix2 t (⟨c.val % 32, by omega⟩ : Fin 32)) else b (ix2 t (⟨c.val % 32, by omega⟩ : Fin 32)) := by
  pointwise
  by_cases h : c.val < 32
  · rw [dif_pos h, if_pos h]
    exact congrArg (fun z => a (ix2 t z)) (Fin.ext (Nat.mod_eq_of_lt h).symm)
  · rw [dif_neg h, if_neg h]
    refine congrArg (fun z => b (ix2 t z)) (Fin.ext ?_)
    show c.val - 32 = c.val % 32
    omega

theorem tile_apply (a b : FVec Ideal S2048x32 .f32) (t : Fin 2048) (c : Fin 256) :
    tile a b (ix2 t c) = if c.val % 64 < 32 then a (ix2 t (⟨c.val % 32, by omega⟩ : Fin 32)) else b (ix2 t (⟨c.val % 32, by omega⟩ : Fin 32)) := by
  have e : tile a b (ix2 t c) = concatenate S2048x64 1 [⟨S2048x32, a⟩, ⟨S2048x32, b⟩] concatenates_S2048x32_S2048x32_S2048x64_d1 (ix2 t (⟨c.val % 64, by omega⟩ : Fin 64)) := by
    unfold tile
    generalize concatenate S2048x64 1 [⟨S2048x32, a⟩, ⟨S2048x32, b⟩] concatenates_S2048x32_S2048x32_S2048x64_d1 = X
    pointwise
  rw [e, cat_apply]
  dsimp only
  simp only [Nat.mod_mod_of_dvd c.val (show 32 ∣ 64 by decide)]

theorem cos_apply (t : Fin 2048) (c : Fin 256) : tile (Host.cos angles) (Host.cos angles) (ix2 t c) = cosOf t.val (c.val % 32) := by
  rw [tile_apply, ite_self]
  exact congrArg Ideal.cos (angles_apply t _)

theorem sin_apply (t : Fin 2048) (c : Fin 256) : tile (Host.negf (Host.sin angles)) (Host.sin angles) (ix2 t c)
    = if c.val % 64 < 32 then -(sinOf t.val (c.val % 32)) else sinOf t.val (c.val % 32) := by
  rw [tile_apply]
  have e : ∀ j : Fin 32, Host.sin angles (ix2 t j) = sinOf t.val j.val := fun j => congrArg Ideal.sin (angles_apply t j)
  have e' : ∀ j : Fin 32, Host.negf (Host.sin angles) (ix2 t j) = -(sinOf t.val j.val) := fun j => congrArg (fun z : EReal => -z) (e j)
  rw [e, e']

/-- The table of ones where two places share a head. -/
def shared : FVec Ideal S256x256 .bf16 := fun i => FloatOps.ofBits (F := Ideal) .bf16 (lit0 (S256x256.rowMajor i))

theorem one_word : Ideal.ofBits .bf16 0x3F80#16 = (1 : EReal) := by
  have e : Ideal.ofBits .bf16 0x3F80#16 = ((1 : ℝ) : EReal) := by
    simp [Ideal.ofBits, Ideal.ieee, -EReal.coe_mul, -EReal.coe_neg]; norm_num
  rw [e, EReal.coe_one]

theorem zero_word : Ideal.ofBits .bf16 0x0000#16 = (0 : EReal) := by
  simp [Ideal.ofBits, Ideal.ieee, -EReal.coe_mul, -EReal.coe_neg]

theorem shared_apply (i j : Fin 256) : shared (ix2 i j) = if i.val / 64 = j.val / 64 then 1 else 0 := by
  have e : (S256x256.rowMajor (ix2 i j)).val = 256 * i.val + j.val := by
    refine (rowMajor_val2 _ 256 rfl).trans ?_
    show i.val * 256 + j.val = _
    omega
  have e' : shared (ix2 i j) = Ideal.ofBits .bf16 (lit0t (S256x256.rowMajor (ix2 i j)).val) := rfl
  rw [e', e, table_entry]
  by_cases h : i.val / 64 = j.val / 64
  · rw [if_pos h, if_pos h, one_word]
  · rw [if_neg h, if_neg h, zero_word]

/-- The four heads' gains, tiled from each head's. -/
def tiled4 (q : FVec Ideal S4x64 .f32) : FVec Ideal S4x1x256 .f32 :=
  shapeCast S4x1x256 (broadcastInDim S1x4x1x1x4x64 ![0, 1, 2, 3, 4, 5] bcast_S1x4x1x1x1x64_S1x4x1x1x4x64_0_1_2_3_4_5 (shapeCast S1x4x1x1x1x64 (shapeCast S4x1x64 q shapeCasts_S4x64_S4x1x64) shapeCasts_S4x1x64_S1x4x1x1x1x64)) shapeCasts_S1x4x1x1x4x64_S4x1x256

/-- The two heads' gains, tiled from each head's. -/
def tiled2 (q : FVec Ideal S4x64 .f32) : FVec Ideal S4x1x128 .f32 :=
  shapeCast S4x1x128 (broadcastInDim S1x4x1x1x2x64 ![0, 1, 2, 3, 4, 5] bcast_S1x4x1x1x1x64_S1x4x1x1x2x64_0_1_2_3_4_5 (shapeCast S1x4x1x1x1x64 (shapeCast S4x1x64 q shapeCasts_S4x64_S4x1x64) shapeCasts_S4x1x64_S1x4x1x1x1x64)) shapeCasts_S1x4x1x1x2x64_S4x1x128

theorem tiled4_apply (q : FVec Ideal S4x64 .f32) (c : Fin 256) :
    tiled4 q (ix3 (0 : Fin 4) (0 : Fin 1) c) = q (ix2 (0 : Fin 4) (⟨c.val % 64, by omega⟩ : Fin 64)) := by
  pointwise [tiled4]

theorem tiled2_apply (q : FVec Ideal S4x64 .f32) (c : Fin 128) :
    tiled2 q (ix3 (0 : Fin 4) (0 : Fin 1) c) = q (ix2 (0 : Fin 4) (⟨c.val % 64, by omega⟩ : Fin 64)) := by
  pointwise [tiled2]

end Cert.Kernel4Ideal.Tile

end
-- ==== Proof.Proj.Reads.lean ====
module

public import proofs.«01_k».proof.Proof.Gen.Kernel4Ideal.Value
public import proofs.«01_k».proof.Proof.Proj.Angles
public import Idealize.ShloMosaic.Lib.Pipeline.ReadBack

/-!
The blocks the projection kernel reads at a grid point, from the arguments.
-/

@[expose] public section

set_option maxRecDepth 16384
noncomputable section
open Idealize.ShloMosaic Idealize.ShloMosaic.TcCoe Idealize.SL.Sem

namespace Cert.Kernel4Ideal.Tile
open Cert.Kernel4Ideal Cert.Kernel4Ideal.Gen Cert.Proj

theorem idx_facts : ∀ t : Fin cfg0.N,
    win0_0.index t = ![t.val, 0] ∧ win0_1.index t = ![0, 0, 0] ∧ win0_2.index t = ![0, 0, 0] ∧ win0_3.index t = ![t.val % 4, 0] ∧ win0_4.index t = ![t.val % 4, 0] ∧ win0_5.index t = ![0, 0, 0] ∧ win0_6.index t = ![0, 0, 0] ∧ win0_7.index t = ![0, 0] :=
  (by decide +kernel : ∀ t : Fin grid0.N,
    win0_0.index t = ![t.val, 0] ∧ win0_1.index t = ![0, 0, 0] ∧ win0_2.index t = ![0, 0, 0] ∧ win0_3.index t = ![t.val % 4, 0] ∧ win0_4.index t = ![t.val % 4, 0] ∧ win0_5.index t = ![0, 0, 0] ∧ win0_6.index t = ![0, 0, 0] ∧ win0_7.index t = ![0, 0])

theorem out_facts : ∀ t : Fin cfg0.N,
    win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0]
    ∧ win0_19.index t = ![0, t.val / 4, 0, t.val % 4] ∧ win0_20.index t = ![0, t.val / 4, 0, t.val % 4] ∧ win0_21.index t = ![0, t.val / 4, 0, t.val % 4] ∧ win0_22.index t = ![0, t.val / 4, 0, 0] :=
  (by decide +kernel : ∀ t : Fin grid0.N,
    win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0]
    ∧ win0_19.index t = ![0, t.val / 4, 0, t.val % 4] ∧ win0_20.index t = ![0, t.val / 4, 0, t.val % 4] ∧ win0_21.index t = ![0, t.val / 4, 0, t.val % 4] ∧ win0_22.index t = ![0, t.val / 4, 0, 0])

theorem lt_32 (t : Fin cfg0.N) : t.val < 32 := lt_of_lt_of_eq t.isLt (show cfg0.N = 32 from N_0)

variable (m : (ℓ : Loc nD τ sig) → Buf (Elt Ideal) ℓ)

theorem iblk0_apply (c : Dev nD) (t : Fin cfg0.N) (r : Fin 512) (k : Fin 1024) :
    iblk m c 0 t (ix2 r k)
      = m ((c : Thread nD τ).loc main_arg0) (ix2 (⟨t.val * 512 + r.val, by have := lt_32 t; omega⟩ : Fin 16384) k) := by
  blk_ext [iblk, V, idx_facts t]

theorem iblk1_apply (c : Dev nD) (t : Fin cfg0.N) (k : Fin 1024) :
    iblk m c 1 t (ix3 (0 : Fin 1) (0 : Fin 1) k) = m ((c : Thread nD τ).loc main_arg1) (ix2 (0 : Fin 4) k) := by
  unfold iblk
  blk_simp [idx_facts t]
  have e : (win0_1.blk t).view.emb (ix3 (0 : Fin 1) (0 : Fin 1) k) = ix3 (0 : Fin 4) (0 : Fin 1) k := by blk_ext [idx_facts t]
  rw [e]
  entry_read
  pointwise

theorem iblk2_apply (c : Dev nD) (t : Fin cfg0.N) (k : Fin 1024) (j : Fin 3840) :
    iblk m c 2 t (ix3 (0 : Fin 1) k j) = m ((c : Thread nD τ).loc main_arg2) (ix3 (0 : Fin 4) k j) := by
  unfold iblk
  blk_simp [idx_facts t]
  have e : (win0_2.blk t).view.emb (ix3 (0 : Fin 1) k j) = ix3 (0 : Fin 4) k j := by blk_ext [idx_facts t]
  rw [e]
  entry_read
  rfl

theorem iblk3_apply (c : Dev nD) (t : Fin cfg0.N) (r : Fin 512) (j : Fin 256) :
    iblk m c 3 t (ix2 r j) = cosOf (t.val % 4 * 512 + r.val) (j.val % 32) := by
  unfold iblk
  blk_simp [idx_facts t]
  have e : (win0_3.blk t).view.emb (ix2 r j) = ix2 (⟨t.val % 4 * 512 + r.val, by omega⟩ : Fin 2048) j := by blk_ext [idx_facts t]
  rw [e]
  entry_read
  exact cos_apply _ j

theorem iblk4_apply (c : Dev nD) (t : Fin cfg0.N) (r : Fin 512) (j : Fin 256) :
    iblk m c 4 t (ix2 r j) = if j.val % 64 < 32 then -(sinOf (t.val % 4 * 512 + r.val) (j.val % 32)) else sinOf (t.val % 4 * 512 + r.val) (j.val % 32) := by
  unfold iblk
  blk_simp [idx_facts t]
  have e : (win0_4.blk t).view.emb (ix2 r j) = ix2 (⟨t.val % 4 * 512 + r.val, by omega⟩ : Fin 2048) j := by blk_ext [idx_facts t]
  rw [e]
  entry_read
  exact sin_apply _ j

theorem iblk5_apply (c : Dev nD) (t : Fin cfg0.N) (j : Fin 256) :
    iblk m c 5 t (ix3 (0 : Fin 1) (0 : Fin 1) j) = m ((c : Thread nD τ).loc main_arg3) (ix2 (0 : Fin 4) (⟨j.val % 64, by omega⟩ : Fin 64)) := by
  unfold iblk
  blk_simp [idx_facts t]
  have e : (win0_5.blk t).view.emb (ix3 (0 : Fin 1) (0 : Fin 1) j) = ix3 (0 : Fin 4) (0 : Fin 1) j := by blk_ext [idx_facts t]
  rw [e]
  entry_read
  exact tiled4_apply _ j

theorem iblk6_apply (c : Dev nD) (t : Fin cfg0.N) (j : Fin 128) :
    iblk m c 6 t (ix3 (0 : Fin 1) (0 : Fin 1) j) = m ((c : Thread nD τ).loc main_arg4) (ix2 (0 : Fin 4) (⟨j.val % 64, by omega⟩ : Fin 64)) := by
  unfold iblk
  blk_simp [idx_facts t]
  have e : (win0_6.blk t).view.emb (ix3 (0 : Fin 1) (0 : Fin 1) j) = ix3 (0 : Fin 4) (0 : Fin 1) j := by blk_ext [idx_facts t]
  rw [e]
  entry_read
  exact tiled2_apply _ j

theorem iblk7_apply (c : Dev nD) (t : Fin cfg0.N) (i j : Fin 256) :
    iblk m c 7 t (ix2 i j) = (if i.val / 64 = j.val / 64 then (1 : EReal) else 0) := by
  unfold iblk
  blk_simp [idx_facts t]
  have e : (win0_7.blk t).view.emb (ix2 i j) = ix2 i j := by blk_ext [idx_facts t]
  rw [e]
  entry_read
  exact shared_apply i j

end Cert.Kernel4Ideal.Tile

end
-- ==== Proof.Proj.Block.lean ====
module

public import proofs.«01_k».proof.Proof.Proj.OutKv
public import proofs.«01_k».proof.Proof.Proj.Reads

/-!
The values the projection kernel leaves in its output blocks, as the plain mathematics of the rows.
-/

@[expose] public section

set_option maxRecDepth 16384
noncomputable section
open Idealize.ShloMosaic Idealize.ShloMosaic.TcCoe Idealize.SL.Sem

namespace Cert.Kernel4Ideal.Tile
open Cert.Kernel4Ideal Cert.Kernel4Ideal.Gen Cert.Ffn Cert.Proj

theorem colsOf_apply (W : FVec Ideal S1x1024x3840 .bf16) (n : ℕ) (h : ∀ a, (![0, 0, n] : Fin 3 → ℕ) a + S1x1024x256.size a ≤ S1x1024x3840.size a)
    (hn : n + 256 ≤ 3840) (k : Fin 1024) (j : Fin 256) :
    colsOf (F := Ideal) W n h (ix3 (0 : Fin 1) k j) = W (ix3 (0 : Fin 1) k ⟨n + j.val, by omega⟩) := by
  unfold colsOf
  rw [View.ld_apply]
  refine congrArg W ?_
  funext a
  apply Fin.ext
  rw [Rect.idx_unit_val]
  match a with
  | 0 => show 0 + 0 = 0; rfl
  | 1 => show 0 + k.val = k.val; omega
  | 2 => rfl

theorem colsOf512_apply (W : FVec Ideal S1x1024x3840 .bf16) (n : ℕ) (h : ∀ a, (![0, 0, n] : Fin 3 → ℕ) a + S1x1024x512.size a ≤ S1x1024x3840.size a)
    (hn : n + 512 ≤ 3840) (k : Fin 1024) (j : Fin 512) :
    colsOf512 (F := Ideal) W n h (ix3 (0 : Fin 1) k j) = W (ix3 (0 : Fin 1) k ⟨n + j.val, by omega⟩) := by
  unfold colsOf512
  rw [View.ld_apply]
  refine congrArg W ?_
  funext a
  apply Fin.ext
  rw [Rect.idx_unit_val]
  match a with
  | 0 => show 0 + 0 = 0; rfl
  | 1 => show 0 + k.val = k.val; omega
  | 2 => rfl

theorem colsOf768_apply (W : FVec Ideal S1x1024x3840 .bf16) (n : ℕ) (h : ∀ a, (![0, 0, n] : Fin 3 → ℕ) a + S1x1024x768.size a ≤ S1x1024x3840.size a)
    (hn : n + 768 ≤ 3840) (k : Fin 1024) (j : Fin 768) :
    colsOf768 (F := Ideal) W n h (ix3 (0 : Fin 1) k j) = W (ix3 (0 : Fin 1) k ⟨n + j.val, by omega⟩) := by
  unfold colsOf768
  rw [View.ld_apply]
  refine congrArg W ?_
  funext a
  apply Fin.ext
  rw [Rect.idx_unit_val]
  match a with
  | 0 => show 0 + 0 = 0; rfl
  | 1 => show 0 + k.val = k.val; omega
  | 2 => rfl

/-- A row's projected columns. -/
def row (x : FVec Ideal S16384x1024 .f32) (g : FVec Ideal S4x1024 .f32) (W : FVec Ideal S4x1024x3840 .f32) (n : Fin 16384) : ℕ → EReal :=
  cols (fun k => x (ix2 n k)) (fun k => g (ix2 (0 : Fin 4) k)) (fun k j => W (ix3 (0 : Fin 4) k j))

/-- A head's gains. -/
def gain (q : FVec Ideal S4x64 .f32) (j : ℕ) : EReal := q (ix2 (0 : Fin 4) (⟨j % 64, by omega⟩ : Fin 64))

theorem lin_row (x g : Fin 1024 → EReal) (W : Fin 1024 → Fin 3840 → EReal) (c : ℕ) (hc : c < 3840) (H : Fin 1024 → EReal) (w : Fin 1024 → EReal)
    (hH : ∀ k, H k = norm x g k) (hw : ∀ k, w k = W k ⟨c, hc⟩) : lin H w = cols x g W c := by
  unfold cols
  rw [dif_pos hc, funext hH, funext hw]

variable (m : (ℓ : Loc nD τ sig) → Buf (Elt Ideal) ℓ) (c : Dev nD)

/-- A row's projected columns, from what a core's arguments hold. -/
def rowM (n : Fin 16384) : ℕ → EReal :=
  row (m ((c : Thread nD τ).loc main_arg0)) (m ((c : Thread nD τ).loc main_arg1)) (m ((c : Thread nD τ).loc main_arg2)) n

/-- The normalised rows of a tile. -/
def hM (t : Fin cfg0.N) : FVec Ideal S512x1024 .bf16 := k0_pay1 (F := Ideal) (iblk m c 0 t) (iblk m c 1 t)

/-- The row of a tile. -/
def at_ (t : Fin cfg0.N) (r : Fin 512) : Fin 16384 := ⟨t.val * 512 + r.val, by have := lt_32 t; omega⟩

variable (t : Fin cfg0.N) (r : Fin 512)

theorem hM_apply (k : Fin 1024) : hM m c t (ix2 r k)
    = norm (fun k => m ((c : Thread nD τ).loc main_arg0) (ix2 (at_ t r) k)) (fun k => m ((c : Thread nD τ).loc main_arg1) (ix2 (0 : Fin 4) k)) k := by
  unfold hM
  rw [pay1_apply, funext fun j => iblk0_apply m c t r j, funext fun j => iblk1_apply m c t j]
  rfl

theorem dot_row (n : ℕ) (h) (hn : n + 256 ≤ 3840) (j : Fin 256) :
    dot256 (hM m c t) (colsOf (F := Ideal) (iblk m c 2 t) n h) r j = rowM m c (at_ t r) (n + j.val) :=
  lin_row _ _ (fun k j => m ((c : Thread nD τ).loc main_arg2) (ix3 (0 : Fin 4) k j)) (n + j.val) (by omega) _ _ (fun k => hM_apply m c t r k) fun k => (colsOf_apply _ n h hn k j).trans (iblk2_apply m c t k _)

theorem lin512_row (n : ℕ) (h) (hn : n + 512 ≤ 3840) (j : Fin 512) :
    lin (fun k => hM m c t (ix2 r k)) (fun k => colsOf512 (F := Ideal) (iblk m c 2 t) n h (ix3 (0 : Fin 1) k j)) = rowM m c (at_ t r) (n + j.val) :=
  lin_row _ _ (fun k j => m ((c : Thread nD τ).loc main_arg2) (ix3 (0 : Fin 4) k j)) (n + j.val) (by omega) _ _ (fun k => hM_apply m c t r k) fun k => (colsOf512_apply _ n h hn k j).trans (iblk2_apply m c t k _)

theorem lin768_row (n : ℕ) (h) (hn : n + 768 ≤ 3840) (j : Fin 768) :
    lin (fun k => hM m c t (ix2 r k)) (fun k => colsOf768 (F := Ideal) (iblk m c 2 t) n h (ix3 (0 : Fin 1) k j)) = rowM m c (at_ t r) (n + j.val) :=
  lin_row _ _ (fun k j => m ((c : Thread nD τ).loc main_arg2) (ix3 (0 : Fin 4) k j)) (n + j.val) (by omega) _ _ (fun k => hM_apply m c t r k) fun k => (colsOf768_apply _ n h hn k j).trans (iblk2_apply m c t k _)

theorem out8_apply (j : Fin 256) : (outsAt0 m c t).1 (ix2 r j) = rowM m c (at_ t r) (0 + j.val) := by
  rw [out8_eq]
  exact (pay4_apply _ _ _ r j).trans (dot_row m c t r 0 _ (by omega) j)

theorem out9_apply (j : Fin 512) : (outsAt0 m c t).2.1 (ix2 r j) = rowM m c (at_ t r) (256 + j.val) := by
  rw [out9_eq]
  exact (pay5_apply _ _ r _ j).trans (lin512_row m c t r 256 _ (by omega) j)

theorem out12_apply (j : Fin 256) : (outsAt0 m c t).2.2.2.2.1 (ix2 r j) = rowM m c (at_ t r) (1024 + j.val) := by
  rw [out12_eq]
  exact (pay8_apply _ _ r j).trans (dot_row m c t r 1024 _ (by omega) j)

theorem out15_apply (j : Fin 768) : (outsAt0 m c t).2.2.2.2.2.2.2.1 (ix2 r j) = Ideal.logistic (rowM m c (at_ t r) (1792 + j.val)) := by
  rw [out15_eq]
  exact (pay18_apply _ r _ j).trans (congrArg Ideal.logistic (lin768_row m c t r 1792 _ (by omega) j))

theorem out16_apply (j : Fin 256) : (outsAt0 m c t).2.2.2.2.2.2.2.2.1 (ix2 r j) = rowM m c (at_ t r) (2560 + j.val) := by
  rw [out16_eq]
  exact (pay19_apply _ _ r j).trans (dot_row m c t r 2560 _ (by omega) j)

theorem out17_apply (j : Fin 256) : (outsAt0 m c t).2.2.2.2.2.2.2.2.2.1 (ix2 r j) = rowM m c (at_ t r) (2816 + j.val) * rowM m c (at_ t r) (3072 + j.val) := by
  rw [out17_eq]
  exact (pay20_apply _ _ _ r j).trans (congrArg₂ (· * ·) (dot_row m c t r 2816 _ (by omega) j) (dot_row m c t r 3072 _ (by omega) j))

theorem out18_apply (j : Fin 256) : (outsAt0 m c t).2.2.2.2.2.2.2.2.2.2.1 (ix2 r j) = rowM m c (at_ t r) (3328 + j.val) * Ideal.logistic (rowM m c (at_ t r) (3584 + j.val)) := by
  rw [out18_eq]
  exact (pay21_apply _ _ _ r j).trans (congrArg₂ (fun a b => a * Ideal.logistic b) (dot_row m c t r 3328 _ (by omega) j) (dot_row m c t r 3584 _ (by omega) j))

theorem pay2_apply (X : FVec Ideal S512x256 .f32) (r : Fin 512) (j : Fin 256) : k0_pay2 (F := Ideal) X (ix2 r j) = X (ix2 r j) := by
  pointwise [k0_pay2]

theorem pay3_apply (X : FVec Ideal S512x256 .f32) (r : Fin 512) (j : Fin 256) : k0_pay3 (F := Ideal) X (ix2 r j) = X (ix2 r j) := by
  pointwise [k0_pay3]

theorem cosM (j : Fin 256) : k0_pay2 (F := Ideal) (iblk m c 3 t) (ix2 r j) = cosOf ((at_ t r).val % 2048) (j.val % 32) := by
  have e : (at_ t r).val % 2048 = t.val % 4 * 512 + r.val := by show (t.val * 512 + r.val) % 2048 = _; omega
  rw [e]
  exact (pay2_apply _ r j).trans (iblk3_apply m c t r j)

theorem sinM (j : Fin 256) : k0_pay3 (F := Ideal) (iblk m c 4 t) (ix2 r j)
    = if j.val % 64 < 32 then -(sinOf ((at_ t r).val % 2048) (j.val % 32)) else sinOf ((at_ t r).val % 2048) (j.val % 32) := by
  have e : (at_ t r).val % 2048 = t.val % 4 * 512 + r.val := by show (t.val * 512 + r.val) % 2048 = _; omega
  rw [e]
  exact (pay3_apply _ r j).trans (iblk4_apply m c t r j)

theorem gain_q (j : Fin 256) : iblk m c 5 t (ix3 (0 : Fin 1) (0 : Fin 1) j) = gain (m ((c : Thread nD τ).loc main_arg3)) (j.val % 64) := by
  rw [iblk5_apply]
  unfold gain
  exact congrArg (fun z => m ((c : Thread nD τ).loc main_arg3) (ix2 (0 : Fin 4) z)) (Fin.ext (Nat.mod_mod _ _).symm)

theorem gain_k (j : Fin 128) : iblk m c 6 t (ix3 (0 : Fin 1) (0 : Fin 1) j) = gain (m ((c : Thread nD τ).loc main_arg4)) (j.val % 64) := by
  rw [iblk6_apply]
  unfold gain
  exact congrArg (fun z => m ((c : Thread nD τ).loc main_arg4) (ix2 (0 : Fin 4) z)) (Fin.ext (Nat.mod_mod _ _).symm)

/-- The projected columns of queries and keys are real. -/
def Real_ : Prop := ∀ n : Fin 16384, ∃ p : ℕ → ℝ, ∀ j, Headed j → rowM m c n j = (p j : EReal)

theorem out10_apply (hr : Real_ m c) (j : Fin 256) : (outsAt0 m c t).2.2.1 (ix2 r j)
    = head (after (rowM m c (at_ t r)) 768) (gain (m ((c : Thread nD τ).loc main_arg3))) j.val := by
  obtain ⟨p, hp⟩ := hr (at_ t r)
  rw [out10_eq, pay6_eq]
  exact norm256_apply (fun i => p (768 + i)) _ _ _ r (after (rowM m c (at_ t r)) 768) _ (fun i hi => hp (768 + i) (Or.inl (by omega)))
    (fun i => (pay8_apply _ _ r i).trans (dot_row m c t r 768 _ (by omega) i)) (fun i j => iblk7_apply m c t i j) (gain_q m c t) j

theorem out11_apply (hr : Real_ m c) (j : Fin 256) : (outsAt0 m c t).2.2.2.1 (ix2 r j)
    = turned (head (after (rowM m c (at_ t r)) 768) (gain (m ((c : Thread nD τ).loc main_arg3)))) (cosOf ((at_ t r).val % 2048)) (sinOf ((at_ t r).val % 2048)) j.val := by
  rw [out11_eq, pay7_eq, ← out10_eq]
  exact turn256_apply _ _ _ r _ _ _ (fun i => out10_apply m c t r hr i) (cosM m c t r) (sinM m c t r) j

theorem out13_apply (hr : Real_ m c) (j : Fin 256) : (outsAt0 m c t).2.2.2.2.2.1 (ix2 r j)
    = pair (after (rowM m c (at_ t r)) 1280) (gain (m ((c : Thread nD τ).loc main_arg4))) (cosOf ((at_ t r).val % 2048)) (sinOf ((at_ t r).val % 2048)) j.val := by
  rw [out13_eq]
  unfold pair
  by_cases h : j.val < 128
  · obtain ⟨p, hp⟩ := hr (at_ t r)
    rw [dif_pos h, if_pos h, pay13_eq]
    exact turn128_apply _ _ _ r _ _ _ (fun i => norm128_apply (fun i => p (1280 + i)) _ _ _ r (after (rowM m c (at_ t r)) 1280) _ (fun i hi => hp (1280 + i) (Or.inr (Or.inl (by omega))))
      (fun i => (first_apply _ r i).trans ((pay12_apply _ _ r _).trans (dot_row m c t r 1280 _ (by omega) _)))
      (fun i j => (pay9_apply _ i j).trans (iblk7_apply m c t _ _)) (gain_k m c t) i)
      (fun i => (pay10_apply _ r i).trans (cosM m c t r _)) (fun i => (pay11_apply _ r i).trans (sinM m c t r _)) _
  · rw [dif_neg h, if_neg h]
    refine (pay14_apply _ _ r _).trans ((dot_row m c t r 1280 _ (by omega) _).trans ?_)
    unfold after
    refine congrArg (rowM m c (at_ t r)) ?_
    show 1280 + (128 + (j.val - 128)) = _
    omega

theorem out14_apply (hr : Real_ m c) (j : Fin 256) : (outsAt0 m c t).2.2.2.2.2.2.1 (ix2 r j)
    = pair (after (rowM m c (at_ t r)) 1536) (gain (m ((c : Thread nD τ).loc main_arg4))) (cosOf ((at_ t r).val % 2048)) (sinOf ((at_ t r).val % 2048)) j.val := by
  rw [out14_eq]
  unfold pair
  by_cases h : j.val < 128
  · obtain ⟨p, hp⟩ := hr (at_ t r)
    rw [dif_pos h, if_pos h, pay16_eq]
    exact turn128_apply _ _ _ r _ _ _ (fun i => norm128_apply (fun i => p (1536 + i)) _ _ _ r (after (rowM m c (at_ t r)) 1536) _ (fun i hi => hp (1536 + i) (Or.inr (Or.inr (by omega))))
      (fun i => (first_apply _ r i).trans ((pay12_apply _ _ r _).trans (dot_row m c t r 1536 _ (by omega) _)))
      (fun i j => (pay9_apply _ i j).trans (iblk7_apply m c t _ _)) (gain_k m c t) i)
      (fun i => (pay10_apply _ r i).trans (cosM m c t r _)) (fun i => (pay11_apply _ r i).trans (sinM m c t r _)) _
  · rw [dif_neg h, if_neg h]
    refine (pay17_apply _ _ r _).trans ((dot_row m c t r 1536 _ (by omega) _).trans ?_)
    unfold after
    refine congrArg (rowM m c (at_ t r)) ?_
    show 1536 + (128 + (j.val - 128)) = _
    omega

theorem pay22_apply (X : FVec Ideal S512x512 .f32) (d s : Fin 512) : k0_pay22 (F := Ideal) X (ix4 (0 : Fin 1) (0 : Fin 1) d s) = X (ix2 s d) := by
  pointwise [k0_pay22]

theorem pay23_apply (X : FVec Ideal S512x256 .f32) (d : Fin 256) (s : Fin 512) : k0_pay23 (F := Ideal) X (ix4 (0 : Fin 1) (0 : Fin 1) d s) = X (ix2 s d) := by
  pointwise [k0_pay23]

theorem pay24_apply (X : FVec Ideal S512x256 .f32) (d : Fin 256) (s : Fin 512) : k0_pay24 (F := Ideal) X (ix4 (0 : Fin 1) (0 : Fin 1) d s) = X (ix2 s d) := by
  pointwise [k0_pay24]

theorem pay25_apply (X : FVec Ideal S512x256 .f32) (d : Fin 256) (s : Fin 512) : k0_pay25 (F := Ideal) X (ix4 (0 : Fin 1) (0 : Fin 1) d s) = X (ix2 s d) := by
  pointwise [k0_pay25]

end Cert.Kernel4Ideal.Tile

end
-- ==== Proof.Proj.Finite.lean ====
module

public import proofs.«01_k».proof.Defs
public import proofs.«01_k».proof.Proof.Sb.Meet
public import proofs.«01_k».proof.Proof.Proj.Block

/-!
The projection's precondition as real gains and real weights of the queries and keys.
-/

@[expose] public section

set_option maxRecDepth 16384
noncomputable section
open Idealize.ShloMosaic Idealize.ShloMosaic.TcCoe Idealize.SL.Sem

namespace Cert.Pre_finite_proj
open Cert.Pre_finite_inputs (inf_eq real_of_abs and_one bool_one each_one)

instance facts : Facts where
  slices_S4x1024_S1x1024_0_0 := by decide
  bcast_S_S1x1024 := by decide
  reducesTo_S1x1024_S_d0_1 := by decide
  h_S_ := by decide
  slices_S4x1024x3840_S1x1024x256_0_0_768 := by decide
  bcast_S_S1x1024x256 := by decide
  reducesTo_S1x1024x256_S_d0_1_2 := by decide
  slices_S4x1024x3840_S1x1024x128_0_0_1280 := by decide
  bcast_S_S1x1024x128 := by decide
  reducesTo_S1x1024x128_S_d0_1_2 := by decide
  slices_S4x1024x3840_S1x1024x128_0_0_1536 := by decide

theorem unpack (x : FVec Ideal S16384x1024 .f32) (g : FVec Ideal S4x1024 .f32) (W : FVec Ideal S4x1024x3840 .f32) (q k : FVec Ideal S4x64 .f32)
    (s0 : FVec Ideal S4x8x512x2048 .f32) (s1 s2 : FVec Ideal S4x8x256x2048 .f32) (s3 : FVec Ideal S4x8x256x512 .f32)
    (h : fn (F := Ideal) x g W q k s0 s1 s2 s3 = fun _ => 1#1) :
    (∀ i : Fin 1024, ∃ y : ℝ, g (ix2 (0 : Fin 4) i) = (y : EReal))
    ∧ ∀ (i : Fin 1024) (j : Fin 3840), Cert.Proj.Headed j.val → ∃ y : ℝ, W (ix3 (0 : Fin 4) i j) = (y : EReal) := by
  have h0 := congrFun h ix0
  unfold fn at h0
  dsimp only at h0
  pointwise at h0
  obtain ⟨h1, h4⟩ := and_one _ _ h0
  obtain ⟨h1, h3⟩ := and_one _ _ h1
  obtain ⟨h1, h2⟩ := and_one _ _ h1
  dsimp only at h1 h2 h3 h4
  pointwise at h1
  pointwise at h2
  pointwise at h3
  pointwise at h4
  refine ⟨fun i => ⟨_, real_of_abs _ ?_⟩, fun i j hj => ⟨_, real_of_abs _ ?_⟩⟩
  · have e := each_one _ h1 ((0 : Fin 1), i)
    rw [← inf_eq]
    exact of_decide_eq_true (bool_one _ e)
  · rw [← inf_eq]
    rcases hj with ⟨ha, hb⟩ | ⟨ha, hb⟩ | ⟨ha, hb⟩
    · have ej : j = (⟨768 + (⟨j.val - 768, by omega⟩ : Fin 256).val, by show 768 + (j.val - 768) < 3840; omega⟩ : Fin 3840) := Fin.ext (by show j.val = 768 + (j.val - 768); omega)
      rw [ej]
      have e := each_one _ h2 ((0 : Fin 1), i, (⟨j.val - 768, by omega⟩ : Fin 256))
      exact of_decide_eq_true (bool_one _ e)
    · have ej : j = (⟨1280 + (⟨j.val - 1280, by omega⟩ : Fin 128).val, by show 1280 + (j.val - 1280) < 3840; omega⟩ : Fin 3840) := Fin.ext (by show j.val = 1280 + (j.val - 1280); omega)
      rw [ej]
      have e := each_one _ h3 ((0 : Fin 1), i, (⟨j.val - 1280, by omega⟩ : Fin 128))
      exact of_decide_eq_true (bool_one _ e)
    · have ej : j = (⟨1536 + (⟨j.val - 1536, by omega⟩ : Fin 128).val, by show 1536 + (j.val - 1536) < 3840; omega⟩ : Fin 3840) := Fin.ext (by show j.val = 1536 + (j.val - 1536); omega)
      rw [ej]
      have e := each_one _ h4 ((0 : Fin 1), i, (⟨j.val - 1536, by omega⟩ : Fin 128))
      exact of_decide_eq_true (bool_one _ e)

end Cert.Pre_finite_proj

namespace Cert.Proj

/-- Where the precondition holds, the projected columns of queries and keys are real. -/
theorem real_of (m : (ℓ : Loc Kernel4Ideal.nD Kernel4Ideal.τ Kernel4Ideal.sig) → Buf (Elt Ideal) ℓ) (hp : Pre_Kernel4Ideal_finite_proj m)
    (c : Dev Kernel4Ideal.nD) : Kernel4Ideal.Tile.Real_ m c := by
  obtain ⟨hg, hW⟩ := Pre_finite_proj.unpack _ _ _ _ _ _ _ _ _ (hp c)
  intro n
  have e : ∀ j : ℕ, ∃ y : ℝ, Headed j → Kernel4Ideal.Tile.rowM m c n j = (y : EReal) := by
    intro j
    by_cases hj : Headed j
    · obtain ⟨y, hy⟩ := cols_real (fun k => (m ((c : Thread Kernel4Ideal.nD Kernel4Ideal.τ).loc Kernel4Ideal.main_arg0)) (ix2 n k)) (fun k => (m ((c : Thread Kernel4Ideal.nD Kernel4Ideal.τ).loc Kernel4Ideal.main_arg1)) (ix2 (0 : Fin 4) k))
        (fun k l => (m ((c : Thread Kernel4Ideal.nD Kernel4Ideal.τ).loc Kernel4Ideal.main_arg2)) (ix3 (0 : Fin 4) k l)) hg j fun i h => hW i ⟨j, h⟩ hj
      exact ⟨y, fun _ => hy⟩
    · exact ⟨0, fun h => absurd h hj⟩
  choose p hp' using e
  exact ⟨p, fun j hj => hp' j hj⟩

end Cert.Proj

end
-- ==== Proof.Proj.Array.lean ====
module

public import proofs.«01_k».proof.Proof.Proj.Block

/-!
The projection kernel's result arrays, as functions of its arguments.
-/

@[expose] public section

set_option maxRecDepth 16384
noncomputable section
open Idealize.ShloMosaic Idealize.ShloMosaic.TcCoe Idealize.SL.Sem
namespace Cert.Kernel4Ideal.Tile
open Cert.Kernel4Ideal Cert.Kernel4Ideal.Gen Cert.Proj

theorem last_flush : ∀ t : Fin cfg0.N, (cfg0.win 22).flush t = true → t.val % 4 = 3 :=
  (by decide +kernel : ∀ t : Fin grid0.N, win0_22.flush t = true → t.val % 4 = 3)

/-- An array of 256 columns by row and column. -/
def rows256 (f : Fin 16384 → ℕ → EReal) : FVec Ideal S16384x256 .f32 := fun y => f (y 0) (y 1).val

/-- An array of 512 columns by row and column. -/
def rows512 (f : Fin 16384 → ℕ → EReal) : FVec Ideal S16384x512 .f32 := fun y => f (y 0) (y 1).val

/-- An array of 768 columns by row and column. -/
def rows768 (f : Fin 16384 → ℕ → EReal) : FVec Ideal S16384x768 .f32 := fun y => f (y 0) (y 1).val

theorem row_lt (b : Fin 8) (s : Fin 2048) : b.val * 2048 + s.val < 16384 := by omega

theorem last_lt (b : Fin 8) (s : Fin 512) : b.val * 2048 + 1536 + s.val < 16384 := by omega

/-- Rows of 512 columns stored transposed as the first layer's. -/
def stored512 (f : Fin 16384 → ℕ → EReal) (o : FVec Ideal S4x8x512x2048 .f32) : FVec Ideal S4x8x512x2048 .f32 := fun y =>
  if (y 0).val = 0 then f (⟨(y 1).val * 2048 + (y 3).val, row_lt (y 1) (y 3)⟩ : Fin 16384) (y 2).val else o y

/-- Rows of 256 columns stored transposed as the first layer's. -/
def stored256 (f : Fin 16384 → ℕ → EReal) (o : FVec Ideal S4x8x256x2048 .f32) : FVec Ideal S4x8x256x2048 .f32 := fun y =>
  if (y 0).val = 0 then f (⟨(y 1).val * 2048 + (y 3).val, row_lt (y 1) (y 3)⟩ : Fin 16384) (y 2).val else o y

/-- The last rows of each sequence stored transposed as the first layer's. -/
def storedLast (f : Fin 16384 → ℕ → EReal) (o : FVec Ideal S4x8x256x512 .f32) : FVec Ideal S4x8x256x512 .f32 := fun y =>
  if (y 0).val = 0 then f (⟨(y 1).val * 2048 + 1536 + (y 3).val, last_lt (y 1) (y 3)⟩ : Fin 16384) (y 2).val else o y

variable (m : (ℓ : Loc nD τ sig) → Buf (Elt Ideal) ℓ) (c : Dev nD)

/-- The queries normalised, by row and column. -/
def qnM (n : Fin 16384) (j : ℕ) : EReal := head (after (rowM m c n) 768) (gain (m ((c : Thread nD τ).loc main_arg3))) j

/-- The queries normalised and turned, by row and column. -/
def qrM (n : Fin 16384) (j : ℕ) : EReal :=
  turned (head (after (rowM m c n) 768) (gain (m ((c : Thread nD τ).loc main_arg3)))) (cosOf (n.val % 2048)) (sinOf (n.val % 2048)) j

/-- The keys and values from a column on, by row and column. -/
def kvM (b : ℕ) (n : Fin 16384) (j : ℕ) : EReal :=
  pair (after (rowM m c n) b) (gain (m ((c : Thread nD τ).loc main_arg4))) (cosOf (n.val % 2048)) (sinOf (n.val % 2048)) j

theorem arr8 : (dats m 0 c).arrAt 8 cfg0.N = rows256 (rowM m c) := by
  refine (dats m 0 c).arrAt_eq_of_covers 8 _ (by decide +kernel) fun t hf y => ?_
  blk_simp
  rw [after0_8]
  obtain ⟨r, k, rfl⟩ : ∃ (r : Fin 512) (k : Fin 256), y = ix2 r k := ⟨y 0, y 1, eq_ix2 y⟩
  have e : (win0_8.blk t).view.emb (ix2 r k) = ix2 (at_ t r) k := by blk_ext [out_facts t, at_]
  refine Eq.trans ?_ (congrArg _ e.symm)
  exact (out8_apply m c t r k).trans (congrArg (rowM m c (at_ t r)) (Nat.zero_add _))

theorem arr9 : (dats m 0 c).arrAt 9 cfg0.N = rows512 fun n j => rowM m c n (256 + j) := by
  refine (dats m 0 c).arrAt_eq_of_covers 9 _ (by decide +kernel) fun t hf y => ?_
  blk_simp
  rw [after0_9]
  obtain ⟨r, k, rfl⟩ : ∃ (r : Fin 512) (k : Fin 512), y = ix2 r k := ⟨y 0, y 1, eq_ix2 y⟩
  have e : (win0_9.blk t).view.emb (ix2 r k) = ix2 (at_ t r) k := by blk_ext [out_facts t, at_]
  refine Eq.trans ?_ (congrArg _ e.symm)
  exact out9_apply m c t r k

theorem arr10 (hr : Real_ m c) : (dats m 0 c).arrAt 10 cfg0.N = rows256 (qnM m c) := by
  refine (dats m 0 c).arrAt_eq_of_covers 10 _ (by decide +kernel) fun t hf y => ?_
  blk_simp
  rw [after0_10]
  obtain ⟨r, k, rfl⟩ : ∃ (r : Fin 512) (k : Fin 256), y = ix2 r k := ⟨y 0, y 1, eq_ix2 y⟩
  have e : (win0_10.blk t).view.emb (ix2 r k) = ix2 (at_ t r) k := by blk_ext [out_facts t, at_]
  refine Eq.trans ?_ (congrArg _ e.symm)
  exact out10_apply m c t r hr k

theorem arr11 (hr : Real_ m c) : (dats m 0 c).arrAt 11 cfg0.N = rows256 (qrM m c) := by
  refine (dats m 0 c).arrAt_eq_of_covers 11 _ (by decide +kernel) fun t hf y => ?_
  blk_simp
  rw [after0_11]
  obtain ⟨r, k, rfl⟩ : ∃ (r : Fin 512) (k : Fin 256), y = ix2 r k := ⟨y 0, y 1, eq_ix2 y⟩
  have e : (win0_11.blk t).view.emb (ix2 r k) = ix2 (at_ t r) k := by blk_ext [out_facts t, at_]
  refine Eq.trans ?_ (congrArg _ e.symm)
  exact out11_apply m c t r hr k

theorem arr12 : (dats m 0 c).arrAt 12 cfg0.N = rows256 fun n j => rowM m c n (1024 + j) := by
  refine (dats m 0 c).arrAt_eq_of_covers 12 _ (by decide +kernel) fun t hf y => ?_
  blk_simp
  rw [after0_12]
  obtain ⟨r, k, rfl⟩ : ∃ (r : Fin 512) (k : Fin 256), y = ix2 r k := ⟨y 0, y 1, eq_ix2 y⟩
  have e : (win0_12.blk t).view.emb (ix2 r k) = ix2 (at_ t r) k := by blk_ext [out_facts t, at_]
  refine Eq.trans ?_ (congrArg _ e.symm)
  exact out12_apply m c t r k

theorem arr13 (hr : Real_ m c) : (dats m 0 c).arrAt 13 cfg0.N = rows256 (kvM m c 1280) := by
  refine (dats m 0 c).arrAt_eq_of_covers 13 _ (by decide +kernel) fun t hf y => ?_
  blk_simp
  rw [after0_13]
  obtain ⟨r, k, rfl⟩ : ∃ (r : Fin 512) (k : Fin 256), y = ix2 r k := ⟨y 0, y 1, eq_ix2 y⟩
  have e : (win0_13.blk t).view.emb (ix2 r k) = ix2 (at_ t r) k := by blk_ext [out_facts t, at_]
  refine Eq.trans ?_ (congrArg _ e.symm)
  exact out13_apply m c t r hr k

theorem arr14 (hr : Real_ m c) : (dats m 0 c).arrAt 14 cfg0.N = rows256 (kvM m c 1536) := by
  refine (dats m 0 c).arrAt_eq_of_covers 14 _ (by decide +kernel) fun t hf y => ?_
  blk_simp
  rw [after0_14]
  obtain ⟨r, k, rfl⟩ : ∃ (r : Fin 512) (k : Fin 256), y = ix2 r k := ⟨y 0, y 1, eq_ix2 y⟩
  have e : (win0_14.blk t).view.emb (ix2 r k) = ix2 (at_ t r) k := by blk_ext [out_facts t, at_]
  refine Eq.trans ?_ (congrArg _ e.symm)
  exact out14_apply m c t r hr k

theorem arr15 : (dats m 0 c).arrAt 15 cfg0.N = rows768 fun n j => Ideal.logistic (rowM m c n (1792 + j)) := by
  refine (dats m 0 c).arrAt_eq_of_covers 15 _ (by decide +kernel) fun t hf y => ?_
  blk_simp
  rw [after0_15]
  obtain ⟨r, k, rfl⟩ : ∃ (r : Fin 512) (k : Fin 768), y = ix2 r k := ⟨y 0, y 1, eq_ix2 y⟩
  have e : (win0_15.blk t).view.emb (ix2 r k) = ix2 (at_ t r) k := by blk_ext [out_facts t, at_]
  refine Eq.trans ?_ (congrArg _ e.symm)
  exact out15_apply m c t r k

theorem arr16 : (dats m 0 c).arrAt 16 cfg0.N = rows256 fun n j => rowM m c n (2560 + j) := by
  refine (dats m 0 c).arrAt_eq_of_covers 16 _ (by decide +kernel) fun t hf y => ?_
  blk_simp
  rw [after0_16]
  obtain ⟨r, k, rfl⟩ : ∃ (r : Fin 512) (k : Fin 256), y = ix2 r k := ⟨y 0, y 1, eq_ix2 y⟩
  have e : (win0_16.blk t).view.emb (ix2 r k) = ix2 (at_ t r) k := by blk_ext [out_facts t, at_]
  refine Eq.trans ?_ (congrArg _ e.symm)
  exact out16_apply m c t r k

theorem arr17 : (dats m 0 c).arrAt 17 cfg0.N = rows256 fun n j => rowM m c n (2816 + j) * rowM m c n (3072 + j) := by
  refine (dats m 0 c).arrAt_eq_of_covers 17 _ (by decide +kernel) fun t hf y => ?_
  blk_simp
  rw [after0_17]
  obtain ⟨r, k, rfl⟩ : ∃ (r : Fin 512) (k : Fin 256), y = ix2 r k := ⟨y 0, y 1, eq_ix2 y⟩
  have e : (win0_17.blk t).view.emb (ix2 r k) = ix2 (at_ t r) k := by blk_ext [out_facts t, at_]
  refine Eq.trans ?_ (congrArg _ e.symm)
  exact out17_apply m c t r k

theorem arr18 : (dats m 0 c).arrAt 18 cfg0.N = rows256 fun n j => rowM m c n (3328 + j) * Ideal.logistic (rowM m c n (3584 + j)) := by
  refine (dats m 0 c).arrAt_eq_of_covers 18 _ (by decide +kernel) fun t hf y => ?_
  blk_simp
  rw [after0_18]
  obtain ⟨r, k, rfl⟩ : ∃ (r : Fin 512) (k : Fin 256), y = ix2 r k := ⟨y 0, y 1, eq_ix2 y⟩
  have e : (win0_18.blk t).view.emb (ix2 r k) = ix2 (at_ t r) k := by blk_ext [out_facts t, at_]
  refine Eq.trans ?_ (congrArg _ e.symm)
  exact out18_apply m c t r k

end Cert.Kernel4Ideal.Tile

end
-- ==== Proof.Proj.Stored.lean ====
module

public import proofs.«01_k».proof.Proof.Proj.Array

/-!
The projection kernel's stored keys and values, as functions of its arguments.
-/

@[expose] public section

set_option maxRecDepth 16384
noncomputable section
open Idealize.ShloMosaic Idealize.ShloMosaic.TcCoe Idealize.SL.Sem
namespace Cert.Kernel4Ideal.Tile
open Cert.Kernel4Ideal Cert.Kernel4Ideal.Gen Cert.Proj

variable (m : (ℓ : Loc nD τ sig) → Buf (Elt Ideal) ℓ) (c : Dev nD)

theorem kept19 (f : Fin 16384 → ℕ → EReal) (j : (cfg0.win 19).shape.Idx) (hj : ¬(cfg0.win 19).cell j (0 : Fin 4) = 0) :
    (dats m 0 c).A 19 ((cfg0.win 19).arr.view.emb j) = stored512 f (m ((c : Thread nD τ).loc main_arg5)) ((cfg0.win 19).arr.view.emb j) := by
  have h0 : ¬ (j (0 : Fin 4)).val = 0 := fun h => hj (by rw [Pipeline.Window.cell_apply, h, Nat.zero_div])
  refine Eq.trans ?_ (if_neg h0).symm
  rw [A_eq]
  entry_read
  rfl

theorem kept20 (f : Fin 16384 → ℕ → EReal) (j : (cfg0.win 20).shape.Idx) (hj : ¬(cfg0.win 20).cell j (0 : Fin 4) = 0) :
    (dats m 0 c).A 20 ((cfg0.win 20).arr.view.emb j) = stored256 f (m ((c : Thread nD τ).loc main_arg6)) ((cfg0.win 20).arr.view.emb j) := by
  have h0 : ¬ (j (0 : Fin 4)).val = 0 := fun h => hj (by rw [Pipeline.Window.cell_apply, h, Nat.zero_div])
  refine Eq.trans ?_ (if_neg h0).symm
  rw [A_eq]
  entry_read
  rfl

theorem kept21 (f : Fin 16384 → ℕ → EReal) (j : (cfg0.win 21).shape.Idx) (hj : ¬(cfg0.win 21).cell j (0 : Fin 4) = 0) :
    (dats m 0 c).A 21 ((cfg0.win 21).arr.view.emb j) = stored256 f (m ((c : Thread nD τ).loc main_arg7)) ((cfg0.win 21).arr.view.emb j) := by
  have h0 : ¬ (j (0 : Fin 4)).val = 0 := fun h => hj (by rw [Pipeline.Window.cell_apply, h, Nat.zero_div])
  refine Eq.trans ?_ (if_neg h0).symm
  rw [A_eq]
  entry_read
  rfl

theorem kept22 (f : Fin 16384 → ℕ → EReal) (j : (cfg0.win 22).shape.Idx) (hj : ¬(cfg0.win 22).cell j (0 : Fin 4) = 0) :
    (dats m 0 c).A 22 ((cfg0.win 22).arr.view.emb j) = storedLast f (m ((c : Thread nD τ).loc main_arg8)) ((cfg0.win 22).arr.view.emb j) := by
  have h0 : ¬ (j (0 : Fin 4)).val = 0 := fun h => hj (by rw [Pipeline.Window.cell_apply, h, Nat.zero_div])
  refine Eq.trans ?_ (if_neg h0).symm
  rw [A_eq]
  entry_read
  rfl

theorem arr19 : (dats m 0 c).arrAt 19 cfg0.N
    = stored512 (fun n j => rowM m c n (256 + j)) (m ((c : Thread nD τ).loc main_arg5)) := by
  refine (dats m 0 c).arrAt_eq_of_coversWhere_of_agree 19 _ (fun β => β (0 : Fin 4) = 0) (by decide +kernel) (fun t hf y => ?_) (fun j hj => ?_)
  · blk_simp
    rw [after0_19]
    obtain ⟨a, b, d, s, rfl⟩ : ∃ (a b : Fin 1) (d : Fin 512) (s : Fin 512), y = ix4 a b d s := ⟨y 0, y 1, y 2, y 3, eq_ix4 y⟩
    obtain rfl : a = 0 := Subsingleton.elim _ _
    obtain rfl : b = 0 := Subsingleton.elim _ _
    have e : (win0_19.blk t).view.emb (ix4 (0 : Fin 1) (0 : Fin 1) d s)
        = ix4 (0 : Fin 4) (⟨t.val / 4, by have := lt_32 t; omega⟩ : Fin 8) d (⟨t.val % 4 * 512 + s.val, by omega⟩ : Fin 2048) := by blk_ext [out_facts t]
    rw [out19_eq]
    refine Eq.trans ?_ (congrArg _ e.symm)
    refine (pay22_apply _ d s).trans ((out9_apply m c t s d).trans ?_)
    have ea : at_ t s = (⟨t.val / 4 * 2048 + (t.val % 4 * 512 + s.val), by have := lt_32 t; omega⟩ : Fin 16384) := by
      apply Fin.ext
      show t.val * 512 + s.val = t.val / 4 * 2048 + (t.val % 4 * 512 + s.val)
      omega
    rw [ea]
    rfl
  · exact kept19 m c _ j hj

theorem arr20 : (dats m 0 c).arrAt 20 cfg0.N
    = stored256 (fun n j => rowM m c n (1024 + j)) (m ((c : Thread nD τ).loc main_arg6)) := by
  refine (dats m 0 c).arrAt_eq_of_coversWhere_of_agree 20 _ (fun β => β (0 : Fin 4) = 0) (by decide +kernel) (fun t hf y => ?_) (fun j hj => ?_)
  · blk_simp
    rw [after0_20]
    obtain ⟨a, b, d, s, rfl⟩ : ∃ (a b : Fin 1) (d : Fin 256) (s : Fin 512), y = ix4 a b d s := ⟨y 0, y 1, y 2, y 3, eq_ix4 y⟩
    obtain rfl : a = 0 := Subsingleton.elim _ _
    obtain rfl : b = 0 := Subsingleton.elim _ _
    have e : (win0_20.blk t).view.emb (ix4 (0 : Fin 1) (0 : Fin 1) d s)
        = ix4 (0 : Fin 4) (⟨t.val / 4, by have := lt_32 t; omega⟩ : Fin 8) d (⟨t.val % 4 * 512 + s.val, by omega⟩ : Fin 2048) := by blk_ext [out_facts t]
    rw [out20_eq]
    refine Eq.trans ?_ (congrArg _ e.symm)
    refine (pay23_apply _ d s).trans ((out12_apply m c t s d).trans ?_)
    have ea : at_ t s = (⟨t.val / 4 * 2048 + (t.val % 4 * 512 + s.val), by have := lt_32 t; omega⟩ : Fin 16384) := by
      apply Fin.ext
      show t.val * 512 + s.val = t.val / 4 * 2048 + (t.val % 4 * 512 + s.val)
      omega
    rw [ea]
    rfl
  · exact kept20 m c _ j hj

theorem arr21 (hr : Real_ m c) : (dats m 0 c).arrAt 21 cfg0.N
    = stored256 (kvM m c 1280) (m ((c : Thread nD τ).loc main_arg7)) := by
  refine (dats m 0 c).arrAt_eq_of_coversWhere_of_agree 21 _ (fun β => β (0 : Fin 4) = 0) (by decide +kernel) (fun t hf y => ?_) (fun j hj => ?_)
  · blk_simp
    rw [after0_21]
    obtain ⟨a, b, d, s, rfl⟩ : ∃ (a b : Fin 1) (d : Fin 256) (s : Fin 512), y = ix4 a b d s := ⟨y 0, y 1, y 2, y 3, eq_ix4 y⟩
    obtain rfl : a = 0 := Subsingleton.elim _ _
    obtain rfl : b = 0 := Subsingleton.elim _ _
    have e : (win0_21.blk t).view.emb (ix4 (0 : Fin 1) (0 : Fin 1) d s)
        = ix4 (0 : Fin 4) (⟨t.val / 4, by have := lt_32 t; omega⟩ : Fin 8) d (⟨t.val % 4 * 512 + s.val, by omega⟩ : Fin 2048) := by blk_ext [out_facts t]
    rw [out21_eq]
    refine Eq.trans ?_ (congrArg _ e.symm)
    refine (pay24_apply _ d s).trans ((out13_apply m c t s hr d).trans ?_)
    have ea : at_ t s = (⟨t.val / 4 * 2048 + (t.val % 4 * 512 + s.val), by have := lt_32 t; omega⟩ : Fin 16384) := by
      apply Fin.ext
      show t.val * 512 + s.val = t.val / 4 * 2048 + (t.val % 4 * 512 + s.val)
      omega
    rw [ea]
    rfl
  · exact kept21 m c _ j hj

theorem arr22 (hr : Real_ m c) : (dats m 0 c).arrAt 22 cfg0.N
    = storedLast (kvM m c 1536) (m ((c : Thread nD τ).loc main_arg8)) := by
  refine (dats m 0 c).arrAt_eq_of_coversWhere_of_agree 22 _ (fun β => β (0 : Fin 4) = 0) (by decide +kernel) (fun t hf y => ?_) (fun j hj => ?_)
  · have hl := last_flush t hf
    blk_simp
    rw [after0_22]
    obtain ⟨a, b, d, s, rfl⟩ : ∃ (a b : Fin 1) (d : Fin 256) (s : Fin 512), y = ix4 a b d s := ⟨y 0, y 1, y 2, y 3, eq_ix4 y⟩
    obtain rfl : a = 0 := Subsingleton.elim _ _
    obtain rfl : b = 0 := Subsingleton.elim _ _
    have e : (win0_22.blk t).view.emb (ix4 (0 : Fin 1) (0 : Fin 1) d s)
        = ix4 (0 : Fin 4) (⟨t.val / 4, by have := lt_32 t; omega⟩ : Fin 8) d s := by blk_ext [out_facts t]
    rw [out22_eq]
    refine Eq.trans ?_ (congrArg _ e.symm)
    refine (pay25_apply _ d s).trans ((out14_apply m c t s hr d).trans ?_)
    have ea : at_ t s = (⟨t.val / 4 * 2048 + 1536 + s.val, by have := lt_32 t; omega⟩ : Fin 16384) := by
      apply Fin.ext
      show t.val * 512 + s.val = t.val / 4 * 2048 + 1536 + s.val
      omega
    rw [ea]
    rfl
  · exact kept22 m c _ j hj

end Cert.Kernel4Ideal.Tile

end
-- ==== Proof.Proj.Steps.lean ====
module

public import proofs.«01_k».proof.Proof.Gen.Reference4Ideal.Run
public import proofs.«01_k».proof.Proof.Proj.Spec
public import Idealize.ShloMosaic.Lib.Pipeline.ValueKit

/-!
The reference's projections in steps.
-/

@[expose] public section

set_option maxRecDepth 16384
noncomputable section
open Idealize.ShloMosaic Idealize.ShloMosaic.TcCoe Idealize.SL.Sem
namespace Cert.Reference4Ideal.Steps
open Cert.Reference4Ideal Cert.Reference4Ideal.Gen Cert.Reference4Ideal.Value
variable {F : FTy → Type} [FloatOps F]

/-- The projected rows. -/
def prod (x : FVec F S16384x1024 .f32) (g : FVec F S4x1024 .f32) (W : FVec F S4x1024x3840 .f32) : FVec F S16384x3840 .f32 :=
  Host.dotGeneral dot_S16384x1024_S1024x3840_S16384x3840_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1024 ![0, 0] g slices_S4x1024_S1x1024_0_0) shapeCasts_S1x1024_S1024)))) (shapeCast _ (extractStridedSlice S1x1024x3840 ![0, 0, 0] W slices_S4x1024x3840_S1x1024x3840_0_0_0) shapeCasts_S1x1024x3840_S1024x3840)

/-- The angles. -/
def angles : FVec F S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.exp (Host.divf (mulf (broadcastInDim S32 ![] bcast_S_S32 (constant S_ .f32 0xC1135D8E#32)) (sitofp .f32 (iotaInDim S32 32 0))) (broadcastInDim S32 ![] bcast_S_S32 (constant S_ .f32 0x42000000#32))))))

/-- The angles' cosines. -/
def cosT : FVec F S1x2048x1x32 .f32 :=
  broadcastInDim S1x2048x1x32 ![1, 3] bcast_S2048x32_S1x2048x1x32_1_3 (Host.cos angles)

/-- The angles' sines. -/
def sinT : FVec F S1x2048x1x32 .f32 :=
  broadcastInDim S1x2048x1x32 ![1, 3] bcast_S2048x32_S1x2048x1x32_1_3 (Host.sin angles)

/-- Four heads of queries. -/
def heads4 (P : FVec F S16384x3840 .f32) : FVec F S8x2048x4x64 .f32 :=
  shapeCast S8x2048x4x64 (extractStridedSlice S16384x256 ![0, 768] P slices_S16384x3840_S16384x256_0_768) shapeCasts_S16384x256_S8x2048x4x64

/-- Four heads normalised. -/
def normed4 (a : FVec F S8x2048x4x64 .f32) (q : FVec F S4x64 .f32) : FVec F S8x2048x4x64 .f32 :=
  mulf (mulf a (broadcastInDim S8x2048x4x64 ![0, 1, 2, 3] bcast_S8x2048x4x1_S8x2048x4x64_0_1_2_3 (Host.rsqrt (addf (Host.divf (broadcastInDim S8x2048x4x1 ![0, 1, 2] bcast_S8x2048x4_S8x2048x4x1_0_1_2 (Host.reduceAdd (mulf a a) (constant S_ .f32 0x00000000#32) reducesTo_S8x2048x4x64_S8x2048x4_d3 h_S_)) (broadcastInDim S8x2048x4x1 ![] bcast_S_S8x2048x4x1 (constant S_ .f32 0x42800000#32))) (broadcastInDim S8x2048x4x1 ![] bcast_S_S8x2048x4x1 (constant S_ .f32 0x358637BD#32)))))) (broadcastInDim S8x2048x4x64 ![0, 1, 2, 3] bcast_S1x1x1x64_S8x2048x4x64_0_1_2_3 (broadcastInDim S1x1x1x64 ![3] bcast_S64_S1x1x1x64_3 (shapeCast S64 (extractStridedSlice S1x64 ![0, 0] q slices_S4x64_S1x64_0_0) shapeCasts_S1x64_S64)))

/-- Four heads turned, from their halves. -/
def turned4 (a b : FVec F S8x2048x4x32 .f32) : FVec F S8x2048x4x64 .f32 :=
  concatenate S8x2048x4x64 3 [⟨S8x2048x4x32, (subf (mulf a (broadcastInDim S8x2048x4x32 ![0, 1, 2, 3] bcast_S1x2048x1x32_S8x2048x4x32_0_1_2_3 cosT)) (mulf b (broadcastInDim S8x2048x4x32 ![0, 1, 2, 3] bcast_S1x2048x1x32_S8x2048x4x32_0_1_2_3 sinT)))⟩, ⟨S8x2048x4x32, (addf (mulf b (broadcastInDim S8x2048x4x32 ![0, 1, 2, 3] bcast_S1x2048x1x32_S8x2048x4x32_0_1_2_3 cosT)) (mulf a (broadcastInDim S8x2048x4x32 ![0, 1, 2, 3] bcast_S1x2048x1x32_S8x2048x4x32_0_1_2_3 sinT)))⟩] concatenates_S8x2048x4x32_S8x2048x4x32_S8x2048x4x64_d3

/-- The first halves of four heads. -/
def first4 (a : FVec F S8x2048x4x64 .f32) : FVec F S8x2048x4x32 .f32 := extractStridedSlice S8x2048x4x32 ![0, 0, 0, 0] a slices_S8x2048x4x64_S8x2048x4x32_0_0_0_0

/-- The second halves of four heads. -/
def second4 (a : FVec F S8x2048x4x64 .f32) : FVec F S8x2048x4x32 .f32 := extractStridedSlice S8x2048x4x32 ![0, 0, 0, 32] a slices_S8x2048x4x64_S8x2048x4x32_0_0_0_32

/-- The two heads of keys among keys and values. -/
def heads2 (X : FVec F S16384x256 .f32) : FVec F S8x2048x2x64 .f32 :=
  shapeCast S8x2048x2x64 (extractStridedSlice S16384x128 ![0, 0] X slices_S16384x256_S16384x128_0_0) shapeCasts_S16384x128_S8x2048x2x64

/-- Two heads normalised. -/
def normed2 (a : FVec F S8x2048x2x64 .f32) (k : FVec F S4x64 .f32) : FVec F S8x2048x2x64 .f32 :=
  mulf (mulf a (broadcastInDim S8x2048x2x64 ![0, 1, 2, 3] bcast_S8x2048x2x1_S8x2048x2x64_0_1_2_3 (Host.rsqrt (addf (Host.divf (broadcastInDim S8x2048x2x1 ![0, 1, 2] bcast_S8x2048x2_S8x2048x2x1_0_1_2 (Host.reduceAdd (mulf a a) (constant S_ .f32 0x00000000#32) reducesTo_S8x2048x2x64_S8x2048x2_d3 h_S_)) (broadcastInDim S8x2048x2x1 ![] bcast_S_S8x2048x2x1 (constant S_ .f32 0x42800000#32))) (broadcastInDim S8x2048x2x1 ![] bcast_S_S8x2048x2x1 (constant S_ .f32 0x358637BD#32)))))) (broadcastInDim S8x2048x2x64 ![0, 1, 2, 3] bcast_S1x1x1x64_S8x2048x2x64_0_1_2_3 (broadcastInDim S1x1x1x64 ![3] bcast_S64_S1x1x1x64_3 (shapeCast S64 (extractStridedSlice S1x64 ![0, 0] k slices_S4x64_S1x64_0_0) shapeCasts_S1x64_S64)))

/-- The first halves of two heads. -/
def first2 (a : FVec F S8x2048x2x64 .f32) : FVec F S8x2048x2x32 .f32 := extractStridedSlice S8x2048x2x32 ![0, 0, 0, 0] a slices_S8x2048x2x64_S8x2048x2x32_0_0_0_0

/-- The second halves of two heads. -/
def second2 (a : FVec F S8x2048x2x64 .f32) : FVec F S8x2048x2x32 .f32 := extractStridedSlice S8x2048x2x32 ![0, 0, 0, 32] a slices_S8x2048x2x64_S8x2048x2x32_0_0_0_32

/-- Two heads turned, from their halves. -/
def turned2 (a b : FVec F S8x2048x2x32 .f32) : FVec F S8x2048x2x64 .f32 :=
  concatenate S8x2048x2x64 3 [⟨S8x2048x2x32, (subf (mulf a (broadcastInDim S8x2048x2x32 ![0, 1, 2, 3] bcast_S1x2048x1x32_S8x2048x2x32_0_1_2_3 cosT)) (mulf b (broadcastInDim S8x2048x2x32 ![0, 1, 2, 3] bcast_S1x2048x1x32_S8x2048x2x32_0_1_2_3 sinT)))⟩, ⟨S8x2048x2x32, (addf (mulf b (broadcastInDim S8x2048x2x32 ![0, 1, 2, 3] bcast_S1x2048x1x32_S8x2048x2x32_0_1_2_3 cosT)) (mulf a (broadcastInDim S8x2048x2x32 ![0, 1, 2, 3] bcast_S1x2048x1x32_S8x2048x2x32_0_1_2_3 sinT)))⟩] concatenates_S8x2048x2x32_S8x2048x2x32_S8x2048x2x64_d3

/-- Keys and values side by side. -/
def joined (X : FVec F S16384x256 .f32) (T : FVec F S8x2048x2x64 .f32) : FVec F S16384x256 .f32 :=
  concatenate S16384x256 1 [⟨S16384x128, (shapeCast S16384x128 T shapeCasts_S8x2048x2x64_S16384x128)⟩, ⟨S16384x128, (extractStridedSlice S16384x128 ![0, 128] X slices_S16384x256_S16384x128_0_128)⟩] concatenates_S16384x128_S16384x128_S16384x256_d1

/-- Keys normalised and turned, and values. -/
def paired (X : FVec F S16384x256 .f32) (k : FVec F S4x64 .f32) : FVec F S16384x256 .f32 :=
  joined X (turned2 (first2 (normed2 (heads2 X) k)) (second2 (normed2 (heads2 X) k)))

/-- 256 columns of the projected rows. -/
def part (P : FVec F S16384x3840 .f32) (n : ℕ) (h : S16384x3840.Slices ![0, n] S16384x256) : FVec F S16384x256 .f32 :=
  extractStridedSlice S16384x256 ![0, n] P h

/-- The flat rows of four heads. -/
def flat4 (a : FVec F S8x2048x4x64 .f32) : FVec F S16384x256 .f32 := shapeCast S16384x256 a shapeCasts_S8x2048x4x64_S16384x256

/-- The gate of 768 columns. -/
def gate (P : FVec F S16384x3840 .f32) : FVec F S16384x768 .f32 :=
  Host.divf (broadcastInDim S16384x768 ![] bcast_S_S16384x768 (constant S_ .f32 0x3F800000#32)) (addf (broadcastInDim S16384x768 ![] bcast_S_S16384x768 (constant S_ .f32 0x3F800000#32)) (Host.exp (Host.negf (extractStridedSlice S16384x768 ![0, 1792] P slices_S16384x3840_S16384x768_0_1792))))

/-- A product gated. -/
def gated (a b : FVec F S16384x256 .f32) : FVec F S16384x256 .f32 :=
  mulf a (Host.divf (broadcastInDim S16384x256 ![] bcast_S_S16384x256 (constant S_ .f32 0x3F800000#32)) (addf (broadcastInDim S16384x256 ![] bcast_S_S16384x256 (constant S_ .f32 0x3F800000#32)) (Host.exp (Host.negf b))))

/-- Keys and values of 512 columns stored transposed, before the other layers'. -/
def store512 (a : FVec F S16384x512 .f32) (s : FVec F S4x8x512x2048 .f32) : FVec F S4x8x512x2048 .f32 :=
  concatenate S4x8x512x2048 0 [⟨S1x8x512x2048, (transpose S1x8x512x2048 [0, 1, 3, 2] (shapeCast S1x8x2048x512 a shapeCasts_S16384x512_S1x8x2048x512) transposes_S1x8x2048x512_S1x8x512x2048_0_1_3_2)⟩, ⟨S3x8x512x2048, (extractStridedSlice S3x8x512x2048 ![1, 0, 0, 0] s slices_S4x8x512x2048_S3x8x512x2048_1_0_0_0)⟩] concatenates_S1x8x512x2048_S3x8x512x2048_S4x8x512x2048_d0

/-- Keys and values of 256 columns stored transposed, before the other layers'. -/
def store256 (a : FVec F S16384x256 .f32) (s : FVec F S4x8x256x2048 .f32) : FVec F S4x8x256x2048 .f32 :=
  concatenate S4x8x256x2048 0 [⟨S1x8x256x2048, (transpose S1x8x256x2048 [0, 1, 3, 2] (shapeCast S1x8x2048x256 a shapeCasts_S16384x256_S1x8x2048x256) transposes_S1x8x2048x256_S1x8x256x2048_0_1_3_2)⟩, ⟨S3x8x256x2048, (extractStridedSlice S3x8x256x2048 ![1, 0, 0, 0] s slices_S4x8x256x2048_S3x8x256x2048_1_0_0_0)⟩] concatenates_S1x8x256x2048_S3x8x256x2048_S4x8x256x2048_d0

/-- The last 512 places' keys and values stored transposed, before the other layers'. -/
def storeLast (a : FVec F S16384x256 .f32) (s : FVec F S4x8x256x512 .f32) : FVec F S4x8x256x512 .f32 :=
  concatenate S4x8x256x512 0 [⟨S1x8x256x512, (transpose S1x8x256x512 [0, 1, 3, 2] (extractStridedSlice S1x8x512x256 ![0, 0, 1536, 0] (shapeCast S1x8x2048x256 a shapeCasts_S16384x256_S1x8x2048x256) slices_S1x8x2048x256_S1x8x512x256_0_0_1536_0) transposes_S1x8x512x256_S1x8x256x512_0_1_3_2)⟩, ⟨S3x8x256x512, (extractStridedSlice S3x8x256x512 ![1, 0, 0, 0] s slices_S4x8x256x512_S3x8x256x512_1_0_0_0)⟩] concatenates_S1x8x256x512_S3x8x256x512_S4x8x256x512_d0

theorem run_whole (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = (part (prod (m ((c.tc : Thread nD τ).loc main_arg0)) (m ((c.tc : Thread nD τ).loc main_arg1)) (m ((c.tc : Thread nD τ).loc main_arg2))) 0 slices_S16384x3840_S16384x256_0_0)
      ∧ r.2.mem ((c.tc : Thread nD τ).loc main_v19) = (extractStridedSlice S16384x512 ![0, 256] (prod (m ((c.tc : Thread nD τ).loc main_arg0)) (m ((c.tc : Thread nD τ).loc main_arg1)) (m ((c.tc : Thread nD τ).loc main_arg2))) slices_S16384x3840_S16384x512_0_256)
      ∧ r.2.mem ((c.tc : Thread nD τ).loc main_v129) = flat4 (normed4 (heads4 (prod (m ((c.tc : Thread nD τ).loc main_arg0)) (m ((c.tc : Thread nD τ).loc main_arg1)) (m ((c.tc : Thread nD τ).loc main_arg2)))) (m ((c.tc : Thread nD τ).loc main_arg3)))
      ∧ r.2.mem ((c.tc : Thread nD τ).loc main_v143) = flat4 (turned4 (first4 (normed4 (heads4 (prod (m ((c.tc : Thread nD τ).loc main_arg0)) (m ((c.tc : Thread nD τ).loc main_arg1)) (m ((c.tc : Thread nD τ).loc main_arg2)))) (m ((c.tc : Thread nD τ).loc main_arg3)))) (second4 (normed4 (heads4 (prod (m ((c.tc : Thread nD τ).loc main_arg0)) (m ((c.tc : Thread nD τ).loc main_arg1)) (m ((c.tc : Thread nD τ).loc main_arg2)))) (m ((c.tc : Thread nD τ).loc main_arg3)))))
      ∧ r.2.mem ((c.tc : Thread nD τ).loc main_v21) = (part (prod (m ((c.tc : Thread nD τ).loc main_arg0)) (m ((c.tc : Thread nD τ).loc main_arg1)) (m ((c.tc : Thread nD τ).loc main_arg2))) 1024 slices_S16384x3840_S16384x256_0_1024)
      ∧ r.2.mem ((c.tc : Thread nD τ).loc main_v95) = paired (part (prod (m ((c.tc : Thread nD τ).loc main_arg0)) (m ((c.tc : Thread nD τ).loc main_arg1)) (m ((c.tc : Thread nD τ).loc main_arg2))) 1280 slices_S16384x3840_S16384x256_0_1280) (m ((c.tc : Thread nD τ).loc main_arg4))
      ∧ r.2.mem ((c.tc : Thread nD τ).loc main_v128) = paired (part (prod (m ((c.tc : Thread nD τ).loc main_arg0)) (m ((c.tc : Thread nD τ).loc main_arg1)) (m ((c.tc : Thread nD τ).loc main_arg2))) 1536 slices_S16384x3840_S16384x256_0_1536) (m ((c.tc : Thread nD τ).loc main_arg4))
      ∧ r.2.mem ((c.tc : Thread nD τ).loc main_v149) = gate (prod (m ((c.tc : Thread nD τ).loc main_arg0)) (m ((c.tc : Thread nD τ).loc main_arg1)) (m ((c.tc : Thread nD τ).loc main_arg2)))
      ∧ r.2.mem ((c.tc : Thread nD τ).loc main_v25) = (part (prod (m ((c.tc : Thread nD τ).loc main_arg0)) (m ((c.tc : Thread nD τ).loc main_arg1)) (m ((c.tc : Thread nD τ).loc main_arg2))) 2560 slices_S16384x3840_S16384x256_0_2560)
      ∧ r.2.mem ((c.tc : Thread nD τ).loc main_v150) = mulf (part (prod (m ((c.tc : Thread nD τ).loc main_arg0)) (m ((c.tc : Thread nD τ).loc main_arg1)) (m ((c.tc : Thread nD τ).loc main_arg2))) 2816 slices_S16384x3840_S16384x256_0_2816) (part (prod (m ((c.tc : Thread nD τ).loc main_arg0)) (m ((c.tc : Thread nD τ).loc main_arg1)) (m ((c.tc : Thread nD τ).loc main_arg2))) 3072 slices_S16384x3840_S16384x256_0_3072)
      ∧ r.2.mem ((c.tc : Thread nD τ).loc main_v157) = gated (part (prod (m ((c.tc : Thread nD τ).loc main_arg0)) (m ((c.tc : Thread nD τ).loc main_arg1)) (m ((c.tc : Thread nD τ).loc main_arg2))) 3328 slices_S16384x3840_S16384x256_0_3328) (part (prod (m ((c.tc : Thread nD τ).loc main_arg0)) (m ((c.tc : Thread nD τ).loc main_arg1)) (m ((c.tc : Thread nD τ).loc main_arg2))) 3584 slices_S16384x3840_S16384x256_0_3584)
      ∧ r.2.mem ((c.tc : Thread nD τ).loc main_v161) = store512 (extractStridedSlice S16384x512 ![0, 256] (prod (m ((c.tc : Thread nD τ).loc main_arg0)) (m ((c.tc : Thread nD τ).loc main_arg1)) (m ((c.tc : Thread nD τ).loc main_arg2))) slices_S16384x3840_S16384x512_0_256) (m ((c.tc : Thread nD τ).loc main_arg5))
      ∧ r.2.mem ((c.tc : Thread nD τ).loc main_v165) = store256 (part (prod (m ((c.tc : Thread nD τ).loc main_arg0)) (m ((c.tc : Thread nD τ).loc main_arg1)) (m ((c.tc : Thread nD τ).loc main_arg2))) 1024 slices_S16384x3840_S16384x256_0_1024) (m ((c.tc : Thread nD τ).loc main_arg6))
      ∧ r.2.mem ((c.tc : Thread nD τ).loc main_v169) = store256 (paired (part (prod (m ((c.tc : Thread nD τ).loc main_arg0)) (m ((c.tc : Thread nD τ).loc main_arg1)) (m ((c.tc : Thread nD τ).loc main_arg2))) 1280 slices_S16384x3840_S16384x256_0_1280) (m ((c.tc : Thread nD τ).loc main_arg4))) (m ((c.tc : Thread nD τ).loc main_arg7))
      ∧ r.2.mem ((c.tc : Thread nD τ).loc main_v174) = storeLast (paired (part (prod (m ((c.tc : Thread nD τ).loc main_arg0)) (m ((c.tc : Thread nD τ).loc main_arg1)) (m ((c.tc : Thread nD τ).loc main_arg2))) 1536 slices_S16384x3840_S16384x256_0_1536) (m ((c.tc : Thread nD τ).loc main_arg4))) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => h c) (run (F := F) m ρ)

end Cert.Reference4Ideal.Steps

end
-- ==== Proof.Proj.Rows.lean ====
module

public import proofs.«01_k».proof.Proof.Proj.Steps
public import Idealize.ShloMosaic.Lib.Pointwise

/-!
The reference's projections at an index, as the plain mathematics of the rows.
-/

@[expose] public section

set_option maxRecDepth 16384
noncomputable section
open Idealize.ShloMosaic Idealize.ShloMosaic.TcCoe Idealize.SL.Sem
namespace Cert.Reference4Ideal.Steps
open Cert.Reference4Ideal Cert.Reference4Ideal.Gen Cert.Proj

/-- A row's projected columns. -/
def row (x : FVec Ideal S16384x1024 .f32) (g : FVec Ideal S4x1024 .f32) (W : FVec Ideal S4x1024x3840 .f32) (n : Fin 16384) : ℕ → EReal :=
  cols (fun k => x (ix2 n k)) (fun k => g (ix2 (0 : Fin 4) k)) (fun k j => W (ix3 (0 : Fin 4) k j))

/-- A head's gains. -/
def gain (q : FVec Ideal S4x64 .f32) (j : ℕ) : EReal := q (ix2 (0 : Fin 4) (⟨j % 64, by omega⟩ : Fin 64))

theorem prod_apply (x : FVec Ideal S16384x1024 .f32) (g : FVec Ideal S4x1024 .f32) (W : FVec Ideal S4x1024x3840 .f32) (n : Fin 16384) (j : Fin 3840) :
    prod (F := Ideal) x g W (ix2 n j) = row x g W n j.val := by
  unfold row cols
  rw [dif_pos j.isLt]
  pointwise [prod]
  rfl

theorem angles_apply (t : Fin 2048) (j : Fin 32) : angles (F := Ideal) (ix2 t j) = angle t.val j.val := by
  pointwise [angles]
  rfl

theorem cosT_apply (t : Fin 2048) (j : Fin 32) : cosT (F := Ideal) (ix4 (0 : Fin 1) t (0 : Fin 1) j) = cosOf t.val j.val := by
  unfold cosOf
  rw [← angles_apply]
  unfold cosT
  generalize angles (F := Ideal) = A
  pointwise

theorem sinT_apply (t : Fin 2048) (j : Fin 32) : sinT (F := Ideal) (ix4 (0 : Fin 1) t (0 : Fin 1) j) = sinOf t.val j.val := by
  unfold sinOf
  rw [← angles_apply]
  unfold sinT
  generalize angles (F := Ideal) = A
  pointwise

theorem at_lt (b : Fin 8) (s : Fin 2048) : b.val * 2048 + s.val < 16384 := by omega

/-- The row of a sequence and a place. -/
def at_ (b : Fin 8) (s : Fin 2048) : Fin 16384 := ⟨b.val * 2048 + s.val, at_lt b s⟩

theorem heads4_apply (P : FVec Ideal S16384x3840 .f32) (b : Fin 8) (s : Fin 2048) (h : Fin 4) (d : Fin 64) :
    heads4 (F := Ideal) P (ix4 b s h d) = P (ix2 (at_ b s) (⟨768 + (64 * h.val + d.val), by omega⟩ : Fin 3840)) := by
  pointwise [heads4]
  refine congrArg (fun z => P (ix2 (at_ b s) z)) (Fin.ext ?_)
  show 768 + (h.val * 64 + d.val) = 768 + (64 * h.val + d.val)
  omega

theorem heads2_apply (X : FVec Ideal S16384x256 .f32) (b : Fin 8) (s : Fin 2048) (h : Fin 2) (d : Fin 64) :
    heads2 (F := Ideal) X (ix4 b s h d) = X (ix2 (at_ b s) (⟨64 * h.val + d.val, by omega⟩ : Fin 256)) := by
  pointwise [heads2]
  refine congrArg (fun z => X (ix2 (at_ b s) z)) (Fin.ext ?_)
  show h.val * 64 + d.val = 64 * h.val + d.val
  omega

theorem normed4_apply (a : FVec Ideal S8x2048x4x64 .f32) (q : FVec Ideal S4x64 .f32) (b : Fin 8) (s : Fin 2048) (h : Fin 4) (d : Fin 64) :
    normed4 (F := Ideal) a q (ix4 b s h d) = a (ix4 b s h d)
      * Ideal.rsqrt (Ideal.div (∑ e : Fin 64, a (ix4 b s h e) * a (ix4 b s h e)) (Ideal.ofBits .f32 0x42800000#32) + Ideal.ofBits .f32 0x358637BD#32)
      * q (ix2 (0 : Fin 4) d) := by
  pointwise [normed4]

theorem normed2_apply (a : FVec Ideal S8x2048x2x64 .f32) (q : FVec Ideal S4x64 .f32) (b : Fin 8) (s : Fin 2048) (h : Fin 2) (d : Fin 64) :
    normed2 (F := Ideal) a q (ix4 b s h d) = a (ix4 b s h d)
      * Ideal.rsqrt (Ideal.div (∑ e : Fin 64, a (ix4 b s h e) * a (ix4 b s h e)) (Ideal.ofBits .f32 0x42800000#32) + Ideal.ofBits .f32 0x358637BD#32)
      * q (ix2 (0 : Fin 4) d) := by
  pointwise [normed2]

theorem turned4_apply (a : FVec Ideal S8x2048x4x64 .f32) (b : Fin 8) (s : Fin 2048) (h : Fin 4) (d : Fin 64) :
    turned4 (F := Ideal) (first4 a) (second4 a) (ix4 b s h d) = if h' : d.val < 32 then
      a (ix4 b s h d) * cosOf s.val d.val - a (ix4 b s h (⟨d.val + 32, by omega⟩ : Fin 64)) * sinOf s.val d.val
      else a (ix4 b s h d) * cosOf s.val (d.val - 32) + a (ix4 b s h (⟨d.val - 32, by omega⟩ : Fin 64)) * sinOf s.val (d.val - 32) := by
  have hc := fun j => cosT_apply s j
  have hs := fun j => sinT_apply s j
  unfold turned4
  revert hc hs
  generalize cosT (F := Ideal) = C
  generalize sinT (F := Ideal) = S
  intro hc hs
  pointwise [first4, second4]
  by_cases hd : d.val < 32
  · rw [dif_pos hd, dif_pos hd, hc, hs]
    refine congrArg (fun z => a (ix4 b s h d) * cosOf s.val d.val - a (ix4 b s h z) * sinOf s.val d.val) (Fin.ext ?_)
    show 32 + d.val = d.val + 32
    omega
  · rw [dif_neg hd, dif_neg hd, hc, hs]
    refine congrArg (fun z => a (ix4 b s h z) * cosOf s.val (d.val - 32) + a (ix4 b s h (⟨d.val - 32, by omega⟩ : Fin 64)) * sinOf s.val (d.val - 32)) (Fin.ext ?_)
    show 32 + (d.val - 32) = _
    omega

theorem turned2_apply (a : FVec Ideal S8x2048x2x64 .f32) (b : Fin 8) (s : Fin 2048) (h : Fin 2) (d : Fin 64) :
    turned2 (F := Ideal) (first2 a) (second2 a) (ix4 b s h d) = if h' : d.val < 32 then
      a (ix4 b s h d) * cosOf s.val d.val - a (ix4 b s h (⟨d.val + 32, by omega⟩ : Fin 64)) * sinOf s.val d.val
      else a (ix4 b s h d) * cosOf s.val (d.val - 32) + a (ix4 b s h (⟨d.val - 32, by omega⟩ : Fin 64)) * sinOf s.val (d.val - 32) := by
  have hc := fun j => cosT_apply s j
  have hs := fun j => sinT_apply s j
  unfold turned2
  revert hc hs
  generalize cosT (F := Ideal) = C
  generalize sinT (F := Ideal) = S
  intro hc hs
  pointwise [first2, second2]
  by_cases hd : d.val < 32
  · rw [dif_pos hd, dif_pos hd, hc, hs]
    refine congrArg (fun z => a (ix4 b s h d) * cosOf s.val d.val - a (ix4 b s h z) * sinOf s.val d.val) (Fin.ext ?_)
    show 32 + d.val = d.val + 32
    omega
  · rw [dif_neg hd, dif_neg hd, hc, hs]
    refine congrArg (fun z => a (ix4 b s h z) * cosOf s.val (d.val - 32) + a (ix4 b s h (⟨d.val - 32, by omega⟩ : Fin 64)) * sinOf s.val (d.val - 32)) (Fin.ext ?_)
    show 32 + (d.val - 32) = _
    omega

theorem flat4_apply (a : FVec Ideal S8x2048x4x64 .f32) (b : Fin 8) (s : Fin 2048) (j : Fin 256) :
    flat4 (F := Ideal) a (ix2 (at_ b s) j) = a (ix4 b s (⟨j.val / 64, by omega⟩ : Fin 4) (⟨j.val % 64, by omega⟩ : Fin 64)) := by
  pointwise [flat4]
  have e1 : (⟨(at_ b s).val / 2048, by have := (at_ b s).isLt; omega⟩ : Fin 8) = b := by
    apply Fin.ext
    show (b.val * 2048 + s.val) / 2048 = b.val
    omega
  have e2 : (⟨(at_ b s).val % 2048, by omega⟩ : Fin 2048) = s := by
    apply Fin.ext
    show (b.val * 2048 + s.val) % 2048 = s.val
    omega
  rw [e1, e2]

theorem joined_apply (X : FVec Ideal S16384x256 .f32) (T : FVec Ideal S8x2048x2x64 .f32) (b : Fin 8) (s : Fin 2048) (j : Fin 256) :
    joined (F := Ideal) X T (ix2 (at_ b s) j) = if h : j.val < 128 then T (ix4 b s (⟨j.val / 64, by omega⟩ : Fin 2) (⟨j.val % 64, by omega⟩ : Fin 64))
      else X (ix2 (at_ b s) j) := by
  pointwise [joined]
  have e1 : (⟨(at_ b s).val / 2048, by have := (at_ b s).isLt; omega⟩ : Fin 8) = b := by
    apply Fin.ext
    show (b.val * 2048 + s.val) / 2048 = b.val
    omega
  have e2 : (⟨(at_ b s).val % 2048, by omega⟩ : Fin 2048) = s := by
    apply Fin.ext
    show (b.val * 2048 + s.val) % 2048 = s.val
    omega
  rw [e1, e2]
  by_cases h : j.val < 128
  · rw [dif_pos h, dif_pos h]
  · rw [dif_neg h, dif_neg h]
    refine congrArg (fun z => X (ix2 (at_ b s) z)) (Fin.ext ?_)
    show 128 + (j.val - 128) = _
    omega

theorem part_apply (P : FVec Ideal S16384x3840 .f32) (n : ℕ) (h) (hn : n + 256 ≤ 3840) (r : Fin 16384) (j : Fin 256) :
    part (F := Ideal) P n h (ix2 r j) = P (ix2 r (⟨n + j.val, by omega⟩ : Fin 3840)) := by
  pointwise [part]

theorem logistic_eq (z : EReal) : Ideal.div 1 (1 + Ideal.exp (-z)) = Ideal.logistic z := by
  rfl

theorem gate_apply (P : FVec Ideal S16384x3840 .f32) (r : Fin 16384) (j : Fin 768) :
    gate (F := Ideal) P (ix2 r j) = Ideal.logistic (P (ix2 r (⟨1792 + j.val, by omega⟩ : Fin 3840))) := by
  pointwise [gate]
  exact logistic_eq _

theorem gated_apply (a z : FVec Ideal S16384x256 .f32) (r : Fin 16384) (j : Fin 256) :
    gated (F := Ideal) a z (ix2 r j) = a (ix2 r j) * Ideal.logistic (z (ix2 r j)) := by
  pointwise [gated]
  exact congrArg (fun z => a (ix2 r j) * z) (logistic_eq _)

theorem store512_apply (a : FVec Ideal S16384x512 .f32) (o : FVec Ideal S4x8x512x2048 .f32) (l : Fin 4) (b : Fin 8) (d : Fin 512) (s : Fin 2048) :
    store512 (F := Ideal) a o (ix4 l b d s) = if l.val = 0 then a (ix2 (at_ b s) d) else o (ix4 l b d s) := by
  pointwise [store512]
  by_cases hl : l.val = 0
  · rw [dif_pos (by omega), if_pos hl]
    rfl
  · rw [dif_neg (by omega), if_neg hl]
    refine congrArg (fun z => o (ix4 z b d s)) (Fin.ext ?_)
    show 1 + (l.val - 1) = _
    omega

theorem store256_apply (a : FVec Ideal S16384x256 .f32) (o : FVec Ideal S4x8x256x2048 .f32) (l : Fin 4) (b : Fin 8) (d : Fin 256) (s : Fin 2048) :
    store256 (F := Ideal) a o (ix4 l b d s) = if l.val = 0 then a (ix2 (at_ b s) d) else o (ix4 l b d s) := by
  pointwise [store256]
  by_cases hl : l.val = 0
  · rw [dif_pos (by omega), if_pos hl]
    rfl
  · rw [dif_neg (by omega), if_neg hl]
    refine congrArg (fun z => o (ix4 z b d s)) (Fin.ext ?_)
    show 1 + (l.val - 1) = _
    omega

theorem storeLast_apply (a : FVec Ideal S16384x256 .f32) (o : FVec Ideal S4x8x256x512 .f32) (l : Fin 4) (b : Fin 8) (d : Fin 256) (s : Fin 512) :
    storeLast (F := Ideal) a o (ix4 l b d s) = if l.val = 0 then a (ix2 (at_ b (⟨1536 + s.val, by omega⟩ : Fin 2048)) d) else o (ix4 l b d s) := by
  pointwise [storeLast]
  by_cases hl : l.val = 0
  · rw [dif_pos (by omega), if_pos hl]
    rfl
  · rw [dif_neg (by omega), if_neg hl]
    refine congrArg (fun z => o (ix4 z b d s)) (Fin.ext ?_)
    show 1 + (l.val - 1) = _
    omega

theorem head_at (u G : ℕ → EReal) (h d : ℕ) (hd : d < 64) : head u G (64 * h + d)
    = u (64 * h + d) * Ideal.rsqrt (Ideal.div (∑ e : Fin 64, u (64 * h + e.val) * u (64 * h + e.val)) (Ideal.ofBits .f32 0x42800000#32) + Ideal.ofBits .f32 0x358637BD#32) * G d := by
  have e1 : (64 * h + d) / 64 = h := by omega
  have e2 : (64 * h + d) % 64 = d := by omega
  unfold head power
  rw [e1, e2]

theorem turned_at (u C S : ℕ → EReal) (h d : ℕ) (hd : d < 64) : turned u C S (64 * h + d) = if d < 32 then
    u (64 * h + d) * C d - u (64 * h + (d + 32)) * S d else u (64 * h + d) * C (d - 32) + u (64 * h + (d - 32)) * S (d - 32) := by
  have e2 : (64 * h + d) % 64 = d := by omega
  unfold turned
  rw [e2]
  by_cases h' : d < 32
  · have e3 : (64 * h + d) % 32 = d := by omega
    rw [if_pos h', if_pos h', e3, Nat.add_assoc]
  · have e3 : (64 * h + d) % 32 = d - 32 := by omega
    have e4 : 64 * h + d - 32 = 64 * h + (d - 32) := by omega
    rw [if_neg h', if_neg h', e3, e4]

theorem gain_at (q : FVec Ideal S4x64 .f32) (d : Fin 64) : q (ix2 (0 : Fin 4) d) = gain q d.val :=
  congrArg (fun z => q (ix2 (0 : Fin 4) z)) (Fin.ext (Nat.mod_eq_of_lt d.isLt).symm)

theorem normed4_row (a : FVec Ideal S8x2048x4x64 .f32) (q : FVec Ideal S4x64 .f32) (b : Fin 8) (s : Fin 2048) (u : ℕ → EReal)
    (ha : ∀ (h : Fin 4) (d : Fin 64), a (ix4 b s h d) = u (64 * h.val + d.val)) (h : Fin 4) (d : Fin 64) :
    normed4 (F := Ideal) a q (ix4 b s h d) = head u (gain q) (64 * h.val + d.val) := by
  rw [normed4_apply, head_at u _ _ _ d.isLt, gain_at q]
  simp only [ha]

theorem normed2_row (a : FVec Ideal S8x2048x2x64 .f32) (q : FVec Ideal S4x64 .f32) (b : Fin 8) (s : Fin 2048) (u : ℕ → EReal)
    (ha : ∀ (h : Fin 2) (d : Fin 64), a (ix4 b s h d) = u (64 * h.val + d.val)) (h : Fin 2) (d : Fin 64) :
    normed2 (F := Ideal) a q (ix4 b s h d) = head u (gain q) (64 * h.val + d.val) := by
  rw [normed2_apply, head_at u _ _ _ d.isLt, gain_at q]
  simp only [ha]

theorem turned4_row (a : FVec Ideal S8x2048x4x64 .f32) (b : Fin 8) (s : Fin 2048) (u : ℕ → EReal)
    (ha : ∀ (h : Fin 4) (d : Fin 64), a (ix4 b s h d) = u (64 * h.val + d.val)) (h : Fin 4) (d : Fin 64) :
    turned4 (F := Ideal) (first4 a) (second4 a) (ix4 b s h d) = turned u (cosOf s.val) (sinOf s.val) (64 * h.val + d.val) := by
  rw [turned4_apply, turned_at u _ _ _ _ d.isLt]
  simp only [ha]
  by_cases h' : d.val < 32
  · rw [dif_pos h', if_pos h']
  · rw [dif_neg h', if_neg h']

theorem turned2_row (a : FVec Ideal S8x2048x2x64 .f32) (b : Fin 8) (s : Fin 2048) (u : ℕ → EReal)
    (ha : ∀ (h : Fin 2) (d : Fin 64), a (ix4 b s h d) = u (64 * h.val + d.val)) (h : Fin 2) (d : Fin 64) :
    turned2 (F := Ideal) (first2 a) (second2 a) (ix4 b s h d) = turned u (cosOf s.val) (sinOf s.val) (64 * h.val + d.val) := by
  rw [turned2_apply, turned_at u _ _ _ _ d.isLt]
  simp only [ha]
  by_cases h' : d.val < 32
  · rw [dif_pos h', if_pos h']
  · rw [dif_neg h', if_neg h']

variable (P : FVec Ideal S16384x3840 .f32) (v : Fin 16384 → ℕ → EReal) (hP : ∀ (n : Fin 16384) (j : Fin 3840), P (ix2 n j) = v n j.val)
include hP

theorem qn_row (q : FVec Ideal S4x64 .f32) (b : Fin 8) (s : Fin 2048) (j : Fin 256) :
    flat4 (F := Ideal) (normed4 (heads4 P) q) (ix2 (at_ b s) j) = head (after (v (at_ b s)) 768) (gain q) j.val := by
  rw [flat4_apply, normed4_row _ _ b s (after (v (at_ b s)) 768) (fun h d => (heads4_apply P b s h d).trans (hP _ _))]
  exact congrArg _ (Nat.div_add_mod j.val 64)

theorem qr_row (q : FVec Ideal S4x64 .f32) (b : Fin 8) (s : Fin 2048) (j : Fin 256) :
    flat4 (F := Ideal) (turned4 (first4 (normed4 (heads4 P) q)) (second4 (normed4 (heads4 P) q))) (ix2 (at_ b s) j)
      = turned (head (after (v (at_ b s)) 768) (gain q)) (cosOf s.val) (sinOf s.val) j.val := by
  rw [flat4_apply, turned4_row _ b s _ (normed4_row _ _ b s (after (v (at_ b s)) 768) (fun h d => (heads4_apply P b s h d).trans (hP _ _)))]
  exact congrArg _ (Nat.div_add_mod j.val 64)

theorem kv_row (k : FVec Ideal S4x64 .f32) (n : ℕ) (hs) (hn : n + 256 ≤ 3840) (b : Fin 8) (s : Fin 2048) (j : Fin 256) :
    paired (F := Ideal) (part P n hs) k (ix2 (at_ b s) j)
      = pair (after (v (at_ b s)) n) (gain k) (cosOf s.val) (sinOf s.val) j.val := by
  have hX : ∀ j : Fin 256, part (F := Ideal) P n hs (ix2 (at_ b s) j) = after (v (at_ b s)) n j.val :=
    fun j => (part_apply P n hs hn (at_ b s) j).trans (hP _ _)
  unfold paired pair
  rw [joined_apply]
  by_cases h : j.val < 128
  · rw [dif_pos h, if_pos h, turned2_row _ b s _ (normed2_row _ _ b s (after (v (at_ b s)) n) (fun h d => (heads2_apply _ b s h d).trans (hX _)))]
    exact congrArg _ (Nat.div_add_mod j.val 64)
  · rw [dif_neg h, if_neg h, hX]

end Cert.Reference4Ideal.Steps

end
-- ==== Proof.Proj.Meet.lean ====
module

public import proofs.«01_k».proof.Proof.Proj.Stored
public import proofs.«01_k».proof.Proof.Proj.Rows

/-!
The projection kernel's result arrays as the reference's.
-/

@[expose] public section

set_option maxRecDepth 16384
noncomputable section
open Idealize.ShloMosaic Idealize.ShloMosaic.TcCoe Idealize.SL.Sem
namespace Cert.Proj.Meet
open Cert.Kernel4Ideal.Tile (rows256 rows512 rows768 stored512 stored256 storedLast)
open Cert.Reference4Ideal Cert.Reference4Ideal.Gen Cert.Reference4Ideal.Steps

theorem split_row (n : Fin 16384) : ∃ (b : Fin 8) (s : Fin 2048), n = at_ b s :=
  ⟨⟨n.val / 2048, by omega⟩, ⟨n.val % 2048, by omega⟩, Fin.ext (by show n.val = n.val / 2048 * 2048 + n.val % 2048; omega)⟩

theorem place (b : Fin 8) (s : Fin 2048) : (at_ b s).val % 2048 = s.val := by
  show (b.val * 2048 + s.val) % 2048 = s.val
  omega

theorem meet256 (A : FVec Ideal S16384x256 .f32) (f : Fin 16384 → ℕ → EReal) (h : ∀ (n : Fin 16384) (j : Fin 256), A (ix2 n j) = f n j.val) :
    rows256 f = A := by
  funext y
  obtain ⟨n, j, rfl⟩ : ∃ (n : Fin 16384) (j : Fin 256), y = ix2 n j := ⟨y 0, y 1, eq_ix2 y⟩
  exact (h n j).symm

theorem meet512 (A : FVec Ideal S16384x512 .f32) (f : Fin 16384 → ℕ → EReal) (h : ∀ (n : Fin 16384) (j : Fin 512), A (ix2 n j) = f n j.val) :
    rows512 f = A := by
  funext y
  obtain ⟨n, j, rfl⟩ : ∃ (n : Fin 16384) (j : Fin 512), y = ix2 n j := ⟨y 0, y 1, eq_ix2 y⟩
  exact (h n j).symm

theorem meet768 (A : FVec Ideal S16384x768 .f32) (f : Fin 16384 → ℕ → EReal) (h : ∀ (n : Fin 16384) (j : Fin 768), A (ix2 n j) = f n j.val) :
    rows768 f = A := by
  funext y
  obtain ⟨n, j, rfl⟩ : ∃ (n : Fin 16384) (j : Fin 768), y = ix2 n j := ⟨y 0, y 1, eq_ix2 y⟩
  exact (h n j).symm

theorem kept512 (A : FVec Ideal S16384x512 .f32) (f : Fin 16384 → ℕ → EReal) (o : FVec Ideal S4x8x512x2048 .f32)
    (h : ∀ (n : Fin 16384) (j : Fin 512), A (ix2 n j) = f n j.val) : stored512 f o = store512 (F := Ideal) A o := by
  funext y
  obtain ⟨l, b, d, s, rfl⟩ : ∃ (l : Fin 4) (b : Fin 8) (d : Fin 512) (s : Fin 2048), y = ix4 l b d s := ⟨y 0, y 1, y 2, y 3, eq_ix4 y⟩
  rw [store512_apply, h]
  rfl

theorem kept256 (A : FVec Ideal S16384x256 .f32) (f : Fin 16384 → ℕ → EReal) (o : FVec Ideal S4x8x256x2048 .f32)
    (h : ∀ (n : Fin 16384) (j : Fin 256), A (ix2 n j) = f n j.val) : stored256 f o = store256 (F := Ideal) A o := by
  funext y
  obtain ⟨l, b, d, s, rfl⟩ : ∃ (l : Fin 4) (b : Fin 8) (d : Fin 256) (s : Fin 2048), y = ix4 l b d s := ⟨y 0, y 1, y 2, y 3, eq_ix4 y⟩
  rw [store256_apply, h]
  rfl

theorem keptLast (A : FVec Ideal S16384x256 .f32) (f : Fin 16384 → ℕ → EReal) (o : FVec Ideal S4x8x256x512 .f32)
    (h : ∀ (n : Fin 16384) (j : Fin 256), A (ix2 n j) = f n j.val) : storedLast f o = storeLast (F := Ideal) A o := by
  funext y
  obtain ⟨l, b, d, s, rfl⟩ : ∃ (l : Fin 4) (b : Fin 8) (d : Fin 256) (s : Fin 512), y = ix4 l b d s := ⟨y 0, y 1, y 2, y 3, eq_ix4 y⟩
  rw [storeLast_apply, h]
  have e : at_ b (⟨1536 + s.val, by omega⟩ : Fin 2048) = (⟨b.val * 2048 + 1536 + s.val, Cert.Kernel4Ideal.Tile.last_lt b s⟩ : Fin 16384) :=
    Fin.ext (by show b.val * 2048 + (1536 + s.val) = b.val * 2048 + 1536 + s.val; omega)
  rw [e]
  rfl

section rows
variable (P : FVec Ideal S16384x3840 .f32) (v : Fin 16384 → ℕ → EReal) (hP : ∀ (n : Fin 16384) (j : Fin 3840), P (ix2 n j) = v n j.val)
include hP

theorem part_rows (n : ℕ) (hs) (hn : n + 256 ≤ 3840) (r : Fin 16384) (j : Fin 256) :
    part (F := Ideal) P n hs (ix2 r j) = v r (n + j.val) :=
  (part_apply P n hs hn r j).trans (hP _ _)

theorem first_rows (hs) (r : Fin 16384) (j : Fin 256) : part (F := Ideal) P 0 hs (ix2 r j) = v r j.val :=
  (part_rows P v hP 0 hs (by omega) r j).trans (congrArg (v r) (Nat.zero_add _))

theorem wide_rows (hs) (r : Fin 16384) (j : Fin 512) : (extractStridedSlice S16384x512 ![0, 256] P hs) (ix2 r j) = v r (256 + j.val) := by
  rw [← hP r (⟨256 + j.val, by omega⟩ : Fin 3840)]
  pointwise

theorem qn_rows (q : FVec Ideal S4x64 .f32) (r : Fin 16384) (j : Fin 256) :
    flat4 (F := Ideal) (normed4 (heads4 P) q) (ix2 r j) = head (after (v r) 768) (gain q) j.val := by
  obtain ⟨b, s, rfl⟩ := split_row r
  exact qn_row P v hP q b s j

theorem qr_rows (q : FVec Ideal S4x64 .f32) (r : Fin 16384) (j : Fin 256) :
    flat4 (F := Ideal) (turned4 (first4 (normed4 (heads4 P) q)) (second4 (normed4 (heads4 P) q))) (ix2 r j)
      = turned (head (after (v r) 768) (gain q)) (cosOf (r.val % 2048)) (sinOf (r.val % 2048)) j.val := by
  obtain ⟨b, s, rfl⟩ := split_row r
  rw [place]
  exact qr_row P v hP q b s j

theorem kv_rows (k : FVec Ideal S4x64 .f32) (n : ℕ) (hs) (hn : n + 256 ≤ 3840) (r : Fin 16384) (j : Fin 256) :
    paired (F := Ideal) (part P n hs) k (ix2 r j)
      = pair (after (v r) n) (gain k) (cosOf (r.val % 2048)) (sinOf (r.val % 2048)) j.val := by
  obtain ⟨b, s, rfl⟩ := split_row r
  rw [place]
  exact kv_row P v hP k n hs hn b s j

theorem gate_rows (r : Fin 16384) (j : Fin 768) : gate (F := Ideal) P (ix2 r j) = Ideal.logistic (v r (1792 + j.val)) :=
  (gate_apply P r j).trans (congrArg Ideal.logistic (hP _ _))

theorem twice_rows (h1 h2) (r : Fin 16384) (j : Fin 256) :
    mulf (part (F := Ideal) P 2816 h1) (part P 3072 h2) (ix2 r j) = v r (2816 + j.val) * v r (3072 + j.val) :=
  congrArg₂ (· * ·) (part_rows P v hP 2816 h1 (by omega) r j) (part_rows P v hP 3072 h2 (by omega) r j)

theorem gated_rows (h1 h2) (r : Fin 16384) (j : Fin 256) :
    gated (F := Ideal) (part P 3328 h1) (part P 3584 h2) (ix2 r j) = v r (3328 + j.val) * Ideal.logistic (v r (3584 + j.val)) := by
  rw [gated_apply, part_rows P v hP 3328 h1 (by omega), part_rows P v hP 3584 h2 (by omega)]

end rows

variable (m : (ℓ : Loc Kernel4Ideal.nD Kernel4Ideal.τ Kernel4Ideal.sig) → Buf (Elt Ideal) ℓ) (c : Dev Kernel4Ideal.nD)

/-- The projected rows, from what a core's arguments hold. -/
def prodM : FVec Ideal S16384x3840 .f32 := prod (F := Ideal) (m ((c : Thread Kernel4Ideal.nD Kernel4Ideal.τ).loc Kernel4Ideal.main_arg0)) (m ((c : Thread Kernel4Ideal.nD Kernel4Ideal.τ).loc Kernel4Ideal.main_arg1)) (m ((c : Thread Kernel4Ideal.nD Kernel4Ideal.τ).loc Kernel4Ideal.main_arg2))

theorem prodM_apply (n : Fin 16384) (j : Fin 3840) : prodM m c (ix2 n j) = Kernel4Ideal.Tile.rowM m c n j.val :=
  prod_apply _ _ _ n j

theorem same8 : (Kernel4Ideal.Gen.dats m 0 c).arrAt 8 Kernel4Ideal.cfg0.N
    = part (F := Ideal) (prodM m c) 0 slices_S16384x3840_S16384x256_0_0 :=
  (Kernel4Ideal.Tile.arr8 m c).trans (meet256 _ _ (first_rows (prodM m c) _ (prodM_apply m c) _))

theorem same9 : (Kernel4Ideal.Gen.dats m 0 c).arrAt 9 Kernel4Ideal.cfg0.N
    = (extractStridedSlice S16384x512 ![0, 256] (prodM m c) slices_S16384x3840_S16384x512_0_256) :=
  (Kernel4Ideal.Tile.arr9 m c).trans (meet512 _ _ (wide_rows (prodM m c) _ (prodM_apply m c) _))

theorem same10 (hr : Kernel4Ideal.Tile.Real_ m c) : (Kernel4Ideal.Gen.dats m 0 c).arrAt 10 Kernel4Ideal.cfg0.N
    = flat4 (F := Ideal) (normed4 (heads4 (prodM m c)) (m ((c : Thread Kernel4Ideal.nD Kernel4Ideal.τ).loc Kernel4Ideal.main_arg3))) :=
  (Kernel4Ideal.Tile.arr10 m c hr).trans (meet256 _ _ (qn_rows (prodM m c) _ (prodM_apply m c) (m ((c : Thread Kernel4Ideal.nD Kernel4Ideal.τ).loc Kernel4Ideal.main_arg3))))

theorem same11 (hr : Kernel4Ideal.Tile.Real_ m c) : (Kernel4Ideal.Gen.dats m 0 c).arrAt 11 Kernel4Ideal.cfg0.N
    = flat4 (F := Ideal) (turned4 (first4 (normed4 (heads4 (prodM m c)) (m ((c : Thread Kernel4Ideal.nD Kernel4Ideal.τ).loc Kernel4Ideal.main_arg3)))) (second4 (normed4 (heads4 (prodM m c)) (m ((c : Thread Kernel4Ideal.nD Kernel4Ideal.τ).loc Kernel4Ideal.main_arg3))))) :=
  (Kernel4Ideal.Tile.arr11 m c hr).trans (meet256 _ _ (qr_rows (prodM m c) _ (prodM_apply m c) (m ((c : Thread Kernel4Ideal.nD Kernel4Ideal.τ).loc Kernel4Ideal.main_arg3))))

theorem same12 : (Kernel4Ideal.Gen.dats m 0 c).arrAt 12 Kernel4Ideal.cfg0.N
    = (part (F := Ideal) (prodM m c) 1024 slices_S16384x3840_S16384x256_0_1024) :=
  (Kernel4Ideal.Tile.arr12 m c).trans (meet256 _ _ (part_rows (prodM m c) _ (prodM_apply m c) 1024 _ (by omega)))

theorem same13 (hr : Kernel4Ideal.Tile.Real_ m c) : (Kernel4Ideal.Gen.dats m 0 c).arrAt 13 Kernel4Ideal.cfg0.N
    = (paired (F := Ideal) (part (F := Ideal) (prodM m c) 1280 slices_S16384x3840_S16384x256_0_1280) (m ((c : Thread Kernel4Ideal.nD Kernel4Ideal.τ).loc Kernel4Ideal.main_arg4))) :=
  (Kernel4Ideal.Tile.arr13 m c hr).trans (meet256 _ _ (kv_rows (prodM m c) _ (prodM_apply m c) (m ((c : Thread Kernel4Ideal.nD Kernel4Ideal.τ).loc Kernel4Ideal.main_arg4)) 1280 _ (by omega)))

theorem same14 (hr : Kernel4Ideal.Tile.Real_ m c) : (Kernel4Ideal.Gen.dats m 0 c).arrAt 14 Kernel4Ideal.cfg0.N
    = (paired (F := Ideal) (part (F := Ideal) (prodM m c) 1536 slices_S16384x3840_S16384x256_0_1536) (m ((c : Thread Kernel4Ideal.nD Kernel4Ideal.τ).loc Kernel4Ideal.main_arg4))) :=
  (Kernel4Ideal.Tile.arr14 m c hr).trans (meet256 _ _ (kv_rows (prodM m c) _ (prodM_apply m c) (m ((c : Thread Kernel4Ideal.nD Kernel4Ideal.τ).loc Kernel4Ideal.main_arg4)) 1536 _ (by omega)))

theorem same15 : (Kernel4Ideal.Gen.dats m 0 c).arrAt 15 Kernel4Ideal.cfg0.N
    = gate (F := Ideal) (prodM m c) :=
  (Kernel4Ideal.Tile.arr15 m c).trans (meet768 _ _ (gate_rows (prodM m c) _ (prodM_apply m c)))

theorem same16 : (Kernel4Ideal.Gen.dats m 0 c).arrAt 16 Kernel4Ideal.cfg0.N
    = (part (F := Ideal) (prodM m c) 2560 slices_S16384x3840_S16384x256_0_2560) :=
  (Kernel4Ideal.Tile.arr16 m c).trans (meet256 _ _ (part_rows (prodM m c) _ (prodM_apply m c) 2560 _ (by omega)))

theorem same17 : (Kernel4Ideal.Gen.dats m 0 c).arrAt 17 Kernel4Ideal.cfg0.N
    = mulf (part (F := Ideal) (prodM m c) 2816 slices_S16384x3840_S16384x256_0_2816) (part (F := Ideal) (prodM m c) 3072 slices_S16384x3840_S16384x256_0_3072) :=
  (Kernel4Ideal.Tile.arr17 m c).trans (meet256 _ _ (twice_rows (prodM m c) _ (prodM_apply m c) _ _))

theorem same18 : (Kernel4Ideal.Gen.dats m 0 c).arrAt 18 Kernel4Ideal.cfg0.N
    = gated (F := Ideal) (part (F := Ideal) (prodM m c) 3328 slices_S16384x3840_S16384x256_0_3328) (part (F := Ideal) (prodM m c) 3584 slices_S16384x3840_S16384x256_0_3584) :=
  (Kernel4Ideal.Tile.arr18 m c).trans (meet256 _ _ (gated_rows (prodM m c) _ (prodM_apply m c) _ _))

theorem same19 : (Kernel4Ideal.Gen.dats m 0 c).arrAt 19 Kernel4Ideal.cfg0.N
    = store512 (F := Ideal) (extractStridedSlice S16384x512 ![0, 256] (prodM m c) slices_S16384x3840_S16384x512_0_256) (m ((c : Thread Kernel4Ideal.nD Kernel4Ideal.τ).loc Kernel4Ideal.main_arg5)) :=
  (Kernel4Ideal.Tile.arr19 m c).trans (kept512 _ _ _ (wide_rows (prodM m c) _ (prodM_apply m c) _))

theorem same20 : (Kernel4Ideal.Gen.dats m 0 c).arrAt 20 Kernel4Ideal.cfg0.N
    = store256 (F := Ideal) (part (F := Ideal) (prodM m c) 1024 slices_S16384x3840_S16384x256_0_1024) (m ((c : Thread Kernel4Ideal.nD Kernel4Ideal.τ).loc Kernel4Ideal.main_arg6)) :=
  (Kernel4Ideal.Tile.arr20 m c).trans (kept256 _ _ _ (part_rows (prodM m c) _ (prodM_apply m c) 1024 _ (by omega)))

theorem same21 (hr : Kernel4Ideal.Tile.Real_ m c) : (Kernel4Ideal.Gen.dats m 0 c).arrAt 21 Kernel4Ideal.cfg0.N
    = store256 (F := Ideal) (paired (F := Ideal) (part (F := Ideal) (prodM m c) 1280 slices_S16384x3840_S16384x256_0_1280) (m ((c : Thread Kernel4Ideal.nD Kernel4Ideal.τ).loc Kernel4Ideal.main_arg4))) (m ((c : Thread Kernel4Ideal.nD Kernel4Ideal.τ).loc Kernel4Ideal.main_arg7)) :=
  (Kernel4Ideal.Tile.arr21 m c hr).trans (kept256 _ _ _ (kv_rows (prodM m c) _ (prodM_apply m c) (m ((c : Thread Kernel4Ideal.nD Kernel4Ideal.τ).loc Kernel4Ideal.main_arg4)) 1280 _ (by omega)))

theorem same22 (hr : Kernel4Ideal.Tile.Real_ m c) : (Kernel4Ideal.Gen.dats m 0 c).arrAt 22 Kernel4Ideal.cfg0.N
    = storeLast (F := Ideal) (paired (F := Ideal) (part (F := Ideal) (prodM m c) 1536 slices_S16384x3840_S16384x256_0_1536) (m ((c : Thread Kernel4Ideal.nD Kernel4Ideal.τ).loc Kernel4Ideal.main_arg4))) (m ((c : Thread Kernel4Ideal.nD Kernel4Ideal.τ).loc Kernel4Ideal.main_arg8)) :=
  (Kernel4Ideal.Tile.arr22 m c hr).trans (keptLast _ _ _ (kv_rows (prodM m c) _ (prodM_apply m c) (m ((c : Thread Kernel4Ideal.nD Kernel4Ideal.τ).loc Kernel4Ideal.main_arg4)) 1536 _ (by omega)))

end Cert.Proj.Meet

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Sb.Meet
public import proofs.«01_k».proof.Proof.Gen.Kernel2.Frame
public import proofs.«01_k».proof.Proof.Ffn.Meet
public import proofs.«01_k».proof.Proof.Gen.Kernel3.Frame
public import proofs.«01_k».proof.Proof.Merge.Meet
public import proofs.«01_k».proof.Proof.Gen.Kernel4.Frame
public import proofs.«01_k».proof.Proof.Gen.Kernel4Ideal.Value
public import proofs.«01_k».proof.Proof.Gen.Reference4Ideal.Run
public import proofs.«01_k».proof.Proof.Proj.Finite
public import proofs.«01_k».proof.Proof.Proj.Meet
public import Idealize.ShloMosaic.Adequacy
public import Idealize.ShloMosaic.Init
public import Idealize.ShloMosaic.Lib.Quiescent

/-!
The proof of the certificate's claims.
-/

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_sb : algebraic_KernelIdeal_ReferenceIdeal_pre_finite_inputs := by
  intro m ρ m' ρ' hp hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Steps.whole_eq, (hagree c).1, (hagree c).2]
  exact (Cert.Meet.arrays m hp c).symm

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_ffn : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  obtain ⟨h0, h1, h2, h3⟩ := hagree c
  rw [(h c).1, Cert.Reference2Ideal.Steps.whole_eq, h0, h1, h2, h3]
  exact (Cert.Ffn.arrays m c).symm

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_merge : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Steps.run_whole (F := Ideal) m' ρ')
  obtain ⟨h0, h1, h2, h3, h4, h5, h6, h7, h8, h9⟩ := hagree c
  rw [(h c).1, h0, h1, h2, h3, h4, h5, h6, h7, h8, h9]
  exact (Cert.Merge.arrays m c).symm

theorem quiescent_Reference4Ideal : quiescent_Reference4Ideal := fun m ρ _ =>
  (θ_run Cert.Reference4Ideal.defs _ _).mono (fun r h => ⟨fun c => (h c).2.2.2.2.2.2.2.2.2.2.2.2.2.2.2, sem_eq_zero_of_no_sems (by decide) r.2⟩)
    (Cert.Reference4Ideal.Value.run (F := Ideal) m ρ)

set_option maxHeartbeats 4000000 in
theorem algebraic_proj : algebraic_Kernel4Ideal_Reference4Ideal_pre_finite_proj := by
  intro m ρ m' ρ' hp hagree
  refine ⟨_, _, _, _, _, _, _, _, _, _, _, _, _, _, _, Cert.Kernel4Ideal.Value.run_blocks (F := Ideal) m ρ, ?_⟩
  refine (θ_run Cert.Reference4Ideal.defs _ _).mono (fun _ h c => ?_) (Cert.Reference4Ideal.Steps.run_whole (F := Ideal) m' ρ')
  obtain ⟨h0, h1, h2, h3, h4, h5, h6, h7, h8⟩ := hagree c
  obtain ⟨r8, r9, r10, r11, r12, r13, r14, r15, r16, r17, r18, r19, r20, r21, r22, kept⟩ := h c
  have hr := Cert.Proj.real_of m hp c
  rw [h0, h1, h2] at r8
  rw [h0, h1, h2] at r9
  rw [h0, h1, h2, h3] at r10
  rw [h0, h1, h2, h3] at r11
  rw [h0, h1, h2] at r12
  rw [h0, h1, h2, h4] at r13
  rw [h0, h1, h2, h4] at r14
  rw [h0, h1, h2] at r15
  rw [h0, h1, h2] at r16
  rw [h0, h1, h2] at r17
  rw [h0, h1, h2] at r18
  rw [h0, h1, h2, h5] at r19
  rw [h0, h1, h2, h6] at r20
  rw [h0, h1, h2, h4, h7] at r21
  rw [h0, h1, h2, h4, h8] at r22
  exact ⟨r8.trans (Cert.Proj.Meet.same8 m c).symm,
    r9.trans (Cert.Proj.Meet.same9 m c).symm,
    r10.trans (Cert.Proj.Meet.same10 m c hr).symm,
    r11.trans (Cert.Proj.Meet.same11 m c hr).symm,
    r12.trans (Cert.Proj.Meet.same12 m c).symm,
    r13.trans (Cert.Proj.Meet.same13 m c hr).symm,
    r14.trans (Cert.Proj.Meet.same14 m c hr).symm,
    r15.trans (Cert.Proj.Meet.same15 m c).symm,
    r16.trans (Cert.Proj.Meet.same16 m c).symm,
    r17.trans (Cert.Proj.Meet.same17 m c).symm,
    r18.trans (Cert.Proj.Meet.same18 m c).symm,
    r19.trans (Cert.Proj.Meet.same19 m c).symm,
    r20.trans (Cert.Proj.Meet.same20 m c).symm,
    r21.trans (Cert.Proj.Meet.same21 m c hr).symm,
    r22.trans (Cert.Proj.Meet.same22 m c hr).symm, kept⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_inputs.facts, Cert.Pre_finite_proj.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, fun m ρ _ => Cert.Kernel4Ideal.Gen.frame m ρ,
  quiescent_Reference4Ideal, fun m ρ _ => quiescent_Reference4Ideal m ρ trivial,
  (trivial : preserves_Kernel_KernelIdeal), algebraic_sb, (trivial : preserves_Kernel2_Kernel2Ideal), algebraic_ffn,
  (trivial : preserves_Kernel3_Kernel3Ideal), algebraic_merge,
  (trivial : preserves_Kernel4_Kernel4Ideal), algebraic_proj⟩

end Cert.Proof

end
